-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_v120) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S8192x7168 : Shape := ⟨2, ![8192, 7168]⟩
abbrev S8192x128 : Shape := ⟨2, ![8192, 128]⟩
abbrev S1x3x1024 : Shape := ⟨3, ![1, 3, 1024]⟩
abbrev S1x8 : Shape := ⟨2, ![1, 8]⟩
abbrev S1x1024 : Shape := ⟨2, ![1, 1024]⟩
abbrev S1x16384x2048 : Shape := ⟨3, ![1, 16384, 2048]⟩
abbrev S1x2048x2048 : Shape := ⟨3, ![1, 2048, 2048]⟩
abbrev S8 : Shape := ⟨1, ![8]⟩
abbrev S8192x8 : Shape := ⟨2, ![8192, 8]⟩
abbrev S8x8192 : Shape := ⟨2, ![8, 8192]⟩
abbrev S3x1024 : Shape := ⟨2, ![3, 1024]⟩
abbrev S_ : Shape := ⟨0, ![]⟩
abbrev S128 : Shape := ⟨1, ![128]⟩
abbrev S1x128 : Shape := ⟨2, ![1, 128]⟩
abbrev S8x1 : Shape := ⟨2, ![8, 1]⟩
abbrev S1024 : Shape := ⟨1, ![1024]⟩
abbrev S16384x2048 : Shape := ⟨2, ![16384, 2048]⟩
abbrev S2048x2048 : Shape := ⟨2, ![2048, 2048]⟩
abbrev S8192x2048 : Shape := ⟨2, ![8192, 2048]⟩
abbrev S128x1024 : Shape := ⟨2, ![128, 1024]⟩
abbrev S128x128 : Shape := ⟨2, ![128, 128]⟩
abbrev S8x128 : Shape := ⟨2, ![8, 128]⟩
abbrev S256x2048 : Shape := ⟨2, ![256, 2048]⟩
abbrev S32x2048 : Shape := ⟨2, ![32, 2048]⟩
abbrev S128x2048 : Shape := ⟨2, ![128, 2048]⟩
abbrev S4x256x384 : Shape := ⟨3, ![4, 256, 384]⟩
abbrev S8x1024 : Shape := ⟨2, ![8, 1024]⟩
abbrev S128x256 : Shape := ⟨2, ![128, 256]⟩
abbrev S128x384 : Shape := ⟨2, ![128, 384]⟩
abbrev S128x1 : Shape := ⟨2, ![128, 1]⟩
abbrev S1x1 : Shape := ⟨2, ![1, 1]⟩
abbrev S1x256x384 : Shape := ⟨3, ![1, 256, 384]⟩
abbrev S256x384 : Shape := ⟨2, ![256, 384]⟩
abbrev S1x256 : Shape := ⟨2, ![1, 256]⟩
abbrev S256x128 : Shape := ⟨2, ![256, 128]⟩

abbrev nBuf : Space → Nat
  | .hbm => 29
  | .vmem => 43
  | .smem => 0
  | _ => 0

abbrev bufTy : (tb : Table) → Fin (tcTables nBuf tb) → BufTy
  | .hbm, ⟨0, _⟩ => ⟨S8192x7168, .f32⟩
  | .hbm, ⟨1, _⟩ => ⟨S8192x128, .f32⟩
  | .hbm, ⟨2, _⟩ => ⟨S1x3x1024, .f32⟩
  | .hbm, ⟨3, _⟩ => ⟨S1x8, .f32⟩
  | .hbm, ⟨4, _⟩ => ⟨S1x1024, .f32⟩
  | .hbm, ⟨5, _⟩ => ⟨S1x16384x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S8, .f32⟩
  | .hbm, ⟨10, _⟩ => ⟨S8192x8, .f32⟩
  | .hbm, ⟨11, _⟩ => ⟨S8x8192, .f32⟩
  | .hbm, ⟨12, _⟩ => ⟨S3x1024, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S8x1, .f32⟩
  | .hbm, ⟨18, _⟩ => ⟨S1024, .f32⟩
  | .hbm, ⟨19, _⟩ => ⟨S1x1024, .f32⟩
  | .hbm, ⟨20, _⟩ => ⟨S16384x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S8192x2048, .bf16⟩
  | .hbm, ⟨25, _⟩ => ⟨S16384x2048, .bf16⟩
  | .hbm, ⟨26, _⟩ => ⟨S2048x2048, .bf16⟩
  | .hbm, ⟨27, _⟩ => ⟨S2048x2048, .bf16⟩
  | .hbm, ⟨28, _⟩ => ⟨S2048x2048, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x128, .f32⟩
  | .local _ .vmem, ⟨15, _⟩ => ⟨S128x128, .f32⟩
  | .local _ .vmem, ⟨16, _⟩ => ⟨S8x128, .f32⟩
  | .local _ .vmem, ⟨17, _⟩ => ⟨S8x128, .f32⟩
  | .local _ .vmem, ⟨18, _⟩ => ⟨S3x1024, .f32⟩
  | .local _ .vmem, ⟨19, _⟩ => ⟨S1x128, .f32⟩
  | .local _ .vmem, ⟨20, _⟩ => ⟨S8x1, .f32⟩
  | .local _ .vmem, ⟨21, _⟩ => ⟨S1x1024, .f32⟩
  | .local _ .vmem, ⟨22, _⟩ => ⟨S256x2048, .f32⟩
  | .local _ .vmem, ⟨23, _⟩ => ⟨S256x2048, .f32⟩
  | .local _ .vmem, ⟨24, _⟩ => ⟨S32x2048, .f32⟩
  | .local _ .vmem, ⟨25, _⟩ => ⟨S32x2048, .f32⟩
  | .local _ .vmem, ⟨26, _⟩ => ⟨S32x2048, .f32⟩
  | .local _ .vmem, ⟨27, _⟩ => ⟨S32x2048, .f32⟩
  | .local _ .vmem, ⟨28, _⟩ => ⟨S32x2048, .f32⟩
  | .local _ .vmem, ⟨29, _⟩ => ⟨S32x2048, .f32⟩
  | .local _ .vmem, ⟨30, _⟩ => ⟨S128x2048, .bf16⟩
  | .local _ .vmem, ⟨31, _⟩ => ⟨S128x2048, .bf16⟩
  | .local _ .vmem, ⟨32, _⟩ => ⟨S256x2048, .bf16⟩
  | .local _ .vmem, ⟨33, _⟩ => ⟨S256x2048, .bf16⟩
  | .local _ .vmem, ⟨34, _⟩ => ⟨S32x2048, .bf16⟩
  | .local _ .vmem, ⟨35, _⟩ => ⟨S32x2048, .bf16⟩
  | .local _ .vmem, ⟨36, _⟩ => ⟨S32x2048, .bf16⟩
  | .local _ .vmem, ⟨37, _⟩ => ⟨S32x2048, .bf16⟩
  | .local _ .vmem, ⟨38, _⟩ => ⟨S32x2048, .bf16⟩
  | .local _ .vmem, ⟨39, _⟩ => ⟨S32x2048, .bf16⟩
  | .local _ .vmem, ⟨40, _⟩ => ⟨S4x256x384, .f32⟩
  | .local _ .vmem, ⟨41, _⟩ => ⟨S8x128, .f32⟩
  | .local _ .vmem, ⟨42, _⟩ => ⟨S8x1024, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev main_v13_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S32x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S32x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S32x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== ReferenceIdeal.lean ====
abbrev S8192x7168 : Shape := ⟨2, ![8192, 7168]⟩
abbrev S8192x128 : Shape := ⟨2, ![8192, 128]⟩
abbrev S1x3x1024 : Shape := ⟨3, ![1, 3, 1024]⟩
abbrev S1x8 : Shape := ⟨2, ![1, 8]⟩
abbrev S1x1024 : Shape := ⟨2, ![1, 1024]⟩
abbrev S1x16384x2048 : Shape := ⟨3, ![1, 16384, 2048]⟩
abbrev S1x2048x2048 : Shape := ⟨3, ![1, 2048, 2048]⟩
abbrev S4x2048x7168 : Shape := ⟨3, ![4, 2048, 7168]⟩
abbrev S4x2048x1024 : Shape := ⟨3, ![4, 2048, 1024]⟩
abbrev S8192x8 : Shape := ⟨2, ![8192, 8]⟩
abbrev S4x2048x8 : Shape := ⟨3, ![4, 2048, 8]⟩
abbrev S8 : Shape := ⟨1, ![8]⟩
abbrev S1x1x8 : Shape := ⟨3, ![1, 1, 8]⟩
abbrev S4x2048x4 : Shape := ⟨3, ![4, 2048, 4]⟩
abbrev S4x2048x4x256 : Shape := ⟨4, ![4, 2048, 4, 256]⟩
abbrev S4x16x128x4x256 : Shape := ⟨5, ![4, 16, 128, 4, 256]⟩
abbrev S16x4x4x128x256 : Shape := ⟨5, ![16, 4, 4, 128, 256]⟩
abbrev S_ : Shape := ⟨0, ![]⟩
abbrev S4x16x128x4 : Shape := ⟨4, ![4, 16, 128, 4]⟩
abbrev S16x4x4x128 : Shape := ⟨4, ![16, 4, 4, 128]⟩
abbrev S128x128 : Shape := ⟨2, ![128, 128]⟩
abbrev S4x4x256x256 : Shape := ⟨4, ![4, 4, 256, 256]⟩
abbrev S4x4x256 : Shape := ⟨3, ![4, 4, 256]⟩
abbrev S4x4 : Shape := ⟨2, ![4, 4]⟩
abbrev S1x4x4x128x256 : Shape := ⟨5, ![1, 4, 4, 128, 256]⟩
abbrev S4x4x128x256 : Shape := ⟨4, ![4, 4, 128, 256]⟩
abbrev S1x4x4x128 : Shape := ⟨4, ![1, 4, 4, 128]⟩
abbrev S4x4x128 : Shape := ⟨3, ![4, 4, 128]⟩
abbrev S4x4x128x1 : Shape := ⟨4, ![4, 4, 128, 1]⟩
abbrev S4x4x1x128 : Shape := ⟨4, ![4, 4, 1, 128]⟩
abbrev S4x4x128x128 : Shape := ⟨4, ![4, 4, 128, 128]⟩
abbrev S4x4x1 : Shape := ⟨3, ![4, 4, 1]⟩
abbrev S4x4x1x1 : Shape := ⟨4, ![4, 4, 1, 1]⟩
abbrev S1024 : Shape := ⟨1, ![1024]⟩
abbrev S4x256 : Shape := ⟨2, ![4, 256]⟩
abbrev S4x2048x4x1 : Shape := ⟨4, ![4, 2048, 4, 1]⟩
abbrev S1x1x4x256 : Shape := ⟨4, ![1, 1, 4, 256]⟩
abbrev S3x1024 : Shape := ⟨2, ![3, 1024]⟩
abbrev S4x2050x1024 : Shape := ⟨3, ![4, 2050, 1024]⟩
abbrev S1x1x1024 : Shape := ⟨3, ![1, 1, 1024]⟩
abbrev S4x2048x2048 : Shape := ⟨3, ![4, 2048, 2048]⟩
abbrev S8192x2048 : Shape := ⟨2, ![8192, 2048]⟩
abbrev S16384x2048 : Shape := ⟨2, ![16384, 2048]⟩
abbrev S2048x2048 : Shape := ⟨2, ![2048, 2048]⟩

abbrev nBuf : Space → Nat
  | .hbm => 277
  | .vmem => 0
  | .smem => 0
  | _ => 0

abbrev hbmTy0_0 (i : Nat) : BufTy := match i % 128 with
  | 0 => ⟨S8192x7168, .f32⟩
  | 1 => ⟨S8192x128, .f32⟩
  | 2 => ⟨S1x3x1024, .f32⟩
  | 3 => ⟨S1x8, .f32⟩
  | 4 => ⟨S1x1024, .f32⟩
  | 5 => ⟨S1x16384x2048, .f32⟩
  | 6 => ⟨S1x2048x2048, .f32⟩
  | 7 => ⟨S1x2048x2048, .f32⟩
  | 8 => ⟨S1x2048x2048, .f32⟩
  | 9 => ⟨S4x2048x7168, .f32⟩
  | 10 => ⟨S4x2048x1024, .f32⟩
  | 11 => ⟨S4x2048x1024, .f32⟩
  | 12 => ⟨S4x2048x1024, .f32⟩
  | 13 => ⟨S4x2048x1024, .f32⟩
  | 14 => ⟨S4x2048x1024, .f32⟩
  | 15 => ⟨S4x2048x1024, .f32⟩
  | 16 => ⟨S4x2048x1024, .f32⟩
  | 17 => ⟨S8192x8, .f32⟩
  | 18 => ⟨S4x2048x8, .f32⟩
  | 19 => ⟨S8, .f32⟩
  | 20 => ⟨S1x1x8, .f32⟩
  | 21 => ⟨S4x2048x8, .f32⟩
  | 22 => ⟨S4x2048x8, .f32⟩
  | 23 => ⟨S4x2048x4, .f32⟩
  | 24 => ⟨S4x2048x4, .f32⟩
  | 25 => ⟨S4x2048x4x256, .f32⟩
  | 26 => ⟨S4x2048x4x256, .f32⟩
  | 27 => ⟨S4x2048x4x256, .f32⟩
  | 28 => ⟨S4x16x128x4x256, .f32⟩
  | 29 => ⟨S16x4x4x128x256, .f32⟩
  | 30 => ⟨S4x16x128x4x256, .f32⟩
  | 31 => ⟨S16x4x4x128x256, .f32⟩
  | 32 => ⟨S_, .f32⟩
  | 33 => ⟨S16x4x4x128x256, .f32⟩
  | 34 => ⟨S16x4x4x128x256, .f32⟩
  | 35 => ⟨S4x16x128x4x256, .f32⟩
  | 36 => ⟨S16x4x4x128x256, .f32⟩
  | 37 => ⟨S4x16x128x4, .f32⟩
  | 38 => ⟨S16x4x4x128, .f32⟩
  | 39 => ⟨S4x2048x4, .f32⟩
  | 40 => ⟨S_, .f32⟩
  | 41 => ⟨S4x2048x4, .f32⟩
  | 42 => ⟨S4x2048x4, .f32⟩
  | 43 => ⟨S4x2048x4, .f32⟩
  | 44 => ⟨S4x2048x4, .f32⟩
  | 45 => ⟨S4x2048x4, .i1⟩
  | 46 => ⟨S4x2048x4, .f32⟩
  | 47 => ⟨S4x2048x4, .f32⟩
  | 48 => ⟨S4x2048x4, .f32⟩
  | 49 => ⟨S4x2048x4, .f32⟩
  | 50 => ⟨S4x2048x4, .f32⟩
  | 51 => ⟨S4x2048x4, .f32⟩
  | 52 => ⟨S4x2048x4, .f32⟩
  | 53 => ⟨S4x2048x4, .f32⟩
  | 54 => ⟨S4x2048x4, .f32⟩
  | 55 => ⟨S4x16x128x4, .f32⟩
  | 56 => ⟨S16x4x4x128, .f32⟩
  | 57 => ⟨S_, .i1⟩
  | 58 => ⟨S128x128, .i1⟩
  | 59 => ⟨S128x128, .i32⟩
  | 60 => ⟨S_, .i32⟩
  | 61 => ⟨S128x128, .i32⟩
  | 62 => ⟨S128x128, .i32⟩
  | 63 => ⟨S128x128, .i32⟩
  | 64 => ⟨S128x128, .i1⟩
  | 65 => ⟨S_, .i1⟩
  | 66 => ⟨S128x128, .i1⟩
  | 67 => ⟨S128x128, .i1⟩
  | 68 => ⟨S_, .f32⟩
  | 69 => ⟨S4x4x256x256, .f32⟩
  | 70 => ⟨S_, .f32⟩
  | 71 => ⟨S4x4x256, .f32⟩
  | 72 => ⟨S_, .f32⟩
  | 73 => ⟨S4x4, .f32⟩
  | 74 => ⟨S_, .f32⟩
  | 75 => ⟨S16x4x4x128x256, .f32⟩
  | 76 => ⟨S_, .i32⟩
  | 77 => ⟨S16x4x4x128x256, .f32⟩
  | 78 => ⟨S16x4x4x128x256, .f32⟩
  | 79 => ⟨S16x4x4x128x256, .f32⟩
  | 80 => ⟨S16x4x4x128, .f32⟩
  | 81 => ⟨S16x4x4x128, .f32⟩
  | 82 => ⟨S128x128, .i1⟩
  | 83 => ⟨S_, .i32⟩
  | 84 => ⟨S4x4x256x256, .f32⟩
  | 85 => ⟨S4x4x256, .f32⟩
  | 86 => ⟨S4x4, .f32⟩
  | 87 => ⟨S16x4x4x128x256, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S1x4x4x128x256, .f32⟩
  | 95 => ⟨S4x4x128x256, .f32⟩
  | 96 => ⟨S_, .i32⟩
  | 97 => ⟨S_, .i32⟩
  | 98 => ⟨S_, .i32⟩
  | 99 => ⟨S_, .i32⟩
  | 100 => ⟨S1x4x4x128x256, .f32⟩
  | 101 => ⟨S4x4x128x256, .f32⟩
  | 102 => ⟨S_, .i32⟩
  | 103 => ⟨S_, .i32⟩
  | 104 => ⟨S_, .i32⟩
  | 105 => ⟨S_, .i32⟩
  | 106 => ⟨S1x4x4x128x256, .f32⟩
  | 107 => ⟨S4x4x128x256, .f32⟩
  | 108 => ⟨S_, .i32⟩
  | 109 => ⟨S_, .i32⟩
  | 110 => ⟨S_, .i32⟩
  | 111 => ⟨S1x4x4x128, .f32⟩
  | 112 => ⟨S4x4x128, .f32⟩
  | 113 => ⟨S_, .i32⟩
  | 114 => ⟨S_, .i32⟩
  | 115 => ⟨S_, .i32⟩
  | 116 => ⟨S1x4x4x128, .f32⟩
  | 117 => ⟨S4x4x128, .f32⟩
  | 118 => ⟨S_, .f32⟩
  | 119 => ⟨S_, .f32⟩
  | 120 => ⟨S4x4x128, .f32⟩
  | 121 => ⟨S4x4x128x1, .f32⟩
  | 122 => ⟨S4x4x1x128, .f32⟩
  | 123 => ⟨S4x4x128x128, .f32⟩
  | 124 => ⟨S4x4x128x128, .f32⟩
  | 125 => ⟨S4x4x128x128, .f32⟩
  | 126 => ⟨S4x4x1x128, .f32⟩
  | 127 => ⟨S4x4x128x128, .f32⟩
  | _ => ⟨S8192x7168, .f32⟩

abbrev hbmTy0_1 (i : Nat) : BufTy := match i % 128 with
  | 0 => ⟨S4x4x128x128, .f32⟩
  | 1 => ⟨S_, .f32⟩
  | 2 => ⟨S_, .f32⟩
  | 3 => ⟨S4x4x128x128, .i1⟩
  | 4 => ⟨S4x4x128x128, .f32⟩
  | 5 => ⟨S4x4x128x128, .f32⟩
  | 6 => ⟨S4x4x1, .f32⟩
  | 7 => ⟨S4x4x128, .f32⟩
  | 8 => ⟨S4x4x128, .f32⟩
  | 9 => ⟨S_, .f32⟩
  | 10 => ⟨S4x4x128, .f32⟩
  | 11 => ⟨S4x4x128, .f32⟩
  | 12 => ⟨S4x4x128x1, .f32⟩
  | 13 => ⟨S4x4x128x128, .f32⟩
  | 14 => ⟨S4x4x128x128, .f32⟩
  | 15 => ⟨S4x4x128x128, .f32⟩
  | 16 => ⟨S4x4x128x128, .f32⟩
  | 17 => ⟨S4x4x128x128, .f32⟩
  | 18 => ⟨S4x4x128, .f32⟩
  | 19 => ⟨S4x4x128, .f32⟩
  | 20 => ⟨S4x4x128x1, .f32⟩
  | 21 => ⟨S4x4x128x256, .f32⟩
  | 22 => ⟨S4x4x128x256, .f32⟩
  | 23 => ⟨S4x4x128x256, .f32⟩
  | 24 => ⟨S4x4x128x256, .f32⟩
  | 25 => ⟨S4x4x128x256, .f32⟩
  | 26 => ⟨S4x4x128, .f32⟩
  | 27 => ⟨S4x4x128, .f32⟩
  | 28 => ⟨S_, .f32⟩
  | 29 => ⟨S4x4x128, .f32⟩
  | 30 => ⟨S4x4x128, .f32⟩
  | 31 => ⟨S4x4x128, .f32⟩
  | 32 => ⟨S4x4x128, .f32⟩
  | 33 => ⟨S4x4x128, .f32⟩
  | 34 => ⟨S4x4x128, .f32⟩
  | 35 => ⟨S4x4x128x1, .f32⟩
  | 36 => ⟨S4x4x128x256, .f32⟩
  | 37 => ⟨S4x4x128x256, .f32⟩
  | 38 => ⟨S4x4x1, .f32⟩
  | 39 => ⟨S4x4, .f32⟩
  | 40 => ⟨S4x4x1, .f32⟩
  | 41 => ⟨S4x4x128, .f32⟩
  | 42 => ⟨S4x4x128, .f32⟩
  | 43 => ⟨S4x4x128, .f32⟩
  | 44 => ⟨S4x4x1, .f32⟩
  | 45 => ⟨S4x4x128, .f32⟩
  | 46 => ⟨S4x4x128, .f32⟩
  | 47 => ⟨S4x4x128, .f32⟩
  | 48 => ⟨S4x4x1, .f32⟩
  | 49 => ⟨S4x4, .f32⟩
  | 50 => ⟨S4x4, .f32⟩
  | 51 => ⟨S4x4, .f32⟩
  | 52 => ⟨S4x4, .f32⟩
  | 53 => ⟨S4x4x1x1, .f32⟩
  | 54 => ⟨S4x4x256x256, .f32⟩
  | 55 => ⟨S4x4x256x256, .f32⟩
  | 56 => ⟨S4x4x128x1, .f32⟩
  | 57 => ⟨S4x4x128x256, .f32⟩
  | 58 => ⟨S4x4x128x256, .f32⟩
  | 59 => ⟨S4x4x256x256, .f32⟩
  | 60 => ⟨S4x4x256x256, .f32⟩
  | 61 => ⟨S4x4x1, .f32⟩
  | 62 => ⟨S4x4x256, .f32⟩
  | 63 => ⟨S4x4x256, .f32⟩
  | 64 => ⟨S4x4x256, .f32⟩
  | 65 => ⟨S4x4x256, .f32⟩
  | 66 => ⟨S1x4x4x128x256, .f32⟩
  | 67 => ⟨S_, .i32⟩
  | 68 => ⟨S_, .i32⟩
  | 69 => ⟨S_, .i32⟩
  | 70 => ⟨S_, .i32⟩
  | 71 => ⟨S16x4x4x128x256, .f32⟩
  | 72 => ⟨S_, .i32⟩
  | 73 => ⟨S_, .i32⟩
  | 74 => ⟨S4x16x128x4x256, .f32⟩
  | 75 => ⟨S4x2048x4x256, .f32⟩
  | 76 => ⟨S1024, .f32⟩
  | 77 => ⟨S4x256, .f32⟩
  | 78 => ⟨S4x2048x4x256, .f32⟩
  | 79 => ⟨S_, .f32⟩
  | 80 => ⟨S4x2048x4, .f32⟩
  | 81 => ⟨S4x2048x4x1, .f32⟩
  | 82 => ⟨S_, .f32⟩
  | 83 => ⟨S4x2048x4x1, .f32⟩
  | 84 => ⟨S4x2048x4x1, .f32⟩
  | 85 => ⟨S_, .f32⟩
  | 86 => ⟨S4x2048x4x1, .f32⟩
  | 87 => ⟨S4x2048x4x1, .f32⟩
  | 88 => ⟨S4x2048x4x1, .f32⟩
  | 89 => ⟨S4x2048x4x256, .f32⟩
  | 90 => ⟨S4x2048x4x256, .f32⟩
  | 91 => ⟨S1x1x4x256, .f32⟩
  | 92 => ⟨S4x2048x4x256, .f32⟩
  | 93 => ⟨S4x2048x4x256, .f32⟩
  | 94 => ⟨S4x2048x7168, .f32⟩
  | 95 => ⟨S4x2048x1024, .f32⟩
  | 96 => ⟨S4x2048x1024, .f32⟩
  | 97 => ⟨S4x2048x1024, .f32⟩
  | 98 => ⟨S4x2048x1024, .f32⟩
  | 99 => ⟨S4x2048x1024, .f32⟩
  | 100 => ⟨S4x2048x1024, .f32⟩
  | 101 => ⟨S4x2048x1024, .f32⟩
  | 102 => ⟨S3x1024, .f32⟩
  | 103 => ⟨S4x2048x1024, .f32⟩
  | 104 => ⟨S_, .i32⟩
  | 105 => ⟨S_, .f32⟩
  | 106 => ⟨S4x2050x1024, .f32⟩
  | 107 => ⟨S1x1024, .f32⟩
  | 108 => ⟨S1024, .f32⟩
  | 109 => ⟨S4x2048x1024, .f32⟩
  | 110 => ⟨S1x1x1024, .f32⟩
  | 111 => ⟨S4x2048x1024, .f32⟩
  | 112 => ⟨S4x2048x1024, .f32⟩
  | 113 => ⟨S1x1024, .f32⟩
  | 114 => ⟨S1024, .f32⟩
  | 115 => ⟨S4x2048x1024, .f32⟩
  | 116 => ⟨S1x1x1024, .f32⟩
  | 117 => ⟨S4x2048x1024, .f32⟩
  | 118 => ⟨S4x2048x1024, .f32⟩
  | 119 => ⟨S4x2048x1024, .f32⟩
  | 120 => ⟨S1x1024, .f32⟩
  | 121 => ⟨S1024, .f32⟩
  | 122 => ⟨S4x2048x1024, .f32⟩
  | 123 => ⟨S1x1x1024, .f32⟩
  | 124 => ⟨S4x2048x1024, .f32⟩
  | 125 => ⟨S4x2048x1024, .f32⟩
  | 126 => ⟨S4x2048x1024, .f32⟩
  | 127 => ⟨S4x2048x1024, .f32⟩
  | _ => ⟨S8192x7168, .f32⟩

abbrev hbmTy0_2 (i : Nat) : BufTy := match i % 128 with
  | 0 => ⟨S4x2048x1024, .f32⟩
  | 1 => ⟨S4x2048x1024, .f32⟩
  | 2 => ⟨S_, .f32⟩
  | 3 => ⟨S4x2048x1024, .f32⟩
  | 4 => ⟨S4x2048x1024, .f32⟩
  | 5 => ⟨S_, .f32⟩
  | 6 => ⟨S4x2048x1024, .f32⟩
  | 7 => ⟨S4x2048x1024, .f32⟩
  | 8 => ⟨S4x2048x1024, .f32⟩
  | 9 => ⟨S4x2048x1024, .f32⟩
  | 10 => ⟨S4x2048x2048, .f32⟩
  | 11 => ⟨S8192x2048, .f32⟩
  | 12 => ⟨S16384x2048, .f32⟩
  | 13 => ⟨S2048x2048, .f32⟩
  | 14 => ⟨S2048x2048, .f32⟩
  | 15 => ⟨S2048x2048, .f32⟩
  | 16 => ⟨S8192x2048, .bf16⟩
  | 17 => ⟨S16384x2048, .bf16⟩
  | 18 => ⟨S2048x2048, .bf16⟩
  | 19 => ⟨S2048x2048, .bf16⟩
  | 20 => ⟨S2048x2048, .bf16⟩
  | _ => ⟨S8192x7168, .f32⟩

abbrev hbmTy (i : Nat) : BufTy := match i / 128 with
  | 0 => hbmTy0_0 i
  | 1 => hbmTy0_1 i
  | 2 => hbmTy0_2 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c : Ref sig .tc := ⟨.hbm, 57, rfl⟩
abbrev main_v46 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v47 : Ref sig .tc := ⟨.hbm, 67, rfl⟩
abbrev main_cst_1 : Ref sig .tc := ⟨.hbm, 68, rfl⟩
abbrev main_v48 : Ref sig .tc := ⟨.hbm, 69, rfl⟩
abbrev main_cst_2 : Ref sig .tc := ⟨.hbm, 70, rfl⟩
abbrev main_v49 : Ref sig .tc := ⟨.hbm, 71, rfl⟩
abbrev main_cst_3 : Ref sig .tc := ⟨.hbm, 72, rfl⟩
abbrev main_v50 : Ref sig .tc := ⟨.hbm, 73, rfl⟩
abbrev main_cst_4 : Ref sig .tc := ⟨.hbm, 74, rfl⟩
abbrev main_v51 : Ref sig .tc := ⟨.hbm, 75, rfl⟩
abbrev main_c_5 : Ref sig .tc := ⟨.hbm, 76, rfl⟩
abbrev main_v52_0 : Ref sig .tc := ⟨.hbm, 77, rfl⟩
abbrev main_v52_1 : Ref sig .tc := ⟨.hbm, 78, rfl⟩
abbrev main_v52_2 : Ref sig .tc := ⟨.hbm, 79, rfl⟩
abbrev main_v52_3 : Ref sig .tc := ⟨.hbm, 80, rfl⟩
abbrev main_v52_4 : Ref sig .tc := ⟨.hbm, 81, rfl⟩
abbrev main_v52_5 : Ref sig .tc := ⟨.hbm, 82, rfl⟩
abbrev main_v52_6 : Ref sig .tc := ⟨.hbm, 83, rfl⟩
abbrev main_v52_7 : Ref sig .tc := ⟨.hbm, 84, rfl⟩
abbrev main_v52_8 : Ref sig .tc := ⟨.hbm, 85, rfl⟩
abbrev main_v52_9 : Ref sig .tc := ⟨.hbm, 86, rfl⟩
abbrev main_v52_10 : Ref sig .tc := ⟨.hbm, 87, rfl⟩
abbrev main_while0c_c_22 : Ref sig .tc := ⟨.hbm, 88, rfl⟩
abbrev main_while0c_v121 : Ref sig .tc := ⟨.hbm, 89, rfl⟩
abbrev main_while0b_call1_c : Ref sig .tc := ⟨.hbm, 90, rfl⟩
abbrev main_while0b_call1_c_0 : Ref sig .tc := ⟨.hbm, 91, rfl⟩
abbrev main_while0b_call1_c_1 : Ref sig .tc := ⟨.hbm, 92, rfl⟩
abbrev main_while0b_call1_c_2 : Ref sig .tc := ⟨.hbm, 93, rfl⟩
abbrev main_while0b_call1_v0 : Ref sig .tc := ⟨.hbm, 94, rfl⟩
abbrev main_while0b_v121 : Ref sig .tc := ⟨.hbm, 95, rfl⟩
abbrev main_while0b_call2_c : Ref sig .tc := ⟨.hbm, 96, rfl⟩
abbrev main_while0b_call2_c_0 : Ref sig .tc := ⟨.hbm, 97, rfl⟩
abbrev main_while0b_call2_c_1 : Ref sig .tc := ⟨.hbm, 98, rfl⟩
abbrev main_while0b_call2_c_2 : Ref sig .tc := ⟨.hbm, 99, rfl⟩
abbrev main_while0b_call2_v0 : Ref sig .tc := ⟨.hbm, 100, rfl⟩
abbrev main_while0b_v122 : Ref sig .tc := ⟨.hbm, 101, rfl⟩
abbrev main_while0b_call3_c : Ref sig .tc := ⟨.hbm, 102, rfl⟩
abbrev main_while0b_call3_c_0 : Ref sig .tc := ⟨.hbm, 103, rfl⟩
abbrev main_while0b_call3_c_1 : Ref sig .tc := ⟨.hbm, 104, rfl⟩
abbrev main_while0b_call3_c_2 : Ref sig .tc := ⟨.hbm, 105, rfl⟩
abbrev main_while0b_call3_v0 : Ref sig .tc := ⟨.hbm, 106, rfl⟩
abbrev main_while0b_v123 : Ref sig .tc := ⟨.hbm, 107, rfl⟩
abbrev main_while0b_call4_c : Ref sig .tc := ⟨.hbm, 108, rfl⟩
abbrev main_while0b_call4_c_0 : Ref sig .tc := ⟨.hbm, 109, rfl⟩
abbrev main_while0b_call4_c_1 : Ref sig .tc := ⟨.hbm, 110, rfl⟩
abbrev main_while0b_call4_v0 : Ref sig .tc := ⟨.hbm, 111, rfl⟩
abbrev main_while0b_v124 : Ref sig .tc := ⟨.hbm, 112, rfl⟩
abbrev main_while0b_call5_c : Ref sig .tc := ⟨.hbm, 113, rfl⟩
abbrev main_while0b_call5_c_0 : Ref sig .tc := ⟨.hbm, 114, rfl⟩
abbrev main_while0b_call5_c_1 : Ref sig .tc := ⟨.hbm, 115, rfl⟩
abbrev main_while0b_call5_v0 : Ref sig .tc := ⟨.hbm, 116, rfl⟩
abbrev main_while0b_v125 : Ref sig .tc := ⟨.hbm, 117, rfl⟩
abbrev main_while0b_call6_call0_cst : Ref sig .tc := ⟨.hbm, 118, rfl⟩
abbrev main_while0b_call6_call0_v0 : Ref sig .tc := ⟨.hbm, 119, rfl⟩
abbrev main_while0b_v126 : Ref sig .tc := ⟨.hbm, 120, rfl⟩
abbrev main_while0b_v127 : Ref sig .tc := ⟨.hbm, 121, rfl⟩
abbrev main_while0b_v128 : Ref sig .tc := ⟨.hbm, 122, rfl⟩
abbrev main_while0b_v129 : Ref sig .tc := ⟨.hbm, 123, rfl⟩
abbrev main_while0b_v130 : Ref sig .tc := ⟨.hbm, 124, rfl⟩
abbrev main_while0b_v131 : Ref sig .tc := ⟨.hbm, 125, rfl⟩
abbrev main_while0b_v132 : Ref sig .tc := ⟨.hbm, 126, rfl⟩
abbrev main_while0b_v133 : Ref sig .tc := ⟨.hbm, 127, rfl⟩
abbrev main_while0b_v134 : Ref sig .tc := ⟨.hbm, 128, rfl⟩
abbrev main_while0b_cst_22 : Ref sig .tc := ⟨.hbm, 129, rfl⟩
abbrev main_while0b_call7_v0 : Ref sig .tc := ⟨.hbm, 130, rfl⟩
abbrev main_while0b_call7_v1 : Ref sig .tc := ⟨.hbm, 131, rfl⟩
abbrev main_while0b_call7_v2 : Ref sig .tc := ⟨.hbm, 132, rfl⟩
abbrev main_while0b_v135 : Ref sig .tc := ⟨.hbm, 133, rfl⟩
abbrev main_while0b_v136 : Ref sig .tc := ⟨.hbm, 134, rfl⟩
abbrev main_while0b_v137 : Ref sig .tc := ⟨.hbm, 135, rfl⟩
abbrev main_while0b_v138 : Ref sig .tc := ⟨.hbm, 136, rfl⟩
abbrev main_while0b_cst_23 : Ref sig .tc := ⟨.hbm, 137, rfl⟩
abbrev main_while0b_v139 : Ref sig .tc := ⟨.hbm, 138, rfl⟩
abbrev main_while0b_v140 : Ref sig .tc := ⟨.hbm, 139, rfl⟩
abbrev main_while0b_v141 : Ref sig .tc := ⟨.hbm, 140, rfl⟩
abbrev main_while0b_v142 : Ref sig .tc := ⟨.hbm, 141, rfl⟩
abbrev main_while0b_v143 : Ref sig .tc := ⟨.hbm, 142, rfl⟩
abbrev main_while0b_v144 : Ref sig .tc := ⟨.hbm, 143, rfl⟩
abbrev main_while0b_v145 : Ref sig .tc := ⟨.hbm, 144, rfl⟩
abbrev main_while0b_v146 : Ref sig .tc := ⟨.hbm, 145, rfl⟩
abbrev main_while0b_v147 : Ref sig .tc := ⟨.hbm, 146, rfl⟩
abbrev main_while0b_v148 : Ref sig .tc := ⟨.hbm, 147, rfl⟩
abbrev main_while0b_v149 : Ref sig .tc := ⟨.hbm, 148, rfl⟩
abbrev main_while0b_v150 : Ref sig .tc := ⟨.hbm, 149, rfl⟩
abbrev main_while0b_v151 : Ref sig .tc := ⟨.hbm, 150, rfl⟩
abbrev main_while0b_v152 : Ref sig .tc := ⟨.hbm, 151, rfl⟩
abbrev main_while0b_v153 : Ref sig .tc := ⟨.hbm, 152, rfl⟩
abbrev main_while0b_v154 : Ref sig .tc := ⟨.hbm, 153, rfl⟩
abbrev main_while0b_v155 : Ref sig .tc := ⟨.hbm, 154, rfl⟩
abbrev main_while0b_v156 : Ref sig .tc := ⟨.hbm, 155, rfl⟩
abbrev main_while0b_cst_24 : Ref sig .tc := ⟨.hbm, 156, rfl⟩
abbrev main_while0b_v157 : Ref sig .tc := ⟨.hbm, 157, rfl⟩
abbrev main_while0b_v158 : Ref sig .tc := ⟨.hbm, 158, rfl⟩
abbrev main_while0b_v159 : Ref sig .tc := ⟨.hbm, 159, rfl⟩
abbrev main_while0b_v160 : Ref sig .tc := ⟨.hbm, 160, rfl⟩
abbrev main_while0b_v161 : Ref sig .tc := ⟨.hbm, 161, rfl⟩
abbrev main_while0b_v162 : Ref sig .tc := ⟨.hbm, 162, rfl⟩
abbrev main_while0b_v163 : Ref sig .tc := ⟨.hbm, 163, rfl⟩
abbrev main_while0b_v164 : Ref sig .tc := ⟨.hbm, 164, rfl⟩
abbrev main_while0b_v165 : Ref sig .tc := ⟨.hbm, 165, rfl⟩
abbrev main_while0b_v166 : Ref sig .tc := ⟨.hbm, 166, rfl⟩
abbrev main_while0b_v167 : Ref sig .tc := ⟨.hbm, 167, rfl⟩
abbrev main_while0b_v168 : Ref sig .tc := ⟨.hbm, 168, rfl⟩
abbrev main_while0b_v169 : Ref sig .tc := ⟨.hbm, 169, rfl⟩
abbrev main_while0b_v170 : Ref sig .tc := ⟨.hbm, 170, rfl⟩
abbrev main_while0b_v171 : Ref sig .tc := ⟨.hbm, 171, rfl⟩
abbrev main_while0b_v172 : Ref sig .tc := ⟨.hbm, 172, rfl⟩
abbrev main_while0b_v173 : Ref sig .tc := ⟨.hbm, 173, rfl⟩
abbrev main_while0b_v174 : Ref sig .tc := ⟨.hbm, 174, rfl⟩
abbrev main_while0b_v175 : Ref sig .tc := ⟨.hbm, 175, rfl⟩
abbrev main_while0b_v176 : Ref sig .tc := ⟨.hbm, 176, rfl⟩
abbrev main_while0b_v177 : Ref sig .tc := ⟨.hbm, 177, rfl⟩
abbrev main_while0b_v178 : Ref sig .tc := ⟨.hbm, 178, rfl⟩
abbrev main_while0b_v179 : Ref sig .tc := ⟨.hbm, 179, rfl⟩
abbrev main_while0b_v180 : Ref sig .tc := ⟨.hbm, 180, rfl⟩
abbrev main_while0b_v181 : Ref sig .tc := ⟨.hbm, 181, rfl⟩
abbrev main_while0b_v182 : Ref sig .tc := ⟨.hbm, 182, rfl⟩
abbrev main_while0b_v183 : Ref sig .tc := ⟨.hbm, 183, rfl⟩
abbrev main_while0b_v184 : Ref sig .tc := ⟨.hbm, 184, rfl⟩
abbrev main_while0b_v185 : Ref sig .tc := ⟨.hbm, 185, rfl⟩
abbrev main_while0b_v186 : Ref sig .tc := ⟨.hbm, 186, rfl⟩
abbrev main_while0b_v187 : Ref sig .tc := ⟨.hbm, 187, rfl⟩
abbrev main_while0b_v188 : Ref sig .tc := ⟨.hbm, 188, rfl⟩
abbrev main_while0b_v189 : Ref sig .tc := ⟨.hbm, 189, rfl⟩
abbrev main_while0b_v190 : Ref sig .tc := ⟨.hbm, 190, rfl⟩
abbrev main_while0b_v191 : Ref sig .tc := ⟨.hbm, 191, rfl⟩
abbrev main_while0b_v192 : Ref sig .tc := ⟨.hbm, 192, rfl⟩
abbrev main_while0b_v193 : Ref sig .tc := ⟨.hbm, 193, rfl⟩
abbrev main_while0b_call8_v0 : Ref sig .tc := ⟨.hbm, 194, rfl⟩
abbrev main_while0b_call8_c : Ref sig .tc := ⟨.hbm, 195, rfl⟩
abbrev main_while0b_call8_c_0 : Ref sig .tc := ⟨.hbm, 196, rfl⟩
abbrev main_while0b_call8_c_1 : Ref sig .tc := ⟨.hbm, 197, rfl⟩
abbrev main_while0b_call8_c_2 : Ref sig .tc := ⟨.hbm, 198, rfl⟩
abbrev main_while0b_v194 : Ref sig .tc := ⟨.hbm, 199, rfl⟩
abbrev main_while0b_c_25 : Ref sig .tc := ⟨.hbm, 200, rfl⟩
abbrev main_while0b_v195 : Ref sig .tc := ⟨.hbm, 201, rfl⟩
abbrev main_v53 : Ref sig .tc := ⟨.hbm, 202, rfl⟩
abbrev main_v54 : Ref sig .tc := ⟨.hbm, 203, rfl⟩
abbrev main_v55 : Ref sig .tc := ⟨.hbm, 204, rfl⟩
abbrev main_v56 : Ref sig .tc := ⟨.hbm, 205, rfl⟩
abbrev main_v57 : Ref sig .tc := ⟨.hbm, 206, rfl⟩
abbrev main_cst_6 : Ref sig .tc := ⟨.hbm, 207, rfl⟩
abbrev main_v58 : Ref sig .tc := ⟨.hbm, 208, rfl⟩
abbrev main_v59 : Ref sig .tc := ⟨.hbm, 209, rfl⟩
abbrev main_cst_7 : Ref sig .tc := ⟨.hbm, 210, rfl⟩
abbrev main_v60 : Ref sig .tc := ⟨.hbm, 211, rfl⟩
abbrev main_v61 : Ref sig .tc := ⟨.hbm, 212, rfl⟩
abbrev main_cst_8 : Ref sig .tc := ⟨.hbm, 213, rfl⟩
abbrev main_v62 : Ref sig .tc := ⟨.hbm, 214, rfl⟩
abbrev main_v63 : Ref sig .tc := ⟨.hbm, 215, rfl⟩
abbrev main_v64 : Ref sig .tc := ⟨.hbm, 216, rfl⟩
abbrev main_v65 : Ref sig .tc := ⟨.hbm, 217, rfl⟩
abbrev main_v66 : Ref sig .tc := ⟨.hbm, 218, rfl⟩
abbrev main_v67 : Ref sig .tc := ⟨.hbm, 219, rfl⟩
abbrev main_v68 : Ref sig .tc := ⟨.hbm, 220, rfl⟩
abbrev main_v69 : Ref sig .tc := ⟨.hbm, 221, rfl⟩
abbrev main_v70 : Ref sig .tc := ⟨.hbm, 222, rfl⟩
abbrev main_v71 : Ref sig .tc := ⟨.hbm, 223, rfl⟩
abbrev main_v72 : Ref sig .tc := ⟨.hbm, 224, rfl⟩
abbrev main_v73 : Ref sig .tc := ⟨.hbm, 225, rfl⟩
abbrev main_v74 : Ref sig .tc := ⟨.hbm, 226, rfl⟩
abbrev main_v75 : Ref sig .tc := ⟨.hbm, 227, rfl⟩
abbrev main_v76 : Ref sig .tc := ⟨.hbm, 228, rfl⟩
abbrev main_v77 : Ref sig .tc := ⟨.hbm, 229, rfl⟩
abbrev main_v78 : Ref sig .tc := ⟨.hbm, 230, rfl⟩
abbrev main_v79 : Ref sig .tc := ⟨.hbm, 231, rfl⟩
abbrev main_c_9 : Ref sig .tc := ⟨.hbm, 232, rfl⟩
abbrev main_call9_v0 : Ref sig .tc := ⟨.hbm, 233, rfl⟩
abbrev main_v80 : Ref sig .tc := ⟨.hbm, 234, rfl⟩
abbrev main_v81 : Ref sig .tc := ⟨.hbm, 235, rfl⟩
abbrev main_v82 : Ref sig .tc := ⟨.hbm, 236, rfl⟩
abbrev main_v83 : Ref sig .tc := ⟨.hbm, 237, rfl⟩
abbrev main_v84 : Ref sig .tc := ⟨.hbm, 238, rfl⟩
abbrev main_v85 : Ref sig .tc := ⟨.hbm, 239, rfl⟩
abbrev main_v86 : Ref sig .tc := ⟨.hbm, 240, rfl⟩
abbrev main_v87 : Ref sig .tc := ⟨.hbm, 241, rfl⟩
abbrev main_v88 : Ref sig .tc := ⟨.hbm, 242, rfl⟩
abbrev main_v89 : Ref sig .tc := ⟨.hbm, 243, rfl⟩
abbrev main_v90 : Ref sig .tc := ⟨.hbm, 244, rfl⟩
abbrev main_v91 : Ref sig .tc := ⟨.hbm, 245, rfl⟩
abbrev main_v92 : Ref sig .tc := ⟨.hbm, 246, rfl⟩
abbrev main_v93 : Ref sig .tc := ⟨.hbm, 247, rfl⟩
abbrev main_v94 : Ref sig .tc := ⟨.hbm, 248, rfl⟩
abbrev main_v95 : Ref sig .tc := ⟨.hbm, 249, rfl⟩
abbrev main_v96 : Ref sig .tc := ⟨.hbm, 250, rfl⟩
abbrev main_v97 : Ref sig .tc := ⟨.hbm, 251, rfl⟩
abbrev main_v98 : Ref sig .tc := ⟨.hbm, 252, rfl⟩
abbrev main_v99 : Ref sig .tc := ⟨.hbm, 253, rfl⟩
abbrev main_v100 : Ref sig .tc := ⟨.hbm, 254, rfl⟩
abbrev main_v101 : Ref sig .tc := ⟨.hbm, 255, rfl⟩
abbrev main_v102 : Ref sig .tc := ⟨.hbm, 256, rfl⟩
abbrev main_v103 : Ref sig .tc := ⟨.hbm, 257, rfl⟩
abbrev main_cst_10 : Ref sig .tc := ⟨.hbm, 258, rfl⟩
abbrev main_v104 : Ref sig .tc := ⟨.hbm, 259, rfl⟩
abbrev main_v105 : Ref sig .tc := ⟨.hbm, 260, rfl⟩
abbrev main_cst_11 : Ref sig .tc := ⟨.hbm, 261, rfl⟩
abbrev main_v106 : Ref sig .tc := ⟨.hbm, 262, rfl⟩
abbrev main_v107 : Ref sig .tc := ⟨.hbm, 263, rfl⟩
abbrev main_v108 : Ref sig .tc := ⟨.hbm, 264, rfl⟩
abbrev main_v109 : Ref sig .tc := ⟨.hbm, 265, rfl⟩
abbrev main_v110 : Ref sig .tc := ⟨.hbm, 266, rfl⟩
abbrev main_v111 : Ref sig .tc := ⟨.hbm, 267, rfl⟩
abbrev main_v112 : Ref sig .tc := ⟨.hbm, 268, rfl⟩
abbrev main_v113 : Ref sig .tc := ⟨.hbm, 269, rfl⟩
abbrev main_v114 : Ref sig .tc := ⟨.hbm, 270, rfl⟩
abbrev main_v115 : Ref sig .tc := ⟨.hbm, 271, rfl⟩
abbrev main_v116 : Ref sig .tc := ⟨.hbm, 272, rfl⟩
abbrev main_v117 : Ref sig .tc := ⟨.hbm, 273, rfl⟩
abbrev main_v118 : Ref sig .tc := ⟨.hbm, 274, rfl⟩
abbrev main_v119 : Ref sig .tc := ⟨.hbm, 275, rfl⟩
abbrev main_v120 : Ref sig .tc := ⟨.hbm, 276, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8192x2048 : Shape := ⟨2, ![8192, 2048]⟩
abbrev S1x4x2048x256 : Shape := ⟨4, ![1, 4, 2048, 256]⟩
abbrev S1x2048 : Shape := ⟨2, ![1, 2048]⟩
abbrev S2048x2048 : Shape := ⟨2, ![2048, 2048]⟩
abbrev S1x256x2048 : Shape := ⟨3, ![1, 256, 2048]⟩
abbrev S2048 : Shape := ⟨1, ![2048]⟩
abbrev S4x2048x256 : Shape := ⟨3, ![4, 2048, 256]⟩
abbrev S8192x256 : Shape := ⟨2, ![8192, 256]⟩
abbrev S256x2048 : Shape := ⟨2, ![256, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x4x2048x256, .f32⟩
  | .hbm, ⟨3, _⟩ => ⟨S1x2048, .f32⟩
  | .hbm, ⟨4, _⟩ => ⟨S2048x2048, .bf16⟩
  | .hbm, ⟨5, _⟩ => ⟨S1x256x2048, .f32⟩
  | .hbm, ⟨6, _⟩ => ⟨S2048, .f32⟩
  | .hbm, ⟨7, _⟩ => ⟨S4x2048x256, .f32⟩
  | .hbm, ⟨8, _⟩ => ⟨S8192x256, .f32⟩
  | .hbm, ⟨9, _⟩ => ⟨S2048, .f32⟩
  | .hbm, ⟨10, _⟩ => ⟨S1x2048, .f32⟩
  | .hbm, ⟨11, _⟩ => ⟨S256x2048, .f32⟩
  | .hbm, ⟨12, _⟩ => ⟨S256x2048, .bf16⟩
  | .hbm, ⟨13, _⟩ => ⟨S1x2048, .f32⟩
  | .hbm, ⟨14, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S1x2048, .f32⟩
  | .local _ .vmem, ⟨7, _⟩ => ⟨S2048x2048, .bf16⟩
  | .local _ .vmem, ⟨8, _⟩ => ⟨S256x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8192x2048 : Shape := ⟨2, ![8192, 2048]⟩
abbrev S1x4x2048x256 : Shape := ⟨4, ![1, 4, 2048, 256]⟩
abbrev S1x2048 : Shape := ⟨2, ![1, 2048]⟩
abbrev S2048x2048 : Shape := ⟨2, ![2048, 2048]⟩
abbrev S1x256x2048 : Shape := ⟨3, ![1, 256, 2048]⟩
abbrev S2048 : Shape := ⟨1, ![2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x256 : Shape := ⟨3, ![4, 2048, 256]⟩
abbrev S256x2048 : Shape := ⟨2, ![256, 2048]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x4x2048x256, .f32⟩
  | .hbm, ⟨3, _⟩ => ⟨S1x2048, .f32⟩
  | .hbm, ⟨4, _⟩ => ⟨S2048x2048, .bf16⟩
  | .hbm, ⟨5, _⟩ => ⟨S1x256x2048, .f32⟩
  | .hbm, ⟨6, _⟩ => ⟨S2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x2048, .f32⟩
  | .hbm, ⟨23, _⟩ => ⟨S4x2048x2048, .f32⟩
  | .hbm, ⟨24, _⟩ => ⟨S1x1x2048, .f32⟩
  | .hbm, ⟨25, _⟩ => ⟨S4x2048x2048, .f32⟩
  | .hbm, ⟨26, _⟩ => ⟨S4x2048x2048, .f32⟩
  | .hbm, ⟨27, _⟩ => ⟨S2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | .hbm, ⟨37, _⟩ => ⟨S4x2048x256, .f32⟩
  | .hbm, ⟨38, _⟩ => ⟨S256x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048x1, .f32⟩
  | .hbm, ⟨53, _⟩ => ⟨S4x2048x2048, .f32⟩
  | .hbm, ⟨54, _⟩ => ⟨S4x2048x2048, .f32⟩
  | .hbm, ⟨55, _⟩ => ⟨S1x1x2048, .f32⟩
  | .hbm, ⟨56, _⟩ => ⟨S4x2048x2048, .f32⟩
  | .hbm, ⟨57, _⟩ => ⟨S4x2048x2048, .f32⟩
  | .hbm, ⟨58, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S4x2048x2048 : Shape := ⟨3, ![4, 2048, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S4x2048x2048, .f32⟩
  | .hbm, ⟨3, _⟩ => ⟨S8192x2048, .f32⟩
  | .hbm, ⟨4, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8192x2048 : Shape := ⟨2, ![8192, 2048]⟩
abbrev S2048x2048 : Shape := ⟨2, ![2048, 2048]⟩
abbrev S4x2048x2048 : Shape := ⟨3, ![4, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S4x2048x2048, .f32⟩
  | .hbm, ⟨3, _⟩ => ⟨S8192x2048, .f32⟩
  | .hbm, ⟨4, _⟩ => ⟨S4x2048x2048, .f32⟩
  | .hbm, ⟨5, _⟩ => ⟨S2048x2048, .f32⟩
  | .hbm, ⟨6, _⟩ => ⟨S4x2048x2048, .f32⟩
  | .hbm, ⟨7, _⟩ => ⟨S4x2048x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4x2048x2048 : Shape := ⟨3, ![4, 2048, 2048]⟩
abbrev S1x2048 : Shape := ⟨2, ![1, 2048]⟩
abbrev S1x2048x7176 : Shape := ⟨3, ![1, 2048, 7176]⟩
abbrev S8192x2048 : Shape := ⟨2, ![8192, 2048]⟩
abbrev S2048x7176 : Shape := ⟨2, ![2048, 7176]⟩
abbrev S2048x8 : Shape := ⟨2, ![2048, 8]⟩
abbrev S_ : Shape := ⟨0, ![]⟩
abbrev S2048x128 : Shape := ⟨2, ![2048, 128]⟩
abbrev S2048 : Shape := ⟨1, ![2048]⟩
abbrev S8192x7168 : Shape := ⟨2, ![8192, 7168]⟩
abbrev S8192x128 : Shape := ⟨2, ![8192, 128]⟩
abbrev S1024x2048 : Shape := ⟨2, ![1024, 2048]⟩
abbrev S2048x1792 : Shape := ⟨2, ![2048, 1792]⟩
abbrev S1024x1792 : Shape := ⟨2, ![1024, 1792]⟩
abbrev S1024x128 : Shape := ⟨2, ![1024, 128]⟩
abbrev S1024 : Shape := ⟨1, ![1024]⟩
abbrev S1024x1 : Shape := ⟨2, ![1024, 1]⟩

abbrev nBuf : Space → Nat
  | .hbm => 14
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x7176, .f32⟩
  | .hbm, ⟨3, _⟩ => ⟨S8192x2048, .f32⟩
  | .hbm, ⟨4, _⟩ => ⟨S2048x7176, .f32⟩
  | .hbm, ⟨5, _⟩ => ⟨S2048x7176, .bf16⟩
  | .hbm, ⟨6, _⟩ => ⟨S2048x8, .bf16⟩
  | .hbm, ⟨7, _⟩ => ⟨S_, .i32⟩
  | .hbm, ⟨8, _⟩ => ⟨S_, .bf16⟩
  | .hbm, ⟨9, _⟩ => ⟨S2048x128, .bf16⟩
  | .hbm, ⟨10, _⟩ => ⟨S2048, .f32⟩
  | .hbm, ⟨11, _⟩ => ⟨S1x2048, .f32⟩
  | .hbm, ⟨12, _⟩ => ⟨S8192x7168, .f32⟩
  | .hbm, ⟨13, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S2048x128, .bf16⟩
  | .local _ .vmem, ⟨6, _⟩ => ⟨S1024x1792, .f32⟩
  | .local _ .vmem, ⟨7, _⟩ => ⟨S1024x1792, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S4x2048x2048 : Shape := ⟨3, ![4, 2048, 2048]⟩
abbrev S1x2048 : Shape := ⟨2, ![1, 2048]⟩
abbrev S1x2048x7176 : Shape := ⟨3, ![1, 2048, 7176]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x7176 : Shape := ⟨2, ![2048, 7176]⟩
abbrev S4x2048x7176 : Shape := ⟨3, ![4, 2048, 7176]⟩
abbrev S8192x7176 : Shape := ⟨2, ![8192, 7176]⟩
abbrev S8192x7168 : Shape := ⟨2, ![8192, 7168]⟩
abbrev S8192x8 : Shape := ⟨2, ![8192, 8]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x7176, .f32⟩
  | .hbm, ⟨3, _⟩ => ⟨S2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S2048x7176, .f32⟩
  | .hbm, ⟨21, _⟩ => ⟨S4x2048x7176, .f32⟩
  | .hbm, ⟨22, _⟩ => ⟨S8192x7176, .f32⟩
  | .hbm, ⟨23, _⟩ => ⟨S8192x7168, .f32⟩
  | .hbm, ⟨24, _⟩ => ⟨S8192x8, .f32⟩
  | .hbm, ⟨25, _⟩ => ⟨S_, .i32⟩
  | .hbm, ⟨26, _⟩ => ⟨S_, .f32⟩
  | .hbm, ⟨27, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel5.lean ====
abbrev S8192x2048 : Shape := ⟨2, ![8192, 2048]⟩
abbrev S16384x2048 : Shape := ⟨2, ![16384, 2048]⟩
abbrev S8x128x8192 : Shape := ⟨3, ![8, 128, 8192]⟩
abbrev S128x8x8192 : Shape := ⟨3, ![128, 8, 8192]⟩
abbrev S1024x2048 : Shape := ⟨2, ![1024, 2048]⟩
abbrev S512x2048 : Shape := ⟨2, ![512, 2048]⟩
abbrev S8x128x1024 : Shape := ⟨3, ![8, 128, 1024]⟩
abbrev S4x8x1024 : Shape := ⟨3, ![4, 8, 1024]⟩
abbrev S1024x512 : Shape := ⟨2, ![1024, 512]⟩
abbrev S16x256 : Shape := ⟨2, ![16, 256]⟩
abbrev S1x8x256 : Shape := ⟨3, ![1, 8, 256]⟩
abbrev S8x256 : Shape := ⟨2, ![8, 256]⟩
abbrev S1x256 : Shape := ⟨2, ![1, 256]⟩
abbrev S1x16x256 : Shape := ⟨3, ![1, 16, 256]⟩
abbrev S128x256 : Shape := ⟨2, ![128, 256]⟩
abbrev S256x128 : Shape := ⟨2, ![256, 128]⟩

abbrev nBuf : Space → Nat
  | .hbm => 8
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S16384x2048, .bf16⟩
  | .hbm, ⟨2, _⟩ => ⟨S16384x2048, .bf16⟩
  | .hbm, ⟨3, _⟩ => ⟨S8x128x8192, .bf16⟩
  | .hbm, ⟨4, _⟩ => ⟨S8x128x8192, .bf16⟩
  | .hbm, ⟨5, _⟩ => ⟨S128x8x8192, .f32⟩
  | .hbm, ⟨6, _⟩ => ⟨S128x8x8192, .f32⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S4x8x1024, .f32⟩
  | .local _ .vmem, ⟨11, _⟩ => ⟨S4x8x1024, .f32⟩
  | .local _ .vmem, ⟨12, _⟩ => ⟨S4x8x1024, .f32⟩
  | .local _ .vmem, ⟨13, _⟩ => ⟨S4x8x1024, .f32⟩
  | .local _ .vmem, ⟨14, _⟩ => ⟨S1024x2048, .f32⟩
  | .local _ .vmem, ⟨15, _⟩ => ⟨S1024x2048, .f32⟩
  | .local _ .vmem, ⟨16, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S8192x2048 : Shape := ⟨2, ![8192, 2048]⟩
abbrev S16384x2048 : Shape := ⟨2, ![16384, 2048]⟩
abbrev S8x128x8192 : Shape := ⟨3, ![8, 128, 8192]⟩
abbrev S128x8x8192 : Shape := ⟨3, ![128, 8, 8192]⟩
abbrev S8192x8x128 : Shape := ⟨3, ![8192, 8, 128]⟩
abbrev S8192x8x1x128 : Shape := ⟨4, ![8192, 8, 1, 128]⟩
abbrev S8192x8x128x1 : Shape := ⟨4, ![8192, 8, 128, 1]⟩
abbrev S8192x8x128x128 : Shape := ⟨4, ![8192, 8, 128, 128]⟩
abbrev S_ : Shape := ⟨0, ![]⟩
abbrev S8192x128x128 : Shape := ⟨3, ![8192, 128, 128]⟩
abbrev S8192x16384 : Shape := ⟨2, ![8192, 16384]⟩
abbrev S2048x16384 : Shape := ⟨2, ![2048, 16384]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S16384x2048, .bf16⟩
  | .hbm, ⟨2, _⟩ => ⟨S16384x2048, .bf16⟩
  | .hbm, ⟨3, _⟩ => ⟨S8x128x8192, .bf16⟩
  | .hbm, ⟨4, _⟩ => ⟨S8x128x8192, .bf16⟩
  | .hbm, ⟨5, _⟩ => ⟨S128x8x8192, .f32⟩
  | .hbm, ⟨6, _⟩ => ⟨S128x8x8192, .f32⟩
  | .hbm, ⟨7, _⟩ => ⟨S8x128x8192, .f32⟩
  | .hbm, ⟨8, _⟩ => ⟨S8192x8x128, .f32⟩
  | .hbm, ⟨9, _⟩ => ⟨S8x128x8192, .f32⟩
  | .hbm, ⟨10, _⟩ => ⟨S8192x8x128, .f32⟩
  | .hbm, ⟨11, _⟩ => ⟨S8192x8x128, .f32⟩
  | .hbm, ⟨12, _⟩ => ⟨S8192x8x128, .f32⟩
  | .hbm, ⟨13, _⟩ => ⟨S8192x8x1x128, .f32⟩
  | .hbm, ⟨14, _⟩ => ⟨S8192x8x128x1, .f32⟩
  | .hbm, ⟨15, _⟩ => ⟨S8192x8x128x128, .f32⟩
  | .hbm, ⟨16, _⟩ => ⟨S8192x8x128x128, .f32⟩
  | .hbm, ⟨17, _⟩ => ⟨S8192x8x128x128, .i1⟩
  | .hbm, ⟨18, _⟩ => ⟨S8192x8x128x1, .f32⟩
  | .hbm, ⟨19, _⟩ => ⟨S8192x8x1x128, .f32⟩
  | .hbm, ⟨20, _⟩ => ⟨S8192x8x128x128, .f32⟩
  | .hbm, ⟨21, _⟩ => ⟨S8192x8x128x128, .f32⟩
  | .hbm, ⟨22, _⟩ => ⟨S8192x8x128x128, .f32⟩
  | .hbm, ⟨23, _⟩ => ⟨S_, .f32⟩
  | .hbm, ⟨24, _⟩ => ⟨S_, .f32⟩
  | .hbm, ⟨25, _⟩ => ⟨S8192x8x128x128, .f32⟩
  | .hbm, ⟨26, _⟩ => ⟨S8192x8x128x128, .f32⟩
  | .hbm, ⟨27, _⟩ => ⟨S_, .f32⟩
  | .hbm, ⟨28, _⟩ => ⟨S8192x128x128, .f32⟩
  | .hbm, ⟨29, _⟩ => ⟨S8192x16384, .f32⟩
  | .hbm, ⟨30, _⟩ => ⟨S8192x2048, .f32⟩
  | .hbm, ⟨31, _⟩ => ⟨S16384x2048, .f32⟩
  | .hbm, ⟨32, _⟩ => ⟨S2048x16384, .f32⟩
  | .hbm, ⟨33, _⟩ => ⟨S8192x16384, .f32⟩
  | .hbm, ⟨34, _⟩ => ⟨S_, .f32⟩
  | .hbm, ⟨35, _⟩ => ⟨S8192x16384, .f32⟩
  | .hbm, ⟨36, _⟩ => ⟨S8192x16384, .f32⟩
  | .hbm, ⟨37, _⟩ => ⟨S8192x16384, .f32⟩
  | .hbm, ⟨38, _⟩ => ⟨S_, .f32⟩
  | .hbm, ⟨39, _⟩ => ⟨S8192x16384, .f32⟩
  | .hbm, ⟨40, _⟩ => ⟨S8192x16384, .f32⟩
  | .hbm, ⟨41, _⟩ => ⟨S8192x16384, .f32⟩
  | .hbm, ⟨42, _⟩ => ⟨S8192x16384, .f32⟩
  | .hbm, ⟨43, _⟩ => ⟨S8192x16384, .f32⟩
  | .hbm, ⟨44, _⟩ => ⟨S16384x2048, .f32⟩
  | .hbm, ⟨45, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Head.lean ====
/-
  One head's chunk of the mLSTM as the kernel computes it, written as vector operations of the head's own slices.
  Each definition is one line of the kernel's loop over the heads; the kernel's four copies of the loop body are these
  functions at the four heads' slices.
-/
module

public import proofs.«01_k».proof.Proof.Gen.KernelIdeal.Skeleton
public import Idealize.ShloMosaic.Lib.Pointwise

@[expose] public section

set_option maxRecDepth 16384
set_option synthInstance.maxSize 4096

noncomputable section

namespace Cert.KernelIdeal.Head

open Idealize.ShloMosaic Cert.KernelIdeal Cert.KernelIdeal.Gen

variable {F : FTy → Type} [FloatOps F]

/-- The decay matrix before the exponential: `b_t - b_s + i_s` at `s ≤ t`, minus infinity elsewhere. -/
def dmat (cau : IVec S128x128 1) (bc : FVec F S128x1 .f32) (br ir : FVec F S1x128 .f32) : FVec F S128x128 .f32 :=
  select cau (addf (subf (broadcastTo S128x128 bc broadcasts_S128x1_S128x128)
    (broadcastTo S128x128 br broadcasts_S1x128_S128x128)) (broadcastTo S128x128 ir broadcasts_S1x128_S128x128))
    (broadcast S128x128 (Scalar.ofBits .f32 0xFF800000#32))

/-- The log weight of the carried state at each row. -/
def inter (bc : FVec F S128x1 .f32) (mp : FVec F S1x1 .f32) : FVec F S128x1 .f32 :=
  addf bc (broadcastTo S128x1 mp broadcasts_S1x1_S128x1)

/-- The row maximum that both weights are scaled by. -/
def mrow (I : FVec F S128x1 .f32) (D : FVec F S128x128 .f32) : FVec F S128x1 .f32 :=
  maximumf I (shapeCast S128x1 (multiReduction .maximumf [1] S128 D 0xFF800000#32 reduces_S128x128_S128 (.inl rfl) rfl)
    shapeCasts_S128_S128x1)

/-- The scores within the chunk, weighted. -/
def scores (q : FVec F S128x256 .bf16) (k : FVec F S128x256 .f32) (D : FVec F S128x128 .f32) (M : FVec F S128x1 .f32) :
    FVec F S128x128 .f32 :=
  mulf (mulf (matmul dot_S128x256_S128x256_S128x128_1_1_0_0_n_n none q (truncf .bf16 k bitsLt_bf16_f32)
      (constant S128x128 .f32 0x00000000#32)) (broadcast S128x128 (Scalar.ofBits .f32 0x3D800000#32)))
    (exp (subf D (broadcastTo S128x128 M broadcasts_S128x1_S128x128)))

/-- Numerator and, in lane 256, denominator. -/
def numden (q : FVec F S128x256 .bf16) (va : FVec F S128x384 .bf16) (S : FVec F S128x128 .f32) (I M : FVec F S128x1 .f32)
    (ca : FVec F S256x384 .f32) : FVec F S128x384 .f32 :=
  addf (mulf (broadcastTo S128x384 (exp (subf I M)) broadcasts_S128x1_S128x384)
      (matmul dot_S128x256_S256x384_S128x384_1_0_0_1_n_n none q (truncf .bf16 ca bitsLt_bf16_f32)
        (constant S128x384 .f32 0x00000000#32)))
    (matmul dot_S128x128_S128x384_S128x384_1_0_0_1_n_n none (truncf .bf16 S bitsLt_bf16_f32) va
      (constant S128x384 .f32 0x00000000#32))

/-- The head's output before its normalisation. -/
def hrow (ND : FVec F S128x384 .f32) (M : FVec F S128x1 .f32) : FVec F S128x256 .f32 :=
  divf (extractStridedSlice S128x256 ![0, 0] ND slices_S128x384_o0_0_S128x256)
    (broadcastTo S128x256 (maximumf (absf (extractStridedSlice S128x1 ![0, 256] ND slices_S128x384_o0_256_S128x1))
      (exp (subf (broadcast S128x1 (Scalar.ofBits .f32 0x00000000#32)) M))) broadcasts_S128x1_S128x256)

/-- The head's output: normalised over its 256 lanes, scaled, gated. -/
def gated (H : FVec F S128x256 .f32) (g : FVec F S1x256 .f32) (o : FVec F S128x256 .f32) : FVec F S128x256 .bf16 :=
  truncf .bf16 (mulf (logistic o) (mulf (mulf H (broadcastTo S128x256 (rsqrt (addf (divf
      (shapeCast S128x1 (multiReduction .add [1] S128 (mulf H H) 0x00000000#32 reduces_S128x256_S128 (.inl rfl) rfl)
        shapeCasts_S128_S128x1) (broadcast S128x1 (Scalar.ofBits .f32 0x43800000#32)))
      (broadcast S128x1 (Scalar.ofBits .f32 0x358637BD#32)))) broadcasts_S128x1_S128x256))
    (broadcastTo S128x256 (shapeCast S1x256 g shapeCasts_S1x256_S1x256) broadcasts_S1x256_S128x256))) bitsLt_bf16_f32

/-- The scale carried to the next chunk: the maximum of the last row. -/
def mnew (M : FVec F S128x1 .f32) : FVec F S1x1 .f32 := extractStridedSlice S1x1 ![127, 0] M slices_S128x1_o127_0_S1x1

/-- The state carried to the next chunk, the normaliser in lane 256. -/
def cnew (k : FVec F S128x256 .f32) (va : FVec F S128x384 .bf16) (bc ic M : FVec F S128x1 .f32) (mp : FVec F S1x1 .f32)
    (ca : FVec F S256x384 .f32) : FVec F S256x384 .f32 :=
  addf (mulf (broadcastTo S256x384 (exp (subf (addf (extractStridedSlice S1x1 ![127, 0] bc slices_S128x1_o127_0_S1x1) mp)
      (mnew M))) broadcasts_S1x1_S256x384) ca)
    (matmul dot_S256x128_S128x384_S256x384_1_0_0_1_n_n none
      (transpose S256x128 [1, 0] (truncf .bf16 (mulf k (broadcastTo S128x256 (mulf (exp (subf (addf (subf
        (broadcastTo S128x1 (extractStridedSlice S1x1 ![127, 0] bc slices_S128x1_o127_0_S1x1) broadcasts_S1x1_S128x1) bc) ic)
        (broadcastTo S128x1 (mnew M) broadcasts_S1x1_S128x1))) (broadcast S128x1 (Scalar.ofBits .f32 0x3D800000#32)))
        broadcasts_S128x1_S128x256)) bitsLt_bf16_f32) transposes_S128x256_p1_0_S256x128) va
      (constant S256x384 .f32 0x00000000#32))

end Cert.KernelIdeal.Head

end
-- ==== Proof.Spec.lean ====
/-
  The mathematics of the layer's mixing step over the extended reals, with no program in sight: one chunk of the
  matrix-memory recurrence for one head, the recurrence over a sequence's chunks, the short causal convolution, and the
  mixed row they make. Both programs are proved to compute `mixed`.
-/
module

public import Idealize.ShloMosaic.Lib.Pointwise

@[expose] public section

set_option maxRecDepth 16384

noncomputable section

namespace Cert.Mix

open Idealize.ShloMosaic

/-- Minus infinity, `1/16`, `256` and the normalisation's epsilon, as the words that both programs write. -/
abbrev negInf : EReal := Ideal.ofBits .f32 4286578688#32
abbrev scale : EReal := Ideal.ofBits .f32 1031798784#32
abbrev lanes : EReal := Ideal.ofBits .f32 1132462080#32
abbrev eps : EReal := Ideal.ofBits .f32 897988541#32

/-- The absolute value of the extended reals as the programs read it. -/
abbrev absv (x : EReal) : EReal := FloatOps.absf (F := Ideal) (φ := .f32) x

/-- The logarithm of the logistic function. -/
def logSigmoid (x : EReal) : EReal := min x 0 - Ideal.log1p (Ideal.exp (0 - absv x))

/-- One head's inputs of one chunk of 128 tokens: queries, keys, values, input gates, logarithms of forget gates. -/
structure Chunk where
  q : Fin 128 → Fin 256 → EReal
  k : Fin 128 → Fin 256 → EReal
  v : Fin 128 → Fin 256 → EReal
  ig : Fin 128 → EReal
  lf : Fin 128 → EReal

/-- One head's carried state: the matrix memory, the normaliser, the scale's logarithm. -/
structure HState where
  C : Fin 256 → Fin 256 → EReal
  n : Fin 256 → EReal
  m : EReal

/-- The state before the first chunk. -/
def HState.zero : HState := ⟨fun _ _ => 0, fun _ => 0, 0⟩

namespace Chunk

variable (x : Chunk) (s : HState)

/-- The sum of the forget gates' logarithms up to token `t`. -/
def b (t : Fin 128) : EReal := ∑ u : Fin 128, if u ≤ t then x.lf u else 0

/-- The logarithm of token `u`'s weight at token `t`. -/
def d (t u : Fin 128) : EReal := if u ≤ t then x.b t - x.b u + x.ig u else negInf

/-- The logarithm of the scale at token `t`. -/
def mt (t : Fin 128) : EReal := max (x.b t + s.m) (Finset.univ.fold max negInf (x.d t))

/-- The weighted scores within the chunk. -/
def sc (t u : Fin 128) : EReal := (∑ i, x.q t i * x.k u i) * scale * Ideal.exp (x.d t u - x.mt s t)

/-- The carried state's weight at token `t`. -/
def a (t : Fin 128) : EReal := Ideal.exp (x.b t + s.m - x.mt s t)

def num (t : Fin 128) (e : Fin 256) : EReal :=
  x.a s t * (∑ i, x.q t i * s.C i e) + ∑ u, x.sc s t u * x.v u e

def den (t : Fin 128) : EReal := x.a s t * (∑ i, x.q t i * s.n i) + ∑ u, x.sc s t u

/-- The head's output at token `t`. -/
def out (t : Fin 128) (e : Fin 256) : EReal :=
  Ideal.div (x.num s t e) (max (absv (x.den s t)) (Ideal.exp (0 - x.mt s t)))

/-- Token `u`'s weight in the state after the chunk. -/
def w (u : Fin 128) : EReal := Ideal.exp (x.b 127 - x.b u + x.ig u - x.mt s 127)

/-- The old state's weight in the state after the chunk. -/
def al : EReal := Ideal.exp (x.b 127 + s.m - x.mt s 127)

/-- The state after the chunk. -/
def next : HState where
  C i e := x.al s * s.C i e + ∑ u, x.k u i * (x.w s u * scale) * x.v u e
  n i := x.al s * s.n i + ∑ u, x.k u i * (x.w s u * scale)
  m := x.mt s 127

end Chunk

/-- The state before chunk `c` of a sequence of chunks. -/
def stateAt (xs : ℕ → Chunk) : ℕ → HState
  | 0 => .zero
  | c + 1 => (xs c).next (stateAt xs c)

/-- A head's 256 lanes normalised by their root mean square and scaled. -/
def rms (H g : Fin 256 → EReal) (e : Fin 256) : EReal :=
  H e * Ideal.rsqrt (Ideal.div (∑ i, H i * H i) lanes + eps) * g e

/-- The arrays that the mixing reads: the projected tokens, the gates' pre-activations, the convolution's weights, the
    gates' bias, the normalisation's scale. -/
structure Args where
  P : Fin 8192 → Fin 7168 → EReal
  gates : Fin 8192 → Fin 128 → EReal
  cw : Fin 3 → Fin 1024 → EReal
  gb : Fin 8 → EReal
  g : Fin 1024 → EReal

namespace Args

variable (A : Args)

/-- Token `t` of the chunk numbered `p` over all sequences. -/
def row (p : ℕ) (t : Fin 128) : Fin 8192 := ⟨(128 * p + t) % 8192, Nat.mod_lt _ (by decide)⟩

/-- Lane `e` of head `h` in the slab of columns that starts at `o`. -/
def lane (o : ℕ) (h : Fin 4) (e : Fin 256) : Fin 7168 := ⟨(o + (256 * h + e)) % 7168, Nat.mod_lt _ (by decide)⟩

/-- Head `h`'s inputs of chunk `p`. -/
def chunk (p : ℕ) (h : Fin 4) : Chunk where
  q t e := A.P (row p t) (lane 3072 h e)
  k t e := A.P (row p t) (lane 4096 h e)
  v t e := A.P (row p t) (lane 5120 h e)
  ig t := A.gates (row p t) ⟨h, by omega⟩ + A.gb ⟨h, by omega⟩
  lf t := logSigmoid (A.gates (row p t) ⟨4 + h, by omega⟩ + A.gb ⟨4 + h, by omega⟩)

/-- Head `h`'s state in sequence `b` before its chunk `c`. -/
def state (b : ℕ) (h : Fin 4) (c : ℕ) : HState := stateAt (fun c => A.chunk (16 * b + c) h) c

/-- The convolution's input at row `r`. -/
def z (r : Fin 8192) (l : Fin 1024) : EReal := A.P r ⟨1024 + l, by omega⟩ * A.P r ⟨2048 + l, by omega⟩

/-- The convolution's input `k` rows before row `r`, zero before the sequence's first row. -/
def zAt (k : ℕ) (r : Fin 8192) (l : Fin 1024) : EReal :=
  if k ≤ r.val % 2048 then A.z ⟨r - k, by omega⟩ l else 0

/-- The short causal convolution, gated. -/
def conv (r : Fin 8192) (l : Fin 1024) : EReal :=
  A.P r ⟨l, by omega⟩ * (A.cw 0 l * A.zAt 2 r l + A.cw 1 l * A.zAt 1 r l + A.cw 2 l * A.z r l)

/-- The output of head `h` at token `t` of chunk `p`, normalised and gated. -/
def head (p : ℕ) (h : Fin 4) (t : Fin 128) (e : Fin 256) : EReal :=
  Ideal.logistic (A.P (row p t) (lane 6144 h e)) *
    rms ((A.chunk p h).out (A.state (p / 16) h (p % 16)) t) (fun i => A.g ⟨256 * h + i, by omega⟩) e

/-- The mixed row: the convolution's 1024 lanes, then the four heads. -/
def mixed (r : Fin 8192) (l : Fin 2048) : EReal :=
  if h : l.val < 1024 then A.conv r ⟨l, h⟩
  else A.head (r / 128) ⟨(l - 1024) / 256, by omega⟩ ⟨r % 128, by omega⟩ ⟨l % 256, by omega⟩

end Args

end Cert.Mix

end
-- ==== Proof.HeadAt.lean ====
/-
  One head's chunk read element by element: where the head's slices hold a chunk's inputs and a state, the vector
  operations of Head.lean hold the chunk's mathematics of Spec.lean.
-/
module

public import proofs.«01_k».proof.Proof.Head
public import proofs.«01_k».proof.Proof.Spec

@[expose] public section

set_option maxRecDepth 16384

noncomputable section

namespace Cert.KernelIdeal.Head

open Idealize.ShloMosaic Cert.KernelIdeal Cert.KernelIdeal.Gen Cert.Mix

/-- A head's slices: what the kernel's loop body works on. -/
structure Slices where
  cau : IVec S128x128 1
  q : FVec Ideal S128x256 .bf16
  k : FVec Ideal S128x256 .f32
  va : FVec Ideal S128x384 .bf16
  bc : FVec Ideal S128x1 .f32
  ic : FVec Ideal S128x1 .f32
  br : FVec Ideal S1x128 .f32
  ir : FVec Ideal S1x128 .f32
  mp : FVec Ideal S1x1 .f32
  ca : FVec Ideal S256x384 .f32

namespace Slices

variable (S : Slices)

def D : FVec Ideal S128x128 .f32 := dmat S.cau S.bc S.br S.ir
def M : FVec Ideal S128x1 .f32 := mrow (inter S.bc S.mp) S.D
def ND : FVec Ideal S128x384 .f32 := numden S.q S.va (scores S.q S.k S.D S.M) (inter S.bc S.mp) S.M S.ca
def H : FVec Ideal S128x256 .f32 := hrow S.ND S.M
def C : FVec Ideal S256x384 .f32 := cnew S.k S.va S.bc S.ic S.M S.mp S.ca

/-- The slices hold the chunk `x` and the state `s`. -/
structure Holds (x : Chunk) (s : HState) : Prop where
  cau : ∀ t u : Fin 128, S.cau (ix2 t u) = if u ≤ t then 1#1 else 0#1
  q : ∀ t d, S.q (ix2 t d) = x.q t d
  k : ∀ t d, S.k (ix2 t d) = x.k t d
  v : ∀ t (e : Fin 256), S.va (ix2 t ⟨e, by omega⟩) = x.v t e
  one : ∀ t, S.va (ix2 t 256) = (1 : EReal)
  bc : ∀ t, S.bc (ix2 t 0) = x.b t
  br : ∀ t, S.br (ix2 0 t) = x.b t
  ic : ∀ t, S.ic (ix2 t 0) = x.ig t
  ir : ∀ t, S.ir (ix2 0 t) = x.ig t
  mp : S.mp (ix2 0 0) = s.m
  C : ∀ i (e : Fin 256), S.ca (ix2 i ⟨e, by omega⟩) = s.C i e
  n : ∀ i, S.ca (ix2 i 256) = s.n i

variable {S} {x : Chunk} {s : HState} (h : S.Holds x s)
include h

theorem D_apply (t u : Fin 128) : S.D (ix2 t u) = x.d t u := by
  pointwise [D, dmat]
  rw [h.cau, h.bc, h.br, h.ir]
  unfold Chunk.d
  split <;> rfl

theorem M_apply (t : Fin 128) : S.M (ix2 t 0) = x.mt s t := by
  pointwise [M, mrow, inter]
  rw [h.bc, h.mp]
  simp only [D_apply h]
  rfl

theorem scores_apply (t u : Fin 128) : scores S.q S.k S.D S.M (ix2 t u) = x.sc s t u := by
  pointwise [scores]
  simp only [h.q, h.k, D_apply h, M_apply h]
  rfl

theorem num_apply (t : Fin 128) (e : Fin 256) : S.ND (ix2 t ⟨e, by omega⟩) = x.num s t e := by
  pointwise [ND, numden, inter]
  simp only [h.q, h.bc, h.mp, M_apply h, scores_apply h, h.v, h.C]
  rfl

theorem den_apply (t : Fin 128) : S.ND (ix2 t 256) = x.den s t := by
  pointwise [ND, numden, inter]
  simp only [h.q, h.bc, h.mp, M_apply h, scores_apply h, h.one, h.n, mul_one]
  rfl

theorem H_apply (t : Fin 128) (e : Fin 256) : S.H (ix2 t e) = x.out s t e := by
  pointwise [H, hrow]
  simp only [num_apply h, den_apply h, M_apply h]
  rfl

theorem C_apply (i : Fin 256) (e : Fin 256) : S.C (ix2 i ⟨e, by omega⟩) = (x.next s).C i e := by
  pointwise [C, cnew, mnew]
  simp only [h.k, h.bc, h.ic, h.mp, M_apply h, h.v, h.C]
  rfl

theorem n_apply (i : Fin 256) : S.C (ix2 i 256) = (x.next s).n i := by
  pointwise [C, cnew, mnew]
  simp only [h.k, h.bc, h.ic, h.mp, M_apply h, h.one, h.n, mul_one]
  rfl

theorem m_apply : mnew S.M (ix2 0 0) = (x.next s).m := by
  pointwise [mnew]
  exact M_apply h 127

/-- The head's block of the result. -/
theorem gated_apply (g : FVec Ideal S1x256 .f32) (o : FVec Ideal S128x256 .f32) (t : Fin 128) (e : Fin 256) :
    gated S.H g o (ix2 t e) = Ideal.logistic (o (ix2 t e)) * rms (x.out s t) (fun i => g (ix2 0 i)) e := by
  pointwise [gated]
  simp only [H_apply h]
  rfl

end Slices

end Cert.KernelIdeal.Head

end
-- ==== Proof.Heads.lean ====
/-
  The kernel's four copies of the loop body over the heads, each the functions of Head.lean at that head's slices.
-/
module

public import proofs.«01_k».proof.Proof.HeadAt

@[expose] public section

set_option maxRecDepth 16384

noncomputable section

namespace Cert.KernelIdeal.Head

open Idealize.ShloMosaic Cert.KernelIdeal Cert.KernelIdeal.Gen

theorem slices_ic : ∀ h : Fin 4, S128x128.Slices ![0, h.val] S128x1 := by decide
theorem slices_bc : ∀ h : Fin 4, S128x128.Slices ![0, 4 + h.val] S128x1 := by decide
theorem slices_ir : ∀ h : Fin 4, S8x128.Slices ![h.val, 0] S1x128 := by decide
theorem slices_br : ∀ h : Fin 4, S8x128.Slices ![4 + h.val, 0] S1x128 := by decide

/-- Head `h`'s slices of the gates and their running sums (as columns and as rows), beside its own lanes and state. -/
def ofVecs (h : Fin 4) (gcol BC : FVec Ideal S128x128 .f32) (grow BR : FVec Ideal S8x128 .f32)
    (q k v : FVec Ideal S128x256 .f32) (mp : FVec Ideal S1x1 .f32) (ca : FVec Ideal S1x256x384 .f32) : Slices where
  cau := k0_pay17
  q := truncf .bf16 q bitsLt_bf16_f32
  k := k
  va := concatenate S128x384 1 [⟨S128x256, truncf .bf16 v bitsLt_bf16_f32⟩,
    ⟨S128x128, k0_pay20 (F := Ideal)⟩] concatenates_S128x256_S128x128_S128x384_d1
  bc := extractStridedSlice S128x1 ![0, 4 + h.val] BC (slices_bc h)
  ic := extractStridedSlice S128x1 ![0, h.val] gcol (slices_ic h)
  br := extractStridedSlice S1x128 ![4 + h.val, 0] BR (slices_br h)
  ir := extractStridedSlice S1x128 ![h.val, 0] grow (slices_ir h)
  mp := mp
  ca := shapeCast S256x384 ca shapeCasts_S1x256x384_S256x384

variable (gcol BC : FVec Ideal S128x128 .f32) (grow BR : FVec Ideal S8x128 .f32)
  (q k v : FVec Ideal S128x256 .f32) (mp : FVec Ideal S1x1 .f32) (ca : FVec Ideal S1x256x384 .f32)
  (g : FVec Ideal S1x256 .f32) (o : FVec Ideal S128x256 .f32)

theorem peak_0 : k0_pay27 grow k0_pay17 BC BR mp = (ofVecs 0 gcol BC grow BR q k v mp ca).M := by
  rfl

theorem out_0 : k0_pay30 (k0_pay29 grow k0_pay17 BC BR (k0_pay21 q) k (k0_pay22 v) mp ca) g o =
    gated (ofVecs 0 gcol BC grow BR q k v mp ca).H g o := by
  rfl

theorem memory_0 : k0_pay32 k (k0_pay22 v) (k0_pay23 gcol) (k0_pay24 BC) mp (k0_pay27 grow k0_pay17 BC BR mp) (k0_pay28 ca) =
    shapeCast S1x256x384 (ofVecs 0 gcol BC grow BR q k v mp ca).C shapeCasts_S256x384_S1x256x384 := by
  rfl

/-- The scale as it is stored, over 128 lanes. -/
theorem scale_0 : k0_pay34 (k0_pay33 (k0_pay27 grow k0_pay17 BC BR mp)) =
    shapeCast S1x128 (broadcastTo S1x128 (shapeCast S1x1 (mnew (ofVecs 0 gcol BC grow BR q k v mp ca).M) shapeCasts_S1x1_S1x1)
      broadcasts_S1x1_S1x128) shapeCasts_S1x128_S1x128 := by
  rfl

theorem peak_1 : k0_pay41 grow k0_pay17 BC BR mp = (ofVecs 1 gcol BC grow BR q k v mp ca).M := by
  rfl

theorem out_1 : k0_pay45 (k0_pay36 k0_pay20 v) (k0_pay41 grow k0_pay17 BC BR mp) (k0_pay43 grow k0_pay17 BC BR q mp ca) (k0_pay44 grow k0_pay17 BC BR q k mp) g o =
    gated (ofVecs 1 gcol BC grow BR q k v mp ca).H g o := by
  rfl

theorem memory_1 : k0_pay50 (k0_pay36 k0_pay20 v) (k0_pay42 ca) (k0_pay48 k (k0_pay37 gcol) (k0_pay38 BC) (k0_pay41 grow k0_pay17 BC BR mp))
      (k0_pay49 (k0_pay38 BC) mp (k0_pay41 grow k0_pay17 BC BR mp)) =
    shapeCast S1x256x384 (ofVecs 1 gcol BC grow BR q k v mp ca).C shapeCasts_S256x384_S1x256x384 := by
  rfl

/-- The scale as it is stored, over 128 lanes. -/
theorem scale_1 : k0_pay51 (k0_pay46 (k0_pay41 grow k0_pay17 BC BR mp)) =
    shapeCast S1x128 (broadcastTo S1x128 (shapeCast S1x1 (mnew (ofVecs 1 gcol BC grow BR q k v mp ca).M) shapeCasts_S1x1_S1x1)
      broadcasts_S1x1_S1x128) shapeCasts_S1x128_S1x128 := by
  rfl

theorem peak_2 : k0_pay58 grow k0_pay17 BC BR mp = (ofVecs 2 gcol BC grow BR q k v mp ca).M := by
  rfl

theorem out_2 : k0_pay62 (k0_pay52 q) (k0_pay53 k0_pay20 v) (k0_pay57 BC mp) (k0_pay58 grow k0_pay17 BC BR mp) (k0_pay59 grow k0_pay17 BC BR mp) (k0_pay60 q k)
      (FloatOps.ofBits FTy.f32 1031798784#32) ca g o =
    gated (ofVecs 2 gcol BC grow BR q k v mp ca).H g o := by
  rfl

theorem memory_2 : k0_pay65 k (k0_pay53 k0_pay20 v) (k0_pay54 gcol) (k0_pay55 BC) mp (k0_pay61 ca) (k0_pay63 (k0_pay58 grow k0_pay17 BC BR mp))
      (k0_pay64 (k0_pay55 BC)) =
    shapeCast S1x256x384 (ofVecs 2 gcol BC grow BR q k v mp ca).C shapeCasts_S256x384_S1x256x384 := by
  rfl

/-- The scale as it is stored, over 128 lanes. -/
theorem scale_2 : k0_pay66 (k0_pay63 (k0_pay58 grow k0_pay17 BC BR mp)) =
    shapeCast S1x128 (broadcastTo S1x128 (shapeCast S1x1 (mnew (ofVecs 2 gcol BC grow BR q k v mp ca).M) shapeCasts_S1x1_S1x1)
      broadcasts_S1x1_S1x128) shapeCasts_S1x128_S1x128 := by
  rfl

theorem peak_3 : k0_pay74 k0_pay17 (k0_pay70 BC) mp (k0_pay71 grow BC BR) = (ofVecs 3 gcol BC grow BR q k v mp ca).M := by
  rfl

theorem out_3 : k0_pay79 (k0_pay76 k0_pay17 (k0_pay67 q) k (k0_pay68 k0_pay20 v) (k0_pay70 BC) mp (k0_pay71 grow BC BR) ca) (k0_pay77 g)
      (k0_pay78 k0_pay17 (k0_pay67 q) k (k0_pay68 k0_pay20 v) (k0_pay70 BC) mp (k0_pay71 grow BC BR) ca) o =
    gated (ofVecs 3 gcol BC grow BR q k v mp ca).H g o := by
  rfl

theorem memory_3 : k0_pay81 k (k0_pay68 k0_pay20 v) (k0_pay69 gcol) (k0_pay70 BC) mp (k0_pay74 k0_pay17 (k0_pay70 BC) mp (k0_pay71 grow BC BR)) (k0_pay75 ca) =
    shapeCast S1x256x384 (ofVecs 3 gcol BC grow BR q k v mp ca).C shapeCasts_S256x384_S1x256x384 := by
  rfl

/-- The scale as it is stored, over 128 lanes. -/
theorem scale_3 : k0_pay1 (k0_pay82 (k0_pay74 k0_pay17 (k0_pay70 BC) mp (k0_pay71 grow BC BR))) =
    shapeCast S1x128 (broadcastTo S1x128 (shapeCast S1x1 (mnew (ofVecs 3 gcol BC grow BR q k v mp ca).M) shapeCasts_S1x1_S1x1)
      broadcasts_S1x1_S1x128) shapeCasts_S1x128_S1x128 := by
  rfl

end Cert.KernelIdeal.Head

end
-- ==== Proof.Point.lean ====
/-
  One grid point of the mixing kernel: what its blocks of the results and its carried buffers hold, in terms of the
  point's input blocks and of what the buffers held before.
-/
module

public import proofs.«01_k».proof.Proof.Heads
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Point

open Idealize.ShloMosaic Cert.KernelIdeal Cert.KernelIdeal.Gen Cert.KernelIdeal.Value Cert.KernelIdeal.Head

/-- A point's input blocks. -/
structure Blocks where
  bc : FVec Ideal S128x1024 .f32
  cc : FVec Ideal S128x1024 .f32
  uc : FVec Ideal S128x1024 .f32
  q : FVec Ideal S128x1024 .f32
  k : FVec Ideal S128x1024 .f32
  v : FVec Ideal S128x1024 .f32
  o : FVec Ideal S128x1024 .f32
  gcol : FVec Ideal S128x128 .f32
  grow : FVec Ideal S8x128 .f32
  cw : FVec Ideal S3x1024 .f32
  gbc : FVec Ideal S1x128 .f32
  gbr : FVec Ideal S8x1 .f32
  g : FVec Ideal S1x1024 .f32

/-- What the carried buffers hold: the augmented memories, the scales, the convolution's last rows. -/
structure Carry where
  ca : FVec Ideal S4x256x384 .f32
  m : FVec Ideal S8x128 .f32
  z : FVec Ideal S8x1024 .f32

/-- The buffers before a sequence's first chunk. -/
def Carry.zero : Carry := ⟨k0_pay6, k0_pay7, k0_pay8⟩

theorem inb_head : ∀ (h : Fin 4) (a : Fin 2), (![0, 256 * h.val] : Fin 2 → Nat) a + S128x256.size a ≤ S128x1024.size a := by
  decide
theorem inb_scale : ∀ (h : Fin 4) (a : Fin 2), (![0, 256 * h.val] : Fin 2 → Nat) a + S1x256.size a ≤ S1x1024.size a := by
  decide
theorem inb_m : ∀ (h : Fin 4) (a : Fin 2), (![h.val, 0] : Fin 2 → Nat) a + S1x1.size a ≤ S8x128.size a := by decide
theorem inb_ca : ∀ (h : Fin 4) (a : Fin 3),
    (![h.val, 0, 0] : Fin 3 → Nat) a + S1x256x384.size a ≤ S4x256x384.size a := by decide
variable (X : Blocks) (Y : Carry) (h : Fin 4)

/-- Head `h`'s lanes of a slab. -/
def headLanes (x : FVec Ideal S128x1024 .f32) : FVec Ideal S128x256 .f32 :=
  View.ld (Val := Elt Ideal) (e' := .f32) x (Rect.unit (s := S128x1024) ![0, 256 * h.val] S128x256.size (inb_head h))

/-- Head `h`'s lanes of the normalisation's scale. -/
def headScale : FVec Ideal S1x256 .f32 :=
  View.ld (Val := Elt Ideal) (e' := .f32) X.g (Rect.unit (s := S1x1024) ![0, 256 * h.val] S1x256.size (inb_scale h))

/-- Head `h`'s carried scale and memory. -/
def headM : FVec Ideal S1x1 .f32 :=
  View.ld (Val := Elt Ideal) (e' := .f32) Y.m (Rect.unit (s := S8x128) ![h.val, 0] S1x1.size (inb_m h))
def headCa : FVec Ideal S1x256x384 .f32 :=
  View.ld (Val := Elt Ideal) (e' := .f32) Y.ca (Rect.unit (s := S4x256x384) ![h.val, 0, 0] S1x256x384.size (inb_ca h))

/-- Head `h`'s slices of the point's blocks and of the carried buffers. -/
def slices : Slices :=
  ofVecs h (k0_pay15 X.gcol X.gbc) (k0_pay18 (k0_pay15 X.gcol X.gbc)) (k0_pay16 X.grow X.gbr) (k0_pay19 X.grow X.gbr)
    (headLanes h X.q) (headLanes h X.k) (headLanes h X.v) (headM Y h) (headCa Y h)

/-- Head `h`'s block of the result. -/
def headOut : FVec Ideal S128x256 .bf16 := gated (slices X Y h).H (headScale X h) (headLanes h X.o)

/-- The convolution's block of the result. -/
def convOut : FVec Ideal S128x1024 .bf16 :=
  k0_pay14 (k0_pay9 X.cc X.uc) (iota Kind.tc S128x1024 32 [0] iota_S128x1024_d0_w32) (k0_pay10 Y.z) (k0_pay11 Y.z) k0_pay12
    X.cw X.bc

variable (m : (ℓ : Loc nD τ sig) → Buf (Elt Ideal) ℓ) (c : Dev nD)

/-- The point's blocks of the call's arguments. -/
def blocks (t : Fin cfg0.N) : Blocks where
  bc := iblk m c 0 t
  cc := iblk m c 1 t
  uc := iblk m c 2 t
  q := iblk m c 3 t
  k := iblk m c 4 t
  v := iblk m c 5 t
  o := iblk m c 6 t
  gcol := iblk m c 7 t
  grow := iblk m c 8 t
  cw := iblk m c 9 t
  gbc := iblk m c 10 t
  gbr := iblk m c 11 t
  g := iblk m c 12 t

/-- What a point leaves: its blocks of the five results and the three carried buffers. -/
abbrev Left : Type := Vec Ideal S128x2048 .bf16 × Vec Ideal S256x2048 .bf16 × Vec Ideal S32x2048 .bf16 ×
  Vec Ideal S32x2048 .bf16 × Vec Ideal S32x2048 .bf16 × Vec Ideal S4x256x384 .f32 × Vec Ideal S8x128 .f32 ×
  Vec Ideal S8x1024 .f32

/-- The carried buffers among what a point leaves. -/
def carry (acc : Left) : Carry := ⟨acc.2.2.2.2.2.1, acc.2.2.2.2.2.2.1, acc.2.2.2.2.2.2.2⟩

/-- The block of the mixed rows. -/
def rows (t : Fin 128) (l : Fin 2048) : EReal :=
  if hl : l.val < 1024 then convOut X Y (ix2 t ⟨l, hl⟩)
  else headOut X Y ⟨(l - 1024) / 256, by omega⟩ (ix2 t ⟨l % 256, by omega⟩)

theorem rows_head (t : Fin 128) (e : Fin 256) (l : Fin 2048) (hl : l.val = 1024 + 256 * h + e) :
    rows X Y t l = headOut X Y h (ix2 t e) := by
  have h1 : ¬ l.val < 1024 := by omega
  have h2 : (⟨(l - 1024) / 256, by omega⟩ : Fin 4) = h := Fin.ext (by simp only; omega)
  have h3 : (⟨l % 256, by omega⟩ : Fin 256) = e := Fin.ext (by simp only; omega)
  rw [rows, dif_neg h1, h2, h3]

theorem rows_conv (t : Fin 128) (l : Fin 2048) (l' : Fin 1024) (hl : l.val = l') :
    rows X Y t l = convOut X Y (ix2 t l') := by
  have h1 : l.val < 1024 := hl ▸ l'.isLt
  have h2 : (⟨l.val, h1⟩ : Fin 1024) = l' := Fin.ext hl
  rw [rows, dif_pos h1, h2]

/-- The five stores of the rows, each holding its part. -/
theorem rows_stores (w3 w2 w1 w0 : Vec Ideal S128x256 .bf16) (wc : Vec Ideal S128x1024 .bf16)
    (h3 : w3 = headOut X Y 3) (h2 : w2 = headOut X Y 2) (h1 : w1 = headOut X Y 1) (h0 : w0 = headOut X Y 0)
    (hc : wc = convOut X Y) (r : Fin 128) (l : Fin 2048) :
    View.canon (Val := Elt Ideal) (s := S128x2048) (e := .bf16) [⟨Rect.unit (s := S128x2048) ![0, 1792] S128x256.size inb_S128x2048_S128x256_0_1792, w3⟩,
      ⟨Rect.unit (s := S128x2048) ![0, 1536] S128x256.size inb_S128x2048_S128x256_0_1536, w2⟩,
      ⟨Rect.unit (s := S128x2048) ![0, 1280] S128x256.size inb_S128x2048_S128x256_0_1280, w1⟩,
      ⟨Rect.unit (s := S128x2048) ![0, 1024] S128x256.size inb_S128x2048_S128x256_0_1024, w0⟩,
      ⟨Rect.unit (s := S128x2048) ![0, 0] S128x1024.size inb_S128x2048_S128x1024_0_0, wc⟩] (ix2 r l) =
    rows X Y r l := by
  subst h3 h2 h1 h0 hc
  canon_tiles x h using View.cover_of_tiledBy _ ![128, 256] (by sl_kernel_rfl) _
  · idx_vars x
    obtain rfl : r = x0 := Fin.ext h0
    exact (rows_head X Y 3 r x1 l (by omega)).symm
  · idx_vars x
    obtain rfl : r = x0 := Fin.ext h0
    exact (rows_head X Y 2 r x1 l (by omega)).symm
  · idx_vars x
    obtain rfl : r = x0 := Fin.ext h0
    exact (rows_head X Y 1 r x1 l (by omega)).symm
  · idx_vars x
    obtain rfl : r = x0 := Fin.ext h0
    exact (rows_head X Y 0 r x1 l (by omega)).symm
  · idx_vars x
    obtain rfl : r = x0 := Fin.ext h0
    exact (rows_conv X Y r l x1 h1).symm

/-- The augmented memories after the point. -/
def nextCa : FVec Ideal S4x256x384 .f32 := fun i => (slices X Y (i 0)).C (ix2 (i 1) (i 2))

/-- The scales after the point, in the first four rows. -/
def nextM : FVec Ideal S8x128 .f32 := fun i =>
  if hi : (i 0).val < 4 then mnew (slices X Y ⟨(i 0).val, hi⟩).M (ix2 0 0) else 0

/-- A memory as it is stored, at its place among the four. -/
theorem stored_ca (w : FVec Ideal S1x256x384 .f32)
    (hw : w = shapeCast S1x256x384 (slices X Y h).C shapeCasts_S256x384_S1x256x384) (i : S1x256x384.Idx) :
    w i = nextCa X Y ((Rect.unit (s := S4x256x384) ![h.val, 0, 0] S1x256x384.size (inb_ca h)).emb i) := by
  subst hw
  idx_vars i
  obtain rfl : i0 = 0 := Subsingleton.elim _ _
  have e0 : ((Rect.unit (s := S4x256x384) ![h.val, 0, 0] S1x256x384.size (inb_ca h)).emb (ix3 0 i1 i2)) 0 = h :=
    Fin.ext (by show h.val + 1 * 0 = h.val; omega)
  have e1 : ((Rect.unit (s := S4x256x384) ![h.val, 0, 0] S1x256x384.size (inb_ca h)).emb (ix3 0 i1 i2)) 1 = i1 :=
    Fin.ext (by show 0 + 1 * i1.val = i1.val; omega)
  have e2 : ((Rect.unit (s := S4x256x384) ![h.val, 0, 0] S1x256x384.size (inb_ca h)).emb (ix3 0 i1 i2)) 2 = i2 :=
    Fin.ext (by show 0 + 1 * i2.val = i2.val; omega)
  unfold nextCa
  rw [e0, e1, e2]
  pointwise

/-- A scale as it is stored, at its place. -/
theorem stored_m (w : FVec Ideal S1x128 .f32)
    (hw : w = shapeCast S1x128 (broadcastTo S1x128 (shapeCast S1x1 (mnew (slices X Y h).M) shapeCasts_S1x1_S1x1)
      broadcasts_S1x1_S1x128) shapeCasts_S1x128_S1x128)
    (inb : ∀ a, (![h.val, 0] : Fin 2 → Nat) a + S1x128.size a ≤ S8x128.size a) (i : S1x128.Idx) :
    w i = nextM X Y ((Rect.unit (s := S8x128) ![h.val, 0] S1x128.size inb).emb i) := by
  subst hw
  idx_vars i
  pointwise
  obtain rfl : i0 = 0 := Subsingleton.elim _ _
  have e0 : (((Rect.unit (s := S8x128) ![h.val, 0] S1x128.size inb).emb (ix2 0 i1)) 0).val = h.val := by
    show h.val + 1 * 0 = h.val
    omega
  unfold nextM
  have hl : (((Rect.unit (s := S8x128) ![h.val, 0] S1x128.size inb).emb (ix2 0 i1)) 0).val < 4 := by
    rw [e0]
    exact h.isLt
  rw [dif_pos hl]
  have e1 : (⟨_, hl⟩ : Fin 4) = h := Fin.ext e0
  rw [e1]

/-- The four stores of the memories, and of the scales. -/
abbrev caStores (w3 w2 w1 w0 : Vec Ideal S1x256x384 .f32) : List (View.Piece (Elt Ideal) S4x256x384 .f32) :=
  [⟨Rect.unit (s := S4x256x384) ![3, 0, 0] S1x256x384.size inb_S4x256x384_S1x256x384_3_0_0, w3⟩,
    ⟨Rect.unit (s := S4x256x384) ![2, 0, 0] S1x256x384.size inb_S4x256x384_S1x256x384_2_0_0, w2⟩,
    ⟨Rect.unit (s := S4x256x384) ![1, 0, 0] S1x256x384.size inb_S4x256x384_S1x256x384_1_0_0, w1⟩,
    ⟨Rect.unit (s := S4x256x384) ![0, 0, 0] S1x256x384.size inb_S4x256x384_S1x256x384_0_0_0, w0⟩]
abbrev mStores (w3 w2 w1 w0 : Vec Ideal S1x128 .f32) : List (View.Piece (Elt Ideal) S8x128 .f32) :=
  [⟨Rect.unit (s := S8x128) ![3, 0] S1x128.size inb_S8x128_S1x128_3_0, w3⟩,
    ⟨Rect.unit (s := S8x128) ![2, 0] S1x128.size inb_S8x128_S1x128_2_0, w2⟩,
    ⟨Rect.unit (s := S8x128) ![1, 0] S1x128.size inb_S8x128_S1x128_1_0, w1⟩,
    ⟨Rect.unit (s := S8x128) ![0, 0] S1x128.size inb_S8x128_S1x128_0_0, w0⟩]

/-- The four stores of the memories, over any earlier ones. -/
theorem ca_stores (w3 w2 w1 w0 : Vec Ideal S1x256x384 .f32)
    (h3 : w3 = shapeCast S1x256x384 (slices X Y 3).C shapeCasts_S256x384_S1x256x384)
    (h2 : w2 = shapeCast S1x256x384 (slices X Y 2).C shapeCasts_S256x384_S1x256x384)
    (h1 : w1 = shapeCast S1x256x384 (slices X Y 1).C shapeCasts_S256x384_S1x256x384)
    (h0 : w0 = shapeCast S1x256x384 (slices X Y 0).C shapeCasts_S256x384_S1x256x384)
    (L : List (View.Piece (Elt Ideal) S4x256x384 .f32)) :
    View.canon (Val := Elt Ideal) (s := S4x256x384) (e := .f32) (caStores w3 w2 w1 w0 ++ L) = nextCa X Y :=
  funext fun y => View.canon_append_of_piecesOf (nextCa X Y) L (caStores w3 w2 w1 w0) (by
      refine ⟨?_, ?_, ?_, ?_, trivial⟩
      · exact stored_ca X Y 3 w3 h3
      · exact stored_ca X Y 2 w2 h2
      · exact stored_ca X Y 1 w1 h1
      · exact stored_ca X Y 0 w0 h0) y
    (View.cover_of_tiledBy _ ![1, 256, 384] (by sl_kernel_rfl) y)

/-- Row `h` of the scales is the store of head `h`. -/
theorem mem_m (w3 w2 w1 w0 : Vec Ideal S1x128 .f32) :
    ∃ p ∈ mStores w3 w2 w1 w0, (ix2 (⟨h.val, by omega⟩ : Fin 8) (0 : Fin 128) : S8x128.Idx) ∈ p.1.set := by
  have hm : ∀ (k : Fin 4) (inb), (ix2 (⟨k.val, by omega⟩ : Fin 8) (0 : Fin 128) : S8x128.Idx) ∈
      (Rect.unit (s := S8x128) ![k.val, 0] S1x128.size inb).set := by
    intro k inb
    rw [Rect.mem_set_unit]
    intro a
    match a with
    | 0 => exact ⟨le_refl k.val, Nat.lt_succ_self k.val⟩
    | 1 => exact ⟨le_refl 0, (by decide : (0 : Nat) < 0 + 128)⟩
  match h with
  | 0 => exact ⟨_, .tail _ (.tail _ (.tail _ (.head _))), hm 0 inb_S8x128_S1x128_0_0⟩
  | 1 => exact ⟨_, .tail _ (.tail _ (.head _)), hm 1 inb_S8x128_S1x128_1_0⟩
  | 2 => exact ⟨_, .tail _ (.head _), hm 2 inb_S8x128_S1x128_2_0⟩
  | 3 => exact ⟨_, .head _, hm 3 inb_S8x128_S1x128_3_0⟩

/-- A scale as it is stored, over 128 lanes. -/
abbrev wide (x : FVec Ideal S1x1 .f32) : FVec Ideal S1x128 .f32 :=
  shapeCast S1x128 (broadcastTo S1x128 (shapeCast S1x1 x shapeCasts_S1x1_S1x1) broadcasts_S1x1_S1x128)
    shapeCasts_S1x128_S1x128

theorem m_stores (w3 w2 w1 w0 : Vec Ideal S1x128 .f32) (h3 : w3 = wide (mnew (slices X Y 3).M))
    (h2 : w2 = wide (mnew (slices X Y 2).M)) (h1 : w1 = wide (mnew (slices X Y 1).M)) (h0 : w0 = wide (mnew (slices X Y 0).M))
    (L : List (View.Piece (Elt Ideal) S8x128 .f32)) :
    View.canon (Val := Elt Ideal) (s := S8x128) (e := .f32) (mStores w3 w2 w1 w0 ++ L) (ix2 ⟨h.val, by omega⟩ 0) =
      mnew (slices X Y h).M (ix2 0 0) := by
  refine (View.canon_append_of_piecesOf (nextM X Y) L (mStores w3 w2 w1 w0)
    (by
      refine ⟨?_, ?_, ?_, ?_, trivial⟩
      · exact stored_m X Y 3 w3 h3 inb_S8x128_S1x128_3_0
      · exact stored_m X Y 2 w2 h2 inb_S8x128_S1x128_2_0
      · exact stored_m X Y 1 w1 h1 inb_S8x128_S1x128_1_0
      · exact stored_m X Y 0 w0 h0 inb_S8x128_S1x128_0_0) _ (mem_m h w3 w2 w1 w0)).trans ?_
  unfold nextM
  exact dif_pos h.isLt

/-- The same of a buffer that the four stores do not fill, whatever it held. -/
theorem m_stores_over {sig' : RefSig} {κ : Kind} {sp : Space} (b : View sig' κ sp S8x128 .f32) (f : b.ty.Contents (Elt Ideal))
    (w3 w2 w1 w0 : Vec Ideal S1x128 .f32) (h3 : w3 = wide (mnew (slices X Y 3).M))
    (h2 : w2 = wide (mnew (slices X Y 2).M)) (h1 : w1 = wide (mnew (slices X Y 1).M)) (h0 : w0 = wide (mnew (slices X Y 0).M)) :
    View.read (Elt Ideal) b (b.writes (Elt Ideal) f (mStores w3 w2 w1 w0)) (ix2 ⟨h.val, by omega⟩ 0) =
      mnew (slices X Y h).M (ix2 0 0) := by
  rw [View.read_writes_apply_eq_canon b f _ _ (mem_m h w3 w2 w1 w0)]
  exact m_stores X Y h w3 w2 w1 w0 h3 h2 h1 h0 []

end Cert.KernelIdeal.Point

end
-- ==== Proof.Left.lean ====
/-
  What one grid point leaves, at its first chunk (where it clears the carried buffers) and at a later one.
-/
module

public import proofs.«01_k».proof.Proof.Point

@[expose] public section

set_option maxRecDepth 16384

noncomputable section

namespace Cert.KernelIdeal.Point

open Idealize.ShloMosaic Cert.KernelIdeal Cert.KernelIdeal.Gen Cert.KernelIdeal.Value Cert.KernelIdeal.Head

variable (m : (ℓ : Loc nD τ sig) → Buf (Elt Ideal) ℓ) (c : Dev nD)

set_option maxHeartbeats 2000000 in
theorem left_B_rows (t : Fin cfg0.N) (acc : Left) (hp : ¬ t.val % 16 = 0) (r : Fin 128) (l : Fin 2048) :
    (stAt0 m c t.val t.isLt acc).1 (ix2 r l) = rows (blocks m c t) (carry acc) r l := by
  rw [stAt0_B m c t acc hp]
  dsimp only
  frame_out
  simp only [read_unread_whole]
  exact rows_stores (blocks m c t) (carry acc) _ _ _ _ _
    (out_3 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 3 (blocks m c t).q) (headLanes 3 (blocks m c t).k) (headLanes 3 (blocks m c t).v) (headM (carry acc) 3) (headCa (carry acc) 3) (headScale (blocks m c t) 3) (headLanes 3 (blocks m c t).o))
    (out_2 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 2 (blocks m c t).q) (headLanes 2 (blocks m c t).k) (headLanes 2 (blocks m c t).v) (headM (carry acc) 2) (headCa (carry acc) 2) (headScale (blocks m c t) 2) (headLanes 2 (blocks m c t).o))
    (out_1 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 1 (blocks m c t).q) (headLanes 1 (blocks m c t).k) (headLanes 1 (blocks m c t).v) (headM (carry acc) 1) (headCa (carry acc) 1) (headScale (blocks m c t) 1) (headLanes 1 (blocks m c t).o))
    (out_0 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 0 (blocks m c t).q) (headLanes 0 (blocks m c t).k) (headLanes 0 (blocks m c t).v) (headM (carry acc) 0) (headCa (carry acc) 0) (headScale (blocks m c t) 0) (headLanes 0 (blocks m c t).o)) rfl r l

set_option maxHeartbeats 2000000 in
theorem left_B_ca (t : Fin cfg0.N) (acc : Left) (hp : ¬ t.val % 16 = 0) :
    (stAt0 m c t.val t.isLt acc).2.2.2.2.2.1 = nextCa (blocks m c t) (carry acc) := by
  rw [stAt0_B m c t acc hp]
  dsimp only
  frame_out
  simp only [read_unread_whole]
  exact ca_stores (blocks m c t) (carry acc) _ _ _ _
    (memory_3 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 3 (blocks m c t).q) (headLanes 3 (blocks m c t).k) (headLanes 3 (blocks m c t).v) (headM (carry acc) 3) (headCa (carry acc) 3))
    (memory_2 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 2 (blocks m c t).q) (headLanes 2 (blocks m c t).k) (headLanes 2 (blocks m c t).v) (headM (carry acc) 2) (headCa (carry acc) 2))
    (memory_1 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 1 (blocks m c t).q) (headLanes 1 (blocks m c t).k) (headLanes 1 (blocks m c t).v) (headM (carry acc) 1) (headCa (carry acc) 1))
    (memory_0 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 0 (blocks m c t).q) (headLanes 0 (blocks m c t).k) (headLanes 0 (blocks m c t).v) (headM (carry acc) 0) (headCa (carry acc) 0)) _

set_option maxHeartbeats 2000000 in
theorem left_B_m (t : Fin cfg0.N) (acc : Left) (hp : ¬ t.val % 16 = 0) (h : Fin 4) :
    (stAt0 m c t.val t.isLt acc).2.2.2.2.2.2.1 (ix2 ⟨h.val, by omega⟩ 0) = mnew (slices (blocks m c t) (carry acc) h).M (ix2 0 0) := by
  rw [stAt0_B m c t acc hp]
  dsimp only
  frame_out
  simp only [read_unread_whole]
  exact m_stores_over (blocks m c t) (carry acc) h _ _ _ _ _ _
    (scale_3 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 3 (blocks m c t).q) (headLanes 3 (blocks m c t).k) (headLanes 3 (blocks m c t).v) (headM (carry acc) 3) (headCa (carry acc) 3))
    (scale_2 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 2 (blocks m c t).q) (headLanes 2 (blocks m c t).k) (headLanes 2 (blocks m c t).v) (headM (carry acc) 2) (headCa (carry acc) 2))
    (scale_1 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 1 (blocks m c t).q) (headLanes 1 (blocks m c t).k) (headLanes 1 (blocks m c t).v) (headM (carry acc) 1) (headCa (carry acc) 1))
    (scale_0 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 0 (blocks m c t).q) (headLanes 0 (blocks m c t).k) (headLanes 0 (blocks m c t).v) (headM (carry acc) 0) (headCa (carry acc) 0))

set_option maxHeartbeats 2000000 in
theorem left_B_z (t : Fin cfg0.N) (acc : Left) (hp : ¬ t.val % 16 = 0) :
    (carry (stAt0 m c t.val t.isLt acc)).z = k0_pay13 (k0_pay9 (blocks m c t).cc (blocks m c t).uc) := by
  rw [stAt0_B m c t acc hp]
  dsimp only [carry]
  frame_out
  rfl

set_option maxHeartbeats 2000000 in
theorem left_B_tables (t : Fin cfg0.N) (acc : Left) (hp : ¬ t.val % 16 = 0) :
    (stAt0 m c t.val t.isLt acc).2.1 = k0_pay2 (iblk m c 13 t) ∧
    (stAt0 m c t.val t.isLt acc).2.2.1 = k0_pay3 (iblk m c 14 t) ∧
    (stAt0 m c t.val t.isLt acc).2.2.2.1 = k0_pay4 (iblk m c 15 t) ∧
    (stAt0 m c t.val t.isLt acc).2.2.2.2.1 = k0_pay5 (iblk m c 16 t) := by
  rw [stAt0_B m c t acc hp]
  dsimp only
  frame_out
  repeat' first | exact trivial | rfl | apply And.intro

set_option maxHeartbeats 2000000 in
theorem left_A_rows (t : Fin cfg0.N) (acc : Left) (hp : t.val % 16 = 0) (r : Fin 128) (l : Fin 2048) :
    (stAt0 m c t.val t.isLt acc).1 (ix2 r l) = rows (blocks m c t) .zero r l := by
  rw [stAt0_A m c t acc hp]
  dsimp only
  frame_open
  simp (disch := decide) only [↓ View.readCov_skip, ↓ View.readCov_cons_toLoadRect, ↓ View.readCov_fill]
  frame_out
  exact rows_stores (blocks m c t) .zero _ _ _ _ _
    (out_3 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 3 (blocks m c t).q) (headLanes 3 (blocks m c t).k) (headLanes 3 (blocks m c t).v) (headM .zero 3) (headCa .zero 3) (headScale (blocks m c t) 3) (headLanes 3 (blocks m c t).o))
    (out_2 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 2 (blocks m c t).q) (headLanes 2 (blocks m c t).k) (headLanes 2 (blocks m c t).v) (headM .zero 2) (headCa .zero 2) (headScale (blocks m c t) 2) (headLanes 2 (blocks m c t).o))
    (out_1 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 1 (blocks m c t).q) (headLanes 1 (blocks m c t).k) (headLanes 1 (blocks m c t).v) (headM .zero 1) (headCa .zero 1) (headScale (blocks m c t) 1) (headLanes 1 (blocks m c t).o))
    (out_0 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 0 (blocks m c t).q) (headLanes 0 (blocks m c t).k) (headLanes 0 (blocks m c t).v) (headM .zero 0) (headCa .zero 0) (headScale (blocks m c t) 0) (headLanes 0 (blocks m c t).o)) rfl r l

set_option maxHeartbeats 2000000 in
theorem left_A_ca (t : Fin cfg0.N) (acc : Left) (hp : t.val % 16 = 0) :
    (stAt0 m c t.val t.isLt acc).2.2.2.2.2.1 = nextCa (blocks m c t) .zero := by
  rw [stAt0_A m c t acc hp]
  dsimp only
  frame_open
  simp (disch := decide) only [↓ View.readCov_skip, ↓ View.readCov_cons_toLoadRect, ↓ View.readCov_fill]
  frame_out
  exact ca_stores (blocks m c t) .zero _ _ _ _
    (memory_3 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 3 (blocks m c t).q) (headLanes 3 (blocks m c t).k) (headLanes 3 (blocks m c t).v) (headM .zero 3) (headCa .zero 3))
    (memory_2 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 2 (blocks m c t).q) (headLanes 2 (blocks m c t).k) (headLanes 2 (blocks m c t).v) (headM .zero 2) (headCa .zero 2))
    (memory_1 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 1 (blocks m c t).q) (headLanes 1 (blocks m c t).k) (headLanes 1 (blocks m c t).v) (headM .zero 1) (headCa .zero 1))
    (memory_0 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 0 (blocks m c t).q) (headLanes 0 (blocks m c t).k) (headLanes 0 (blocks m c t).v) (headM .zero 0) (headCa .zero 0)) _

set_option maxHeartbeats 2000000 in
theorem left_A_m (t : Fin cfg0.N) (acc : Left) (hp : t.val % 16 = 0) (h : Fin 4) :
    (stAt0 m c t.val t.isLt acc).2.2.2.2.2.2.1 (ix2 ⟨h.val, by omega⟩ 0) = mnew (slices (blocks m c t) .zero h).M (ix2 0 0) := by
  rw [stAt0_A m c t acc hp]
  dsimp only
  frame_open
  simp (disch := decide) only [↓ View.readCov_skip, ↓ View.readCov_cons_toLoadRect, ↓ View.readCov_fill]
  frame_out
  exact m_stores (blocks m c t) .zero h _ _ _ _
    (scale_3 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 3 (blocks m c t).q) (headLanes 3 (blocks m c t).k) (headLanes 3 (blocks m c t).v) (headM .zero 3) (headCa .zero 3))
    (scale_2 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 2 (blocks m c t).q) (headLanes 2 (blocks m c t).k) (headLanes 2 (blocks m c t).v) (headM .zero 2) (headCa .zero 2))
    (scale_1 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 1 (blocks m c t).q) (headLanes 1 (blocks m c t).k) (headLanes 1 (blocks m c t).v) (headM .zero 1) (headCa .zero 1))
    (scale_0 (k0_pay15 (blocks m c t).gcol (blocks m c t).gbc) (k0_pay18 (k0_pay15 (blocks m c t).gcol (blocks m c t).gbc)) (k0_pay16 (blocks m c t).grow (blocks m c t).gbr) (k0_pay19 (blocks m c t).grow (blocks m c t).gbr)
      (headLanes 0 (blocks m c t).q) (headLanes 0 (blocks m c t).k) (headLanes 0 (blocks m c t).v) (headM .zero 0) (headCa .zero 0)) _

set_option maxHeartbeats 2000000 in
theorem left_A_z (t : Fin cfg0.N) (acc : Left) (hp : t.val % 16 = 0) :
    (carry (stAt0 m c t.val t.isLt acc)).z = k0_pay13 (k0_pay9 (blocks m c t).cc (blocks m c t).uc) := by
  rw [stAt0_A m c t acc hp]
  dsimp only [carry]
  frame_open
  simp (disch := decide) only [↓ View.readCov_skip, ↓ View.readCov_cons_toLoadRect, ↓ View.readCov_fill]
  frame_out
  rfl

set_option maxHeartbeats 2000000 in
theorem left_A_tables (t : Fin cfg0.N) (acc : Left) (hp : t.val % 16 = 0) :
    (stAt0 m c t.val t.isLt acc).2.1 = k0_pay2 (iblk m c 13 t) ∧
    (stAt0 m c t.val t.isLt acc).2.2.1 = k0_pay3 (iblk m c 14 t) ∧
    (stAt0 m c t.val t.isLt acc).2.2.2.1 = k0_pay4 (iblk m c 15 t) ∧
    (stAt0 m c t.val t.isLt acc).2.2.2.2.1 = k0_pay5 (iblk m c 16 t) := by
  rw [stAt0_A m c t acc hp]
  dsimp only
  frame_open
  simp (disch := decide) only [↓ View.readCov_skip, ↓ View.readCov_cons_toLoadRect, ↓ View.readCov_fill]
  frame_out
  repeat' first | exact trivial | rfl | apply And.intro

end Cert.KernelIdeal.Point

end
-- ==== Proof.Inputs.lean ====
/-
  What a point's input blocks hold, read off the call's arguments: the slabs of the projected tokens, the gates as
  columns and as rows, the bias, the convolution's weights and the normalisation's scale.
-/
module

public import proofs.«01_k».proof.Proof.Point
public import Idealize.ShloMosaic.Lib.Pipeline.ValueKit

@[expose] public section

set_option maxRecDepth 16384

noncomputable section

namespace Cert.KernelIdeal.Point

open Idealize.ShloMosaic Idealize.ShloMosaic.TcCoe Cert.KernelIdeal Cert.KernelIdeal.Gen Cert.KernelIdeal.Value
open Cert.KernelIdeal.Head Cert.Mix

variable (m : (ℓ : Loc nD τ sig) → Buf (Elt Ideal) ℓ) (c : Dev nD)

/-- The call's arguments as the arrays of the mathematics. -/
def args : Args where
  P r l := m ((c : Thread nD τ).loc main_arg0) (ix2 r l)
  gates r l := m ((c : Thread nD τ).loc main_arg1) (ix2 r l)
  cw k l := m ((c : Thread nD τ).loc main_arg2) (ix3 0 k l)
  gb i := m ((c : Thread nD τ).loc main_arg3) (ix2 0 i)
  g l := m ((c : Thread nD τ).loc main_arg4) (ix2 0 l)

/-- The gates as rows: the first eight columns, transposed. -/
theorem V_rows : V m c main_v2 = (transpose S8x8192 [1, 0] (extractStridedSlice S8192x8 ![0, 0]
    (m ((c : Thread nD τ).loc main_arg1)) slices_S8192x128_S8192x8_0_0) transposes_S8192x8_S8x8192_1_0 :
      FVec Ideal S8x8192 .f32) := by
  show StableHlo.after [hostOps0, hostOps0_1, hostOps0_2].flatten (fun b => m (c, b)) (Proc.tc.devRef main_v2) = _
  simp only [List.flatten_cons, List.flatten_nil, List.append_nil, StableHlo.after_append]
  after_results

theorem V_conv : V m c main_v3 = (shapeCast S3x1024 (m ((c : Thread nD τ).loc main_arg2)) shapeCasts_S1x3x1024_S3x1024 :
      FVec Ideal S3x1024 .f32) := by
  show StableHlo.after [hostOps0, hostOps0_1, hostOps0_2].flatten (fun b => m (c, b)) (Proc.tc.devRef main_v3) = _
  simp only [List.flatten_cons, List.flatten_nil, List.append_nil, StableHlo.after_append]
  after_results
  rfl

/-- The bias as a row, padded to 128 lanes. -/
theorem V_bias_row : V m c main_v5 = (shapeCast S1x128 (pad S128 ![0] ![120] ![0]
    (shapeCast S8 (m ((c : Thread nD τ).loc main_arg3)) shapeCasts_S1x8_S8)
    (sitofp (F := Ideal) .f32 (constantI S_ 32 0#32)) pads_S8_S128_01200 h_S_) shapeCasts_S128_S1x128 :
      FVec Ideal S1x128 .f32) := by
  show StableHlo.after [hostOps0, hostOps0_1, hostOps0_2].flatten (fun b => m (c, b)) (Proc.tc.devRef main_v5) = _
  simp only [List.flatten_cons, List.flatten_nil, List.append_nil, StableHlo.after_append]
  after_results
  rfl

theorem V_bias_col : V m c main_v6 = (shapeCast S8x1 (shapeCast S8 (m ((c : Thread nD τ).loc main_arg3))
    shapeCasts_S1x8_S8) shapeCasts_S8_S8x1 : FVec Ideal S8x1 .f32) := by
  show StableHlo.after [hostOps0, hostOps0_1, hostOps0_2].flatten (fun b => m (c, b)) (Proc.tc.devRef main_v6) = _
  simp only [List.flatten_cons, List.flatten_nil, List.append_nil, StableHlo.after_append]
  after_results
  rfl

theorem V_scale : V m c main_v8 = (shapeCast S1x1024 (shapeCast S1024 (m ((c : Thread nD τ).loc main_arg4))
    shapeCasts_S1x1024_S1024) shapeCasts_S1024_S1x1024 : FVec Ideal S1x1024 .f32) := by
  show StableHlo.after [hostOps0, hostOps0_1, hostOps0_2].flatten (fun b => m (c, b)) (Proc.tc.devRef main_v8) = _
  simp only [List.flatten_cons, List.flatten_nil, List.append_nil, StableHlo.after_append]
  after_results
  rfl

/-- Where each window's block lies, at every point. -/
theorem index_facts : ∀ t : Fin cfg0.N,
    (win0_0.index t (0 : Fin 2) = t.val ∧ win0_0.index t (1 : Fin 2) = 0) ∧
    (win0_1.index t (0 : Fin 2) = t.val ∧ win0_1.index t (1 : Fin 2) = 1) ∧
    (win0_2.index t (0 : Fin 2) = t.val ∧ win0_2.index t (1 : Fin 2) = 2) ∧
    (win0_3.index t (0 : Fin 2) = t.val ∧ win0_3.index t (1 : Fin 2) = 3) ∧
    (win0_4.index t (0 : Fin 2) = t.val ∧ win0_4.index t (1 : Fin 2) = 4) ∧
    (win0_5.index t (0 : Fin 2) = t.val ∧ win0_5.index t (1 : Fin 2) = 5) ∧
    (win0_6.index t (0 : Fin 2) = t.val ∧ win0_6.index t (1 : Fin 2) = 6) ∧
    (win0_7.index t (0 : Fin 2) = t.val ∧ win0_7.index t (1 : Fin 2) = 0) ∧
    (win0_8.index t (0 : Fin 2) = 0 ∧ win0_8.index t (1 : Fin 2) = t.val) ∧
    (win0_9.index t (0 : Fin 2) = 0 ∧ win0_9.index t (1 : Fin 2) = 0) ∧
    (win0_10.index t (0 : Fin 2) = 0 ∧ win0_10.index t (1 : Fin 2) = 0) ∧
    (win0_11.index t (0 : Fin 2) = 0 ∧ win0_11.index t (1 : Fin 2) = 0) ∧
    (win0_12.index t (0 : Fin 2) = 0 ∧ win0_12.index t (1 : Fin 2) = 0) ∧
    (win0_13.index t (0 : Fin 2) = t.val ∧ win0_13.index t (1 : Fin 2) = 0) ∧
    (win0_14.index t (0 : Fin 2) = t.val ∧ win0_14.index t (1 : Fin 2) = 0) ∧
    (win0_15.index t (0 : Fin 2) = t.val ∧ win0_15.index t (1 : Fin 2) = 0) ∧
    (win0_16.index t (0 : Fin 2) = t.val ∧ win0_16.index t (1 : Fin 2) = 0) :=
  (by decide +kernel : ∀ t : Fin grid0.N, _)

theorem lt_points (t : Fin cfg0.N) : t.val < 64 := lt_of_lt_of_eq t.isLt N_0

variable (t : Fin cfg0.N)

theorem bc_at (r : Fin 128) (l : Fin 1024) : (blocks m c t).bc (ix2 r l) =
    (args m c).P (Args.row t.val r) ⟨0 + l.val, by omega⟩ := by
  have ht := lt_points t
  have e := (index_facts t).1
  dsimp only [blocks, args]
  blk_simp [iblk, V_main_arg0, e]
  blk_ext [Args.row, e]

theorem cc_at (r : Fin 128) (l : Fin 1024) : (blocks m c t).cc (ix2 r l) =
    (args m c).P (Args.row t.val r) ⟨1024 + l.val, by omega⟩ := by
  have ht := lt_points t
  have e := (index_facts t).2.1
  dsimp only [blocks, args]
  blk_simp [iblk, V_main_arg0, e]
  blk_ext [Args.row, e]

theorem uc_at (r : Fin 128) (l : Fin 1024) : (blocks m c t).uc (ix2 r l) =
    (args m c).P (Args.row t.val r) ⟨2048 + l.val, by omega⟩ := by
  have ht := lt_points t
  have e := (index_facts t).2.2.1
  dsimp only [blocks, args]
  blk_simp [iblk, V_main_arg0, e]
  blk_ext [Args.row, e]

theorem q_at (r : Fin 128) (l : Fin 1024) : (blocks m c t).q (ix2 r l) =
    (args m c).P (Args.row t.val r) ⟨3072 + l.val, by omega⟩ := by
  have ht := lt_points t
  have e := (index_facts t).2.2.2.1
  dsimp only [blocks, args]
  blk_simp [iblk, V_main_arg0, e]
  blk_ext [Args.row, e]

theorem k_at (r : Fin 128) (l : Fin 1024) : (blocks m c t).k (ix2 r l) =
    (args m c).P (Args.row t.val r) ⟨4096 + l.val, by omega⟩ := by
  have ht := lt_points t
  have e := (index_facts t).2.2.2.2.1
  dsimp only [blocks, args]
  blk_simp [iblk, V_main_arg0, e]
  blk_ext [Args.row, e]

theorem v_at (r : Fin 128) (l : Fin 1024) : (blocks m c t).v (ix2 r l) =
    (args m c).P (Args.row t.val r) ⟨5120 + l.val, by omega⟩ := by
  have ht := lt_points t
  have e := (index_facts t).2.2.2.2.2.1
  dsimp only [blocks, args]
  blk_simp [iblk, V_main_arg0, e]
  blk_ext [Args.row, e]

theorem o_at (r : Fin 128) (l : Fin 1024) : (blocks m c t).o (ix2 r l) =
    (args m c).P (Args.row t.val r) ⟨6144 + l.val, by omega⟩ := by
  have ht := lt_points t
  have e := (index_facts t).2.2.2.2.2.2.1
  dsimp only [blocks, args]
  blk_simp [iblk, V_main_arg0, e]
  blk_ext [Args.row, e]

theorem gcol_at (r : Fin 128) (l : Fin 128) : (blocks m c t).gcol (ix2 r l) = (args m c).gates (Args.row t.val r) l := by
  have ht := lt_points t
  have e := (index_facts t).2.2.2.2.2.2.2.1
  dsimp only [blocks, args]
  blk_simp [iblk, V_main_arg1, e]
  blk_ext [Args.row, e]

theorem rows_apply (x : FVec Ideal S8192x128 .f32) (k : Fin 8) (R : Fin 8192) :
    (transpose S8x8192 [1, 0] (extractStridedSlice S8192x8 ![0, 0] x slices_S8192x128_S8192x8_0_0)
      transposes_S8192x8_S8x8192_1_0 : FVec Ideal S8x8192 .f32) (ix2 k R) = x (ix2 R ⟨k, by omega⟩) := by
  pointwise

theorem grow_at (k : Fin 8) (r : Fin 128) : (blocks m c t).grow (ix2 k r) =
    (args m c).gates (Args.row t.val r) ⟨k, by omega⟩ := by
  have ht := lt_points t
  have e := (index_facts t).2.2.2.2.2.2.2.2.1
  have hr : Args.row t.val r = ⟨128 * t.val + r, by omega⟩ := Fin.ext (Nat.mod_eq_of_lt (by omega))
  have he : (win0_8.blk t).view.emb (ix2 k r) = ix2 k (Args.row t.val r) := by
    rw [hr]
    funext a
    apply Fin.ext
    match a with
    | 0 =>
      show win0_8.index t 0 * 8 + 1 * k.val = k.val
      rw [e.1]
      omega
    | 1 =>
      show win0_8.index t 1 * 128 + 1 * r.val = 128 * t.val + r.val
      rw [e.2]
      omega
  exact (congrArg (V m c main_v2) he).trans ((congrFun (V_rows m c) _).trans (rows_apply _ k _))

theorem conv_apply (x : FVec Ideal S1x3x1024 .f32) (k : Fin 3) (l : Fin 1024) :
    shapeCast S3x1024 x shapeCasts_S1x3x1024_S3x1024 (ix2 k l) = x (ix3 0 k l) := by
  pointwise

theorem cw_at (k : Fin 3) (l : Fin 1024) : (blocks m c t).cw (ix2 k l) = (args m c).cw k l := by
  have e := (index_facts t).2.2.2.2.2.2.2.2.2.1
  have he : (win0_9.blk t).view.emb (ix2 k l) = ix2 k l := by
    funext a
    apply Fin.ext
    match a with
    | 0 =>
      show win0_9.index t 0 * 3 + 1 * k.val = k.val
      rw [e.1]
      omega
    | 1 =>
      show win0_9.index t 1 * 1024 + 1 * l.val = l.val
      rw [e.2]
      omega
  exact (congrArg (V m c main_v3) he).trans ((congrFun (V_conv m c) _).trans (conv_apply _ k l))

theorem gbc_at (k : Fin 8) : (blocks m c t).gbc (ix2 0 ⟨k, by omega⟩) = (args m c).gb k := by
  have ht := lt_points t
  have e := (index_facts t).2.2.2.2.2.2.2.2.2.2.1
  have he : (win0_10.blk t).view.emb (ix2 0 ⟨k, by omega⟩) = ix2 0 ⟨k, by omega⟩ := by
    blk_ext [Args.row, e]
  refine (congrArg (V m c main_v5) he).trans ?_
  rw [V_bias_row]
  dsimp only [args]
  pointwise

theorem gbr_at (k : Fin 8) : (blocks m c t).gbr (ix2 k 0) = (args m c).gb k := by
  have ht := lt_points t
  have e := (index_facts t).2.2.2.2.2.2.2.2.2.2.2.1
  have he : (win0_11.blk t).view.emb (ix2 k 0) = ix2 k 0 := by
    blk_ext [Args.row, e]
  refine (congrArg (V m c main_v6) he).trans ?_
  rw [V_bias_col]
  dsimp only [args]
  pointwise

theorem g_at (l : Fin 1024) : (blocks m c t).g (ix2 0 l) = (args m c).g l := by
  have ht := lt_points t
  have e := (index_facts t).2.2.2.2.2.2.2.2.2.2.2.2.1
  have he : (win0_12.blk t).view.emb (ix2 0 l) = ix2 0 l := by
    blk_ext [Args.row, e]
  refine (congrArg (V m c main_v8) he).trans ?_
  rw [V_scale]
  dsimp only [args]
  pointwise

end Cert.KernelIdeal.Point

end
-- ==== Proof.Holds.lean ====
/-
  A head's slices of a point's blocks hold the chunk's inputs, and of the carried buffers the head's state.
-/
module

public import proofs.«01_k».proof.Proof.Inputs

@[expose] public section

set_option maxRecDepth 16384

noncomputable section

namespace Cert.KernelIdeal.Point

open Idealize.ShloMosaic Idealize.ShloMosaic.TcCoe Cert.KernelIdeal Cert.KernelIdeal.Gen Cert.KernelIdeal.Value
open Cert.KernelIdeal.Head Cert.Mix

theorem number_zero : FloatOps.sitofp (F := Ideal) .f32 (0#32) = (0 : EReal) := by
  show (((0#32 : BitVec 32).toInt : ℝ) : EReal) = 0
  simp

theorem number_one : FloatOps.sitofp (F := Ideal) .f32 (1#32) = (1 : EReal) := by
  show (((1#32 : BitVec 32).toInt : ℝ) : EReal) = 1
  have : (1#32 : BitVec 32).toInt = 1 := by decide
  rw [this]
  simp

/-- A mask's bit as a number, times a value. -/
theorem bit_mul (p : Prop) [Decidable p] (x : EReal) :
    FloatOps.sitofp (F := Ideal) .f32 (BitVec.setWidth 32 (if p then 1#1 else 0#1)) * x = if p then x else 0 := by
  split
  · exact (congrArg (· * x) number_one).trans (one_mul x)
  · exact (congrArg (· * x) number_zero).trans (zero_mul x)

theorem mul_bit (p : Prop) [Decidable p] (x : EReal) :
    x * FloatOps.sitofp (F := Ideal) .f32 (BitVec.setWidth 32 (if p then 1#1 else 0#1)) = if p then x else 0 := by
  rw [mul_comm]
  exact bit_mul p x

theorem ofBool_ite (p : Prop) [Decidable p] : BitVec.ofBool (decide p) = if p then 1#1 else 0#1 := by
  by_cases h : p <;> simp [h]

/-- The causal mask. -/
theorem causal_apply (t u : Fin 128) : k0_pay17 (ix2 t u) = if u ≤ t then 1#1 else 0#1 := by
  pointwise [k0_pay17]
  rw [WordCmp.cmpi_sge_ofNat (by omega) (by omega), ofBool_ite]
  rfl

theorem gate_col (gcol : FVec Ideal S128x128 .f32) (gbc : FVec Ideal S1x128 .f32) (r k : Fin 128) :
    k0_pay15 gcol gbc (ix2 r k) = gcol (ix2 r k) + gbc (ix2 0 k) := by
  pointwise [k0_pay15]

theorem gate_row (grow : FVec Ideal S8x128 .f32) (gbr : FVec Ideal S8x1 .f32) (k : Fin 8) (r : Fin 128) :
    k0_pay16 grow gbr (ix2 k r) = grow (ix2 k r) + gbr (ix2 k 0) := by
  pointwise [k0_pay16]

/-- The running sums of the forget gates' logarithms, as columns. -/
theorem sum_col (x : FVec Ideal S128x128 .f32) (r k : Fin 128) :
    k0_pay18 x (ix2 r k) = ∑ u, if u ≤ r then logSigmoid (x (ix2 u k)) else 0 := by
  pointwise [k0_pay18, causal_apply]
  exact Finset.sum_congr rfl fun u _ => bit_mul (u ≤ r) _

/-- The same as rows. -/
theorem sum_row (x : FVec Ideal S8x128 .f32) (y : FVec Ideal S8x1 .f32) (k : Fin 8) (r : Fin 128) :
    (k0_pay19 x y : FVec Ideal S8x128 .f32) (ix2 k r) = ∑ u, if u ≤ r then logSigmoid ((k0_pay16 x y : FVec Ideal S8x128 .f32) (ix2 k u)) else 0 := by
  pointwise [k0_pay19]
  refine Finset.sum_congr rfl fun u _ => ?_
  rw [WordCmp.cmpi_sle_ofNat (by omega) (by omega), ofBool_ite]
  exact mul_bit (u ≤ r) _

/-- The column of ones beside the values. -/
theorem ones (t : Fin 128) : k0_pay20 (F := Ideal) (ix2 t 0) = (1 : EReal) := by
  pointwise [k0_pay20]
  exact number_one

variable (Y : Carry) (h : Fin 4)

/-- The carried buffers hold the four heads' states. -/
structure Carry.Is (s : Fin 4 → HState) : Prop where
  C : ∀ h i (e : Fin 256), Y.ca (ix3 h i ⟨e, by omega⟩) = (s h).C i e
  n : ∀ h i, Y.ca (ix3 h i 256) = (s h).n i
  m : ∀ h : Fin 4, Y.m (ix2 ⟨h, by omega⟩ 0) = (s h).m

theorem headLanes_apply (x : FVec Ideal S128x1024 .f32) (t : Fin 128) (e : Fin 256) :
    headLanes h x (ix2 t e) = x (ix2 t ⟨256 * h + e, by omega⟩) := by
  refine congrArg x (funext fun a => Fin.ext ?_)
  match a with
  | 0 =>
    show 0 + 1 * t.val = t.val
    omega
  | 1 =>
    show 256 * h.val + 1 * e.val = 256 * h.val + e.val
    omega

theorem headScale_apply (X : Blocks) (e : Fin 256) : headScale X h (ix2 0 e) = X.g (ix2 0 ⟨256 * h + e, by omega⟩) := by
  refine congrArg X.g (funext fun a => Fin.ext ?_)
  match a with
  | 0 => rfl
  | 1 =>
    show 256 * h.val + 1 * e.val = 256 * h.val + e.val
    omega

theorem headM_apply : headM Y h (ix2 0 0) = Y.m (ix2 ⟨h, by omega⟩ 0) := by
  refine congrArg Y.m (funext fun a => Fin.ext ?_)
  match a with
  | 0 => rfl
  | 1 => rfl

theorem headCa_apply (i : Fin 256) (e : Fin 384) : headCa Y h (ix3 0 i e) = Y.ca (ix3 h i e) := by
  refine congrArg Y.ca (funext fun a => Fin.ext ?_)
  match a with
  | 0 => rfl
  | 1 =>
    show 0 + 1 * i.val = i.val
    omega
  | 2 =>
    show 0 + 1 * e.val = e.val
    omega

variable (m : (ℓ : Loc nD τ sig) → Buf (Elt Ideal) ℓ) (c : Dev nD) (t : Fin cfg0.N)

theorem lane_eq (o : Nat) (ho : o + 1024 ≤ 7168) (e : Fin 256) :
    (⟨o + (256 * h.val + e.val), by omega⟩ : Fin 7168) = Args.lane o h e :=
  Fin.ext (Nat.mod_eq_of_lt (by omega)).symm

theorem gates_at (k : Fin 8) (r : Fin 128) :
    (k0_pay15 (blocks m c t).gcol (blocks m c t).gbc : FVec Ideal S128x128 .f32) (ix2 r ⟨k, by omega⟩) =
      (args m c).gates (Args.row t.val r) ⟨k, by omega⟩ + (args m c).gb k := by
  rw [gate_col, gcol_at, gbc_at]

theorem gates_at_row (k : Fin 8) (r : Fin 128) :
    (k0_pay16 (blocks m c t).grow (blocks m c t).gbr : FVec Ideal S8x128 .f32) (ix2 k r) =
      (args m c).gates (Args.row t.val r) ⟨k, by omega⟩ + (args m c).gb k := by
  rw [gate_row, grow_at, gbr_at]

/-- A head's slices at a point hold its chunk's inputs and its state. -/
theorem slices_hold {s : Fin 4 → HState} (hY : Y.Is s) :
    (slices (blocks m c t) Y h).Holds ((args m c).chunk t.val h) (s h) where
  cau t u := causal_apply t u
  q r d := by
    refine (headLanes_apply h _ r d).trans ((q_at m c t r _).trans ?_)
    exact congrArg _ (lane_eq h 3072 (by omega) d)
  k r d := by
    refine (headLanes_apply h _ r d).trans ((k_at m c t r _).trans ?_)
    exact congrArg _ (lane_eq h 4096 (by omega) d)
  v r e := by
    pointwise [slices, ofVecs]
    refine (headLanes_apply h _ r e).trans ((v_at m c t r _).trans ?_)
    exact congrArg _ (lane_eq h 5120 (by omega) e)
  one r := by
    pointwise [slices, ofVecs]
    exact ones r
  bc r := by
    pointwise [slices, ofVecs]
    refine (sum_col _ r _).trans (Finset.sum_congr rfl fun u _ => ?_)
    exact congrArg (fun x => if u ≤ r then logSigmoid x else 0) (gates_at m c t ⟨4 + h, by omega⟩ u)
  br r := by
    pointwise [slices, ofVecs]
    refine (sum_row _ _ _ r).trans (Finset.sum_congr rfl fun u _ => ?_)
    exact congrArg (fun x => if u ≤ r then logSigmoid x else 0) (gates_at_row m c t ⟨4 + h, by omega⟩ u)
  ic r := by
    pointwise [slices, ofVecs]
    exact gates_at m c t ⟨h, by omega⟩ r
  ir r := by
    pointwise [slices, ofVecs]
    exact gates_at_row m c t ⟨h, by omega⟩ r
  mp := (headM_apply Y h).trans (hY.m h)
  C i e := by
    pointwise [slices, ofVecs]
    exact (headCa_apply Y h i _).trans (hY.C h i e)
  n i := by
    pointwise [slices, ofVecs]
    exact (headCa_apply Y h i _).trans (hY.n h i)

/-- The carried rows are the convolution's inputs of the two tokens before chunk `p`, zero before a sequence's start. -/
structure Carry.Near (A : Args) (p : ℕ) : Prop where
  one : ∀ l, Y.z (ix2 7 l) = A.zAt 1 (Args.row p 0) l
  two : ∀ l, Y.z (ix2 6 l) = A.zAt 2 (Args.row p 0) l

theorem row_val {p : ℕ} (hp : p < 64) (r : Fin 128) : (Args.row p r).val = 128 * p + r := Nat.mod_eq_of_lt (by omega)

theorem select_eq {α : Type} (r n : ℕ) (hr : r < 128) (hn : n < 128) (x y : α) :
    Scalar.select (IntOp.cmpi .eq (BitVec.ofNat 32 r) (BitVec.ofNat 32 n)) x y = if r = n then x else y := by
  rw [WordCmp.cmpi_eq_ofNat (by omega) (by omega)]
  by_cases h : r = n <;> simp [h, Scalar.select]

theorem z_at (r : Fin 128) (l : Fin 1024) :
    (blocks m c t).cc (ix2 r l) * (blocks m c t).uc (ix2 r l) = (args m c).z (Args.row t.val r) l := by
  rw [cc_at, uc_at]
  rfl

/-- The input some rows up, where those rows lie in the same chunk. -/
theorem zAt_in (A : Args) {p : ℕ} (hp : p < 64) (k : ℕ) (r r' : Fin 128) (l : Fin 1024) (hr : k + r'.val = r.val) :
    A.zAt k (Args.row p r) l = A.z (Args.row p r') l := by
  have h1 := row_val hp r
  have h2 := row_val hp r'
  rw [Args.zAt, if_pos (by omega)]
  exact congrArg (A.z · l) (Fin.ext (by simp only; omega))

theorem zAt_up (A : Args) {p : ℕ} (hp : p < 64) (l : Fin 1024) :
    A.zAt 2 (Args.row p 1) l = A.zAt 1 (Args.row p 0) l := by
  have h1 : (Args.row p 1).val = 128 * p + 1 := row_val hp 1
  have h2 : (Args.row p 0).val = 128 * p := row_val hp 0
  unfold Args.zAt
  by_cases h : 1 ≤ (Args.row p 0).val % 2048
  · rw [if_pos h, if_pos (by omega)]
    exact congrArg (A.z · l) (Fin.ext (by simp only; omega))
  · rw [if_neg h, if_neg (by omega)]

/-- The convolution's block. -/
theorem convOut_apply (hY : Y.Near (args m c) t.val) (r : Fin 128) (l : Fin 1024) :
    convOut (blocks m c t) Y (ix2 r l) = (args m c).conv (Args.row t.val r) l := by
  have ht := lt_points t
  pointwise [convOut, k0_pay9, k0_pay10, k0_pay11, k0_pay12, k0_pay14]
  simp only [z_at, bc_at, cw_at, hY.one, hY.two]
  rw [select_eq r 0 r.isLt (by omega), select_eq r 1 r.isLt (by omega), select_eq r 0 r.isLt (by omega)]
  have e1 : (if r.val = 0 then (args m c).zAt 1 (Args.row t.val 0) l
      else (args m c).z (Args.row t.val ⟨(r.val + 128 - 1) % 128, Nat.mod_lt _ (by omega)⟩) l) =
      (args m c).zAt 1 (Args.row t.val r) l := by
    split
    · rename_i h
      obtain rfl : r = 0 := Fin.ext h
      rfl
    · exact (zAt_in _ ht 1 r _ l (by simp only; omega)).symm
  have e2 : (if r.val = 0 then (args m c).zAt 2 (Args.row t.val 0) l
      else if r.val = 1 then (args m c).zAt 1 (Args.row t.val 0) l
      else (args m c).z (Args.row t.val ⟨(r.val + 128 - 2) % 128, Nat.mod_lt _ (by omega)⟩) l) =
      (args m c).zAt 2 (Args.row t.val r) l := by
    split
    · rename_i h
      obtain rfl : r = 0 := Fin.ext h
      rfl
    · split
      · rename_i h
        obtain rfl : r = 1 := Fin.ext h
        exact (zAt_up _ ht l).symm
      · exact (zAt_in _ ht 2 r _ l (by simp only; omega)).symm
  rw [e1, e2]
  unfold Args.conv
  congr 2
  exact Fin.ext (Nat.zero_add _)

/-- The rows that a point carries over are the next point's, where the next point is in the same sequence. -/
theorem near_next (hn : (t.val + 1) % 16 ≠ 0) (Z : Carry)
    (hZ : Z.z = k0_pay13 (k0_pay9 (blocks m c t).cc (blocks m c t).uc)) : Z.Near (args m c) (t.val + 1) := by
  have ht := lt_points t
  have h0 : (Args.row (t.val + 1) 0).val = 128 * (t.val + 1) := row_val (by omega) 0
  have h1 : (Args.row t.val 127).val = 128 * t.val + 127 := row_val ht 127
  have h2 : (Args.row t.val 126).val = 128 * t.val + 126 := row_val ht 126
  constructor
  · intro l
    rw [hZ]
    pointwise [k0_pay13, k0_pay9]
    refine (z_at m c t 127 l).trans ?_
    rw [Args.zAt, if_pos (by omega)]
    exact congrArg ((args m c).z · l) (Fin.ext (by simp only; omega))
  · intro l
    rw [hZ]
    pointwise [k0_pay13, k0_pay9]
    refine (z_at m c t 126 l).trans ?_
    rw [Args.zAt, if_pos (by omega)]
    exact congrArg ((args m c).z · l) (Fin.ext (by simp only; omega))

/-- The cleared buffers hold the states before the first chunk, and no rows. -/
theorem zero_is : Carry.zero.Is fun _ => HState.zero where
  C h i e := by
    pointwise [Carry.zero, k0_pay6]
    rfl
  n h i := by
    pointwise [Carry.zero, k0_pay6]
    rfl
  m h := by
    pointwise [Carry.zero, k0_pay7]
    rfl

theorem zero_near (A : Args) {p : ℕ} (hp : p < 64) (h : p % 16 = 0) : Carry.zero.Near A p := by
  have h0 : (Args.row p 0).val = 128 * p := row_val hp 0
  constructor
  · intro l
    rw [Args.zAt, if_neg (by omega)]
    pointwise [Carry.zero, k0_pay8]
  · intro l
    rw [Args.zAt, if_neg (by omega)]
    pointwise [Carry.zero, k0_pay8]

end Cert.KernelIdeal.Point

end
-- ==== Proof.Fold.lean ====
/-
  The kernel's results over the whole grid: after every point the carried buffers hold the four heads' states, and the
  point's block of the first result is the mixed rows.
-/
module

public import proofs.«01_k».proof.Proof.Left
public import proofs.«01_k».proof.Proof.Holds

@[expose] public section

set_option maxRecDepth 16384

noncomputable section

namespace Cert.KernelIdeal.Point

open Idealize.ShloMosaic Idealize.ShloMosaic.TcCoe Cert.KernelIdeal Cert.KernelIdeal.Gen Cert.KernelIdeal.Value
open Cert.KernelIdeal.Head Cert.Mix

variable (m : (ℓ : Loc nD τ sig) → Buf (Elt Ideal) ℓ) (c : Dev nD) (t : Fin cfg0.N) (Y : Carry)

/-- The four heads' states before the chunk numbered `p`, and after it. -/
def statesBefore (A : Args) (p : ℕ) (h : Fin 4) : HState := A.state (p / 16) h (p % 16)
def statesAfter (A : Args) (p : ℕ) (h : Fin 4) : HState := A.state (p / 16) h (p % 16 + 1)

theorem statesAfter_eq (A : Args) (p : ℕ) (h : Fin 4) :
    statesAfter A p h = (A.chunk p h).next (statesBefore A p h) := by
  have e : 16 * (p / 16) + p % 16 = p := by omega
  show (A.chunk (16 * (p / 16) + p % 16) h).next _ = _
  rw [e]
  rfl

theorem statesBefore_succ (A : Args) (p : ℕ) (hp : (p + 1) % 16 ≠ 0) : statesBefore A (p + 1) = statesAfter A p := by
  have e1 : (p + 1) / 16 = p / 16 := by omega
  have e2 : (p + 1) % 16 = p % 16 + 1 := by omega
  funext h
  rw [statesBefore, statesAfter, e1, e2]

theorem statesBefore_first (A : Args) (p : ℕ) (hp : p % 16 = 0) : statesBefore A p = fun _ => HState.zero := by
  funext h
  rw [statesBefore, hp]
  rfl

/-- A point's block of the first result is the mixed rows. -/
theorem rows_mixed (hY : Y.Is (statesBefore (args m c) t.val)) (hZ : Y.Near (args m c) t.val) (r : Fin 128)
    (l : Fin 2048) : rows (blocks m c t) Y r l = (args m c).mixed (Args.row t.val r) l := by
  have ht := lt_points t
  have hr := row_val ht r
  unfold rows Args.mixed
  split
  · exact convOut_apply Y m c t hZ r _
  · rename_i hl
    have hp : (Args.row t.val r).val / 128 = t.val := by omega
    have hr' : (⟨(Args.row t.val r).val % 128, by omega⟩ : Fin 128) = r := Fin.ext (by simp only; omega)
    rw [hr', hp]
    refine (Slices.gated_apply (slices_hold Y _ m c t hY) _ _ r _).trans ?_
    unfold Args.head
    refine congrArg₂ (fun x y => Ideal.logistic x * y) ?_ ?_
    · refine (headLanes_apply _ _ r _).trans ((o_at m c t r _).trans ?_)
      exact congrArg _ (lane_eq _ 6144 (by omega) _)
    · refine congrArg (fun g => rms _ g _) (funext fun i => ?_)
      exact (headScale_apply _ _ i).trans (g_at m c t _)

/-- The states that a point's stores leave. -/
theorem stores_hold (hY : Y.Is (statesBefore (args m c) t.val)) (Z : Carry) (hca : Z.ca = nextCa (blocks m c t) Y)
    (hm : ∀ h : Fin 4, Z.m (ix2 ⟨h, by omega⟩ 0) = mnew (slices (blocks m c t) Y h).M (ix2 0 0)) :
    Z.Is (statesAfter (args m c) t.val) where
  C h i e := by
    rw [hca, statesAfter_eq]
    exact Slices.C_apply (slices_hold Y h m c t hY) i e
  n h i := by
    rw [hca, statesAfter_eq]
    exact Slices.n_apply (slices_hold Y h m c t hY) i
  m h := by
    rw [hm, statesAfter_eq]
    exact Slices.m_apply (slices_hold Y h m c t hY)

/-- What a point leaves: the mixed rows, the states after its chunk, the rows before the next. -/
structure Good (L : Left) : Prop where
  rows : ∀ (r : Fin 128) (l : Fin 2048), L.1 (ix2 r l) = (args m c).mixed (Args.row t.val r) l
  is : (carry L).Is (statesAfter (args m c) t.val)
  near : (t.val + 1) % 16 ≠ 0 → (carry L).Near (args m c) (t.val + 1)

theorem good_first (acc : Left) (h : t.val % 16 = 0) : Good m c t (stAt0 m c t.val t.isLt acc) := by
  have hY : Carry.zero.Is (statesBefore (args m c) t.val) := by
    rw [statesBefore_first _ _ h]
    exact zero_is
  have hZ := zero_near (args m c) (lt_points t) h
  exact ⟨fun r l => (left_A_rows m c t acc h r l).trans (rows_mixed m c t _ hY hZ r l),
    stores_hold m c t _ hY _ (left_A_ca m c t acc h) (left_A_m m c t acc h),
    fun hn => near_next m c t hn _ (left_A_z m c t acc h)⟩

theorem good_later (acc : Left) (h : ¬ t.val % 16 = 0) (hY : (carry acc).Is (statesBefore (args m c) t.val))
    (hZ : (carry acc).Near (args m c) t.val) : Good m c t (stAt0 m c t.val t.isLt acc) :=
  ⟨fun r l => (left_B_rows m c t acc h r l).trans (rows_mixed m c t _ hY hZ r l),
    stores_hold m c t _ hY _ (left_B_ca m c t acc h) (left_B_m m c t acc h),
    fun hn => near_next m c t hn _ (left_B_z m c t acc h)⟩

/-- Every point leaves that. -/
theorem good : ∀ (n : ℕ) (hn : n < cfg0.N), Good m c ⟨n, hn⟩ (outsAt0 m c n hn) := by
  intro n
  induction n with
  | zero =>
    intro hn
    rw [outsAt0_zero]
    exact good_first m c ⟨0, hn⟩ _ rfl
  | succ n ih =>
    intro hn
    rw [outsAt0_succ]
    by_cases h : (n + 1) % 16 = 0
    · exact good_first m c ⟨n + 1, hn⟩ _ h
    · have g := ih (Nat.lt_of_succ_lt hn)
      refine good_later m c ⟨n + 1, hn⟩ _ h ?_ (g.near h)
      exact (congrArg (fun s => Carry.Is _ s) (statesBefore_succ (args m c) n h)).mpr g.is

/-- Every point's blocks of the other four results are the tables' own blocks. -/
theorem tables (n : ℕ) (hn : n < cfg0.N) :
    (outsAt0 m c n hn).2.1 = k0_pay2 (iblk m c 13 ⟨n, hn⟩) ∧
    (outsAt0 m c n hn).2.2.1 = k0_pay3 (iblk m c 14 ⟨n, hn⟩) ∧
    (outsAt0 m c n hn).2.2.2.1 = k0_pay4 (iblk m c 15 ⟨n, hn⟩) ∧
    (outsAt0 m c n hn).2.2.2.2.1 = k0_pay5 (iblk m c 16 ⟨n, hn⟩) := by
  have h : ∀ acc, _ := fun acc => if h : n % 16 = 0 then left_A_tables m c ⟨n, hn⟩ acc h else left_B_tables m c ⟨n, hn⟩ acc h
  cases n with
  | zero =>
    rw [outsAt0_zero]
    exact h _
  | succ n =>
    rw [outsAt0_succ]
    exact h _

/-- The first result is the mixed rows. -/
theorem G17_eq (r : Fin 8192) (l : Fin 2048) : G17 m c (ix2 r l) = (args m c).mixed r l := by
  have hN : cfg0.N = 64 := N_0
  have hp : pt17Of (ix2 r l) = r.val / 128 := by
    show 1 * (r.val / 128 - 0) + 1 * (l.val / 2048 - 0) = _
    omega
  have hlt : pt17Of (ix2 r l) < cfg0.N := by omega
  unfold G17
  rw [dif_pos hlt, ← outsAt0_sweep]
  have hloc : loc17Of (ix2 r l) = ix2 ⟨r.val % 128, by omega⟩ l := by
    funext a
    match a with
    | 0 => rfl
    | 1 => exact Fin.ext (Nat.mod_eq_of_lt l.isLt)
  rw [hloc]
  refine ((good m c _ hlt).rows _ _).trans ?_
  refine congrArg (fun x => (args m c).mixed x l) (Fin.ext ?_)
  show (128 * pt17Of (ix2 r l) + r.val % 128) % 8192 = r.val
  omega

end Cert.KernelIdeal.Point

end
-- ==== Proof.Tables.lean ====
/-
  The other four results are the tables, cast.
-/
module

public import proofs.«01_k».proof.Proof.Fold

@[expose] public section

set_option maxRecDepth 16384

noncomputable section

namespace Cert.KernelIdeal.Point

open Idealize.ShloMosaic Idealize.ShloMosaic.TcCoe Cert.KernelIdeal Cert.KernelIdeal.Gen Cert.KernelIdeal.Value

variable (m : (ℓ : Loc nD τ sig) → Buf (Elt Ideal) ℓ) (c : Dev nD) (t : Fin cfg0.N)

theorem big_apply (x : FVec Ideal S1x16384x2048 .f32) (r : Fin 16384) (l : Fin 2048) :
    shapeCast S16384x2048 x shapeCasts_S1x16384x2048_S16384x2048 (ix2 r l) = x (ix3 0 r l) := by
  pointwise

theorem small_apply (x : FVec Ideal S1x2048x2048 .f32) (r : Fin 2048) (l : Fin 2048) :
    shapeCast S2048x2048 x shapeCasts_S1x2048x2048_S2048x2048 (ix2 r l) = x (ix3 0 r l) := by
  pointwise

theorem V_table0 : V m c main_v9 = (shapeCast S16384x2048 (m ((c : Thread nD τ).loc main_arg5))
    shapeCasts_S1x16384x2048_S16384x2048 : FVec Ideal S16384x2048 .f32) := by
  show StableHlo.after [hostOps0, hostOps0_1, hostOps0_2].flatten (fun b => m (c, b)) (Proc.tc.devRef main_v9) = _
  simp only [List.flatten_cons, List.flatten_nil, List.append_nil, StableHlo.after_append]
  after_results
  rfl

theorem table0_at (r : Fin 256) (l : Fin 2048) :
    iblk m c 13 t (ix2 r l) = m ((c : Thread nD τ).loc main_arg5) (ix3 0 ⟨256 * t.val + r, by have := lt_points t; omega⟩ l) := by
  have ht := lt_points t
  have e := (index_facts t).2.2.2.2.2.2.2.2.2.2.2.2.2.1
  have he : (win0_13.blk t).view.emb (ix2 r l) = ix2 ⟨256 * t.val + r, by omega⟩ l := by
    funext a
    apply Fin.ext
    match a with
    | 0 =>
      show win0_13.index t 0 * 256 + 1 * r.val = 256 * t.val + r.val
      rw [e.1]
      omega
    | 1 =>
      show win0_13.index t 1 * 2048 + 1 * l.val = l.val
      rw [e.2]
      omega
  exact (congrArg (V m c main_v9) he).trans ((congrFun (V_table0 m c) _).trans (big_apply _ _ l))

theorem G18_eq (r : Fin 16384) (l : Fin 2048) : G18 m c (ix2 r l) = m ((c : Thread nD τ).loc main_arg5) (ix3 0 r l) := by
  have hN : cfg0.N = 64 := N_0
  have hp : pt18Of (ix2 r l) = r.val / 256 := by
    show 1 * (r.val / 256 - 0) + 1 * (l.val / 2048 - 0) = _
    omega
  have hlt : pt18Of (ix2 r l) < cfg0.N := by omega
  unfold G18
  rw [dif_pos hlt, ← outsAt0_sweep m c _ hlt, (tables m c _ hlt).1]
  have hloc : loc18Of (ix2 r l) = ix2 ⟨r.val % 256, by omega⟩ l := by
    funext a
    match a with
    | 0 => rfl
    | 1 => exact Fin.ext (Nat.mod_eq_of_lt l.isLt)
  rw [hloc]
  pointwise [k0_pay2]
  refine (table0_at m c _ _ l).trans ?_
  refine congrArg (fun x => m ((c : Thread nD τ).loc main_arg5) (ix3 0 x l)) (Fin.ext ?_)
  show 256 * pt18Of (ix2 r l) + r.val % 256 = r.val
  omega

theorem V_table1 : V m c main_v10 = (shapeCast S2048x2048 (m ((c : Thread nD τ).loc main_arg6))
    shapeCasts_S1x2048x2048_S2048x2048 : FVec Ideal S2048x2048 .f32) := by
  show StableHlo.after [hostOps0, hostOps0_1, hostOps0_2].flatten (fun b => m (c, b)) (Proc.tc.devRef main_v10) = _
  simp only [List.flatten_cons, List.flatten_nil, List.append_nil, StableHlo.after_append]
  after_results
  rfl

theorem table1_at (r : Fin 32) (l : Fin 2048) :
    iblk m c 14 t (ix2 r l) = m ((c : Thread nD τ).loc main_arg6) (ix3 0 ⟨32 * t.val + r, by have := lt_points t; omega⟩ l) := by
  have ht := lt_points t
  have e := (index_facts t).2.2.2.2.2.2.2.2.2.2.2.2.2.2.1
  have he : (win0_14.blk t).view.emb (ix2 r l) = ix2 ⟨32 * t.val + r, by omega⟩ l := by
    funext a
    apply Fin.ext
    match a with
    | 0 =>
      show win0_14.index t 0 * 32 + 1 * r.val = 32 * t.val + r.val
      rw [e.1]
      omega
    | 1 =>
      show win0_14.index t 1 * 2048 + 1 * l.val = l.val
      rw [e.2]
      omega
  exact (congrArg (V m c main_v10) he).trans ((congrFun (V_table1 m c) _).trans (small_apply _ _ l))

theorem G19_eq (r : Fin 2048) (l : Fin 2048) : G19 m c (ix2 r l) = m ((c : Thread nD τ).loc main_arg6) (ix3 0 r l) := by
  have hN : cfg0.N = 64 := N_0
  have hp : pt19Of (ix2 r l) = r.val / 32 := by
    show 1 * (r.val / 32 - 0) + 1 * (l.val / 2048 - 0) = _
    omega
  have hlt : pt19Of (ix2 r l) < cfg0.N := by omega
  unfold G19
  rw [dif_pos hlt, ← outsAt0_sweep m c _ hlt, (tables m c _ hlt).2.1]
  have hloc : loc19Of (ix2 r l) = ix2 ⟨r.val % 32, by omega⟩ l := by
    funext a
    match a with
    | 0 => rfl
    | 1 => exact Fin.ext (Nat.mod_eq_of_lt l.isLt)
  rw [hloc]
  pointwise [k0_pay3]
  refine (table1_at m c _ _ l).trans ?_
  refine congrArg (fun x => m ((c : Thread nD τ).loc main_arg6) (ix3 0 x l)) (Fin.ext ?_)
  show 32 * pt19Of (ix2 r l) + r.val % 32 = r.val
  omega

theorem V_table2 : V m c main_v11 = (shapeCast S2048x2048 (m ((c : Thread nD τ).loc main_arg7))
    shapeCasts_S1x2048x2048_S2048x2048 : FVec Ideal S2048x2048 .f32) := by
  show StableHlo.after [hostOps0, hostOps0_1, hostOps0_2].flatten (fun b => m (c, b)) (Proc.tc.devRef main_v11) = _
  simp only [List.flatten_cons, List.flatten_nil, List.append_nil, StableHlo.after_append]
  after_results
  rfl

theorem table2_at (r : Fin 32) (l : Fin 2048) :
    iblk m c 15 t (ix2 r l) = m ((c : Thread nD τ).loc main_arg7) (ix3 0 ⟨32 * t.val + r, by have := lt_points t; omega⟩ l) := by
  have ht := lt_points t
  have e := (index_facts t).2.2.2.2.2.2.2.2.2.2.2.2.2.2.2.1
  have he : (win0_15.blk t).view.emb (ix2 r l) = ix2 ⟨32 * t.val + r, by omega⟩ l := by
    funext a
    apply Fin.ext
    match a with
    | 0 =>
      show win0_15.index t 0 * 32 + 1 * r.val = 32 * t.val + r.val
      rw [e.1]
      omega
    | 1 =>
      show win0_15.index t 1 * 2048 + 1 * l.val = l.val
      rw [e.2]
      omega
  exact (congrArg (V m c main_v11) he).trans ((congrFun (V_table2 m c) _).trans (small_apply _ _ l))

theorem G20_eq (r : Fin 2048) (l : Fin 2048) : G20 m c (ix2 r l) = m ((c : Thread nD τ).loc main_arg7) (ix3 0 r l) := by
  have hN : cfg0.N = 64 := N_0
  have hp : pt20Of (ix2 r l) = r.val / 32 := by
    show 1 * (r.val / 32 - 0) + 1 * (l.val / 2048 - 0) = _
    omega
  have hlt : pt20Of (ix2 r l) < cfg0.N := by omega
  unfold G20
  rw [dif_pos hlt, ← outsAt0_sweep m c _ hlt, (tables m c _ hlt).2.2.1]
  have hloc : loc20Of (ix2 r l) = ix2 ⟨r.val % 32, by omega⟩ l := by
    funext a
    match a with
    | 0 => rfl
    | 1 => exact Fin.ext (Nat.mod_eq_of_lt l.isLt)
  rw [hloc]
  pointwise [k0_pay4]
  refine (table2_at m c _ _ l).trans ?_
  refine congrArg (fun x => m ((c : Thread nD τ).loc main_arg7) (ix3 0 x l)) (Fin.ext ?_)
  show 32 * pt20Of (ix2 r l) + r.val % 32 = r.val
  omega

theorem V_table3 : V m c main_v12 = (shapeCast S2048x2048 (m ((c : Thread nD τ).loc main_arg8))
    shapeCasts_S1x2048x2048_S2048x2048 : FVec Ideal S2048x2048 .f32) := by
  show StableHlo.after [hostOps0, hostOps0_1, hostOps0_2].flatten (fun b => m (c, b)) (Proc.tc.devRef main_v12) = _
  simp only [List.flatten_cons, List.flatten_nil, List.append_nil, StableHlo.after_append]
  after_results
  rfl

theorem table3_at (r : Fin 32) (l : Fin 2048) :
    iblk m c 16 t (ix2 r l) = m ((c : Thread nD τ).loc main_arg8) (ix3 0 ⟨32 * t.val + r, by have := lt_points t; omega⟩ l) := by
  have ht := lt_points t
  have e := (index_facts t).2.2.2.2.2.2.2.2.2.2.2.2.2.2.2.2
  have he : (win0_16.blk t).view.emb (ix2 r l) = ix2 ⟨32 * t.val + r, by omega⟩ l := by
    funext a
    apply Fin.ext
    match a with
    | 0 =>
      show win0_16.index t 0 * 32 + 1 * r.val = 32 * t.val + r.val
      rw [e.1]
      omega
    | 1 =>
      show win0_16.index t 1 * 2048 + 1 * l.val = l.val
      rw [e.2]
      omega
  exact (congrArg (V m c main_v12) he).trans ((congrFun (V_table3 m c) _).trans (small_apply _ _ l))

theorem G21_eq (r : Fin 2048) (l : Fin 2048) : G21 m c (ix2 r l) = m ((c : Thread nD τ).loc main_arg8) (ix3 0 r l) := by
  have hN : cfg0.N = 64 := N_0
  have hp : pt21Of (ix2 r l) = r.val / 32 := by
    show 1 * (r.val / 32 - 0) + 1 * (l.val / 2048 - 0) = _
    omega
  have hlt : pt21Of (ix2 r l) < cfg0.N := by omega
  unfold G21
  rw [dif_pos hlt, ← outsAt0_sweep m c _ hlt, (tables m c _ hlt).2.2.2]
  have hloc : loc21Of (ix2 r l) = ix2 ⟨r.val % 32, by omega⟩ l := by
    funext a
    match a with
    | 0 => rfl
    | 1 => exact Fin.ext (Nat.mod_eq_of_lt l.isLt)
  rw [hloc]
  pointwise [k0_pay5]
  refine (table3_at m c _ _ l).trans ?_
  refine congrArg (fun x => m ((c : Thread nD τ).loc main_arg8) (ix3 0 x l)) (Fin.ext ?_)
  show 32 * pt21Of (ix2 r l) + r.val % 32 = r.val
  omega

end Cert.KernelIdeal.Point

end
-- ==== Proof.RefStep.lean ====
/-
  One trip of the reference's loop, read at an index: on a state whose arrays hold the sixteen chunks' inputs and the
  heads' states before chunk `j`, the trip's arrays hold the states after it, and row `j` of the outputs the chunk's.
-/
module

public import proofs.«01_k».proof.Proof.Gen.ReferenceIdeal.Step
public import proofs.«01_k».proof.Proof.Spec
public import Idealize.ShloMosaic.Lib.Pointwise
public import Idealize.ShloMosaic.Lib.WordCmp

@[expose] public section

set_option maxRecDepth 16384

noncomputable section

namespace Cert.ReferenceIdeal.Trip

open Idealize.ShloMosaic Cert.ReferenceIdeal Cert.ReferenceIdeal.Gen Cert.ReferenceIdeal.Step Cert.Mix

theorem foldl_add {α : Type} (f : α → EReal) : ∀ (l : List α) (a : EReal), l.foldl (fun r n => r + f n) a = a + (l.map f).sum
  | [], a => by simp
  | x :: l, a => by
    rw [List.foldl_cons, foldl_add f l, List.map_cons, List.sum_cons, add_assoc]

/-- A sum over a window that ends at `t`, as a sum over the tokens up to `t`. -/
theorem sum_window (f : Fin 128 → EReal) (t : Fin 128) :
    (∑ w : Fin 128, if h : 127 ≤ t.val + w.val then f ⟨t.val + w.val - 127, by omega⟩ else 0) =
      ∑ u : Fin 128, if u ≤ t then f u else 0 := by
  simp only [Fin.le_def]
  rw [← Finset.sum_filter]
  rw [show (∑ w : Fin 128, if h : 127 ≤ t.val + w.val then f ⟨t.val + w.val - 127, by omega⟩ else 0) =
    ∑ w : Fin 128, if 127 ≤ t.val + w.val then f ⟨(t.val + w.val - 127) % 128, Nat.mod_lt _ (by decide)⟩ else 0 from
    Finset.sum_congr rfl fun w _ => by
      by_cases h : 127 ≤ t.val + w.val
      · rw [dif_pos h, if_pos h]
        exact congrArg f (Fin.ext (by show _ = _ % 128; rw [Nat.mod_eq_of_lt (by omega)]))
      · rw [dif_neg h, if_neg h]]
  rw [← Finset.sum_filter]
  refine Finset.sum_bij' (fun w _ => ⟨(t.val + w.val - 127) % 128, Nat.mod_lt _ (by decide)⟩)
    (fun u _ => ⟨(u.val + 127 - t.val) % 128, Nat.mod_lt _ (by decide)⟩) ?_ ?_ ?_ ?_ ?_
  · intro w hw
    have := (Finset.mem_filter.1 hw).2
    refine Finset.mem_filter.2 ⟨Finset.mem_univ _, ?_⟩
    show (t.val + w.val - 127) % 128 ≤ t.val
    omega
  · intro u hu
    have := (Finset.mem_filter.1 hu).2
    refine Finset.mem_filter.2 ⟨Finset.mem_univ _, ?_⟩
    show 127 ≤ t.val + (u.val + 127 - t.val) % 128
    omega
  · intro w hw
    have := (Finset.mem_filter.1 hw).2
    apply Fin.ext
    show ((t.val + w.val - 127) % 128 + 127 - t.val) % 128 = w.val
    omega
  · intro u hu
    have := (Finset.mem_filter.1 hu).2
    apply Fin.ext
    show (t.val + (u.val + 127 - t.val) % 128 - 127) % 128 = u.val
    omega
  · intro w hw
    rfl

/-- The running sum along the last axis. -/
theorem run_sum (x : FVec Ideal S4x4x128 .f32) (v : FVec Ideal S_ .f32) (hv : v (Shape.Idx.first h_S_) = (0 : EReal))
    (b h : Fin 4) (t : Fin 128) :
    Host.reduceWindowAdd ![1, 1, 128] ![1, 1, 1] ![0, 0, 127] ![0, 0, 0] x v
      reduceWindows_S4x4x128_S4x4x128_w1s1p0_0_w1s1p0_0_w128s1p127_0 h_S_ (ix3 b h t) =
    ∑ u, if u ≤ t then x (ix3 b h u) else 0 := by
  let W : Shape := ⟨3, ![1, 1, 128]⟩
  let G : W.Idx → EReal := fun w => if hw : 127 ≤ t.val + (w 2).val then x (ix3 b h ⟨t.val + (w 2).val - 127, by
    have := (w 2).isLt
    have h2 : (w 2).val < 128 := this
    omega⟩) else 0
  have e : Host.reduceWindowAdd ![1, 1, 128] ![1, 1, 1] ![0, 0, 127] ![0, 0, 0] x v
      reduceWindows_S4x4x128_S4x4x128_w1s1p0_0_w1s1p0_0_w128s1p127_0 h_S_ (ix3 b h t) =
      (List.finRange W.numel).foldl (fun r n => r + G (W.rowMajor.symm n)) (0 : EReal) := by
    show Host.reduceWindow (s := S4x4x128) (t := S4x4x128) (u := ⟨0, ![]⟩) (fun y z : EReal => y + z) ![1, 1, 128] ![1, 1, 1] ![0, 0, 127] ![0, 0, 0] x
      (fun _ => v (Shape.Idx.first h_S_)) reduceWindows_S4x4x128_S4x4x128_w1s1p0_0_w1s1p0_0_w128s1p127_0 (by decide) (ix3 b h t) = _
    rw [hv]
    unfold Host.reduceWindow
    dsimp only
    congr 1
    funext r n
    congr 1
    have h0 : (W.rowMajor.symm n 0).val = 0 := by
      have : (W.rowMajor.symm n 0).val < 1 := (W.rowMajor.symm n 0).isLt
      omega
    have h1 : (W.rowMajor.symm n 1).val = 0 := by
      have : (W.rowMajor.symm n 1).val < 1 := (W.rowMajor.symm n 1).isLt
      omega
    have h2 : (W.rowMajor.symm n 2).val < 128 := (W.rowMajor.symm n 2).isLt
    have hb := b.isLt
    have hh := h.isLt
    have ht := t.isLt
    by_cases hc : 127 ≤ t.val + (W.rowMajor.symm n 2).val
    · show _ = dite _ _ _
      rw [dif_pos hc, dif_pos (fun a => by
        match a with
        | ⟨0, _⟩ =>
          show 0 ≤ b.val * 1 + (W.rowMajor.symm n 0).val ∧ b.val * 1 + (W.rowMajor.symm n 0).val - 0 < 4
          omega
        | ⟨1, _⟩ =>
          show 0 ≤ h.val * 1 + (W.rowMajor.symm n 1).val ∧ h.val * 1 + (W.rowMajor.symm n 1).val - 0 < 4
          omega
        | ⟨2, _⟩ =>
          show 127 ≤ t.val * 1 + (W.rowMajor.symm n 2).val ∧ t.val * 1 + (W.rowMajor.symm n 2).val - 127 < 128
          omega)]
      refine congrArg x (funext fun a => Fin.ext ?_)
      match a with
      | ⟨0, _⟩ =>
        show b.val * 1 + (W.rowMajor.symm n 0).val - 0 = b.val
        omega
      | ⟨1, _⟩ =>
        show h.val * 1 + (W.rowMajor.symm n 1).val - 0 = h.val
        omega
      | ⟨2, _⟩ =>
        show t.val * 1 + (W.rowMajor.symm n 2).val - 127 = t.val + (W.rowMajor.symm n 2).val - 127
        omega
    · show _ = dite _ _ _
      rw [dif_neg hc, dif_neg (fun hin => hc (by
        have h3 := (hin 2).1
        change 127 ≤ t.val * 1 + (W.rowMajor.symm n 2).val at h3
        omega))]
  rw [e, foldl_add, zero_add, ← Fin.sum_univ_def, Equiv.sum_comp W.rowMajor.symm G, sum_idx3]
  simp only [Fin.sum_univ_one]
  exact sum_window (fun u => x (ix3 b h u)) t

/-! ## Where the trip's number points -/

theorem toInt_small {k : ℕ} (h : k < 16) : (BitVec.ofNat 32 k).toInt = (k : ℤ) := by
  rw [BitVec.toInt_eq_toNat_of_lt (by rw [BitVec.toNat_ofNat]; omega), BitVec.toNat_ofNat, Nat.mod_eq_of_lt (by omega)]

section Read
variable (s : State Ideal) (j : ℕ) (hj : j < 16)

/-- The trip's starts along the axes of an array of chunks. -/
def cs5 (a : Fin 5) : ℕ :=
  Host.clampedStart S16x4x4x128x256 S1x4x4x128x256 rfl (fun k => BitVec.toInt
    ((![constantI S_ 32 (BitVec.ofNat 32 j), constantI S_ 32 0#32, constantI S_ 32 0#32, constantI S_ 32 0#32,
      constantI S_ 32 0#32] : Fin 5 → IVec S_ 32) k (Shape.Idx.first h_S_))) a

def cs4 (a : Fin 4) : ℕ :=
  Host.clampedStart S16x4x4x128 S1x4x4x128 rfl (fun k => BitVec.toInt
    ((![constantI S_ 32 (BitVec.ofNat 32 j), constantI S_ 32 0#32, constantI S_ 32 0#32, constantI S_ 32 0#32]
      : Fin 4 → IVec S_ 32) k (Shape.Idx.first h_S_))) a

include hj in
theorem cs5_zero : cs5 j 0 = j :=
  Host.clampedStart_of_le _ _ 0 j (toInt_small hj) (by show j + 1 ≤ 16; omega)

theorem cs5_other (a : Fin 5) (ha : a ≠ 0) : cs5 j a = 0 := by
  apply Host.clampedStart_of_le
  · match a with
    | 0 => exact absurd rfl ha
    | 1 => rfl
    | 2 => rfl
    | 3 => rfl
    | 4 => rfl
  · match a with
    | 0 => exact absurd rfl ha
    | 1 => decide
    | 2 => decide
    | 3 => decide
    | 4 => decide

include hj in
theorem cs4_zero : cs4 j 0 = j :=
  Host.clampedStart_of_le _ _ 0 j (toInt_small hj) (by show j + 1 ≤ 16; omega)

theorem cs4_other (a : Fin 4) (ha : a ≠ 0) : cs4 j a = 0 := by
  apply Host.clampedStart_of_le
  · match a with
    | 0 => exact absurd rfl ha
    | 1 => rfl
    | 2 => rfl
    | 3 => rfl
  · match a with
    | 0 => exact absurd rfl ha
    | 1 => decide
    | 2 => decide
    | 3 => decide

theorem ix5_ext {n0 n1 n2 n3 n4 : ℕ} (x y : (⟨5, ![n0, n1, n2, n3, n4]⟩ : Shape).Idx) (h0 : (x 0).val = (y 0).val)
    (h1 : (x 1).val = (y 1).val) (h2 : (x 2).val = (y 2).val) (h3 : (x 3).val = (y 3).val)
    (h4 : (x 4).val = (y 4).val) : x = y := by
  funext a
  apply Fin.ext
  match a with
  | 0 => exact h0
  | 1 => exact h1
  | 2 => exact h2
  | 3 => exact h3
  | 4 => exact h4

theorem ix4_ext {n0 n1 n2 n3 : ℕ} (x y : (⟨4, ![n0, n1, n2, n3]⟩ : Shape).Idx) (h0 : (x 0).val = (y 0).val)
    (h1 : (x 1).val = (y 1).val) (h2 : (x 2).val = (y 2).val) (h3 : (x 3).val = (y 3).val) : x = y := by
  funext a
  apply Fin.ext
  match a with
  | 0 => exact h0
  | 1 => exact h1
  | 2 => exact h2
  | 3 => exact h3

theorem q_at (b h : Fin 4) (t : Fin 128) (e : Fin 256) : b5 j s (ix4 b h t e) = s.main_v52_0 (ix5 ⟨j, hj⟩ b h t e) := by
  pointwise [b5, b4, b0, b1, b2, b3]
  refine congrArg s.main_v52_0 (ix5_ext _ _ (cs5_zero j hj) ?_ ?_ ?_ ?_)
  · exact (congrArg (· + b.val) (cs5_other j 1 (by decide))).trans (Nat.zero_add _)
  · exact (congrArg (· + h.val) (cs5_other j 2 (by decide))).trans (Nat.zero_add _)
  · exact (congrArg (· + t.val) (cs5_other j 3 (by decide))).trans (Nat.zero_add _)
  · exact (congrArg (· + e.val) (cs5_other j 4 (by decide))).trans (Nat.zero_add _)

theorem k_at (b h : Fin 4) (t : Fin 128) (e : Fin 256) : b11 j s (ix4 b h t e) = s.main_v52_1 (ix5 ⟨j, hj⟩ b h t e) := by
  pointwise [b11, b10, b6, b7, b8, b9]
  refine congrArg s.main_v52_1 (ix5_ext _ _ (cs5_zero j hj) ?_ ?_ ?_ ?_)
  · exact (congrArg (· + b.val) (cs5_other j 1 (by decide))).trans (Nat.zero_add _)
  · exact (congrArg (· + h.val) (cs5_other j 2 (by decide))).trans (Nat.zero_add _)
  · exact (congrArg (· + t.val) (cs5_other j 3 (by decide))).trans (Nat.zero_add _)
  · exact (congrArg (· + e.val) (cs5_other j 4 (by decide))).trans (Nat.zero_add _)

theorem v_at (b h : Fin 4) (t : Fin 128) (e : Fin 256) : b17 j s (ix4 b h t e) = s.main_v52_2 (ix5 ⟨j, hj⟩ b h t e) := by
  pointwise [b17, b16, b12, b13, b14, b15]
  refine congrArg s.main_v52_2 (ix5_ext _ _ (cs5_zero j hj) ?_ ?_ ?_ ?_)
  · exact (congrArg (· + b.val) (cs5_other j 1 (by decide))).trans (Nat.zero_add _)
  · exact (congrArg (· + h.val) (cs5_other j 2 (by decide))).trans (Nat.zero_add _)
  · exact (congrArg (· + t.val) (cs5_other j 3 (by decide))).trans (Nat.zero_add _)
  · exact (congrArg (· + e.val) (cs5_other j 4 (by decide))).trans (Nat.zero_add _)

theorem ig_at (b h : Fin 4) (t : Fin 128) : b22 j s (ix3 b h t) = s.main_v52_3 (ix4 ⟨j, hj⟩ b h t) := by
  pointwise [b22, b21, b18, b19, b20]
  refine congrArg s.main_v52_3 (ix4_ext _ _ (cs4_zero j hj) ?_ ?_ ?_)
  · exact (congrArg (· + b.val) (cs4_other j 1 (by decide))).trans (Nat.zero_add _)
  · exact (congrArg (· + h.val) (cs4_other j 2 (by decide))).trans (Nat.zero_add _)
  · exact (congrArg (· + t.val) (cs4_other j 3 (by decide))).trans (Nat.zero_add _)

theorem lf_at (b h : Fin 4) (t : Fin 128) : b27 j s (ix3 b h t) = s.main_v52_4 (ix4 ⟨j, hj⟩ b h t) := by
  pointwise [b27, b26, b23, b24, b25]
  refine congrArg s.main_v52_4 (ix4_ext _ _ (cs4_zero j hj) ?_ ?_ ?_)
  · exact (congrArg (· + b.val) (cs4_other j 1 (by decide))).trans (Nat.zero_add _)
  · exact (congrArg (· + h.val) (cs4_other j 2 (by decide))).trans (Nat.zero_add _)
  · exact (congrArg (· + t.val) (cs4_other j 3 (by decide))).trans (Nat.zero_add _)

include hj in
theorem hs_at (c : Fin 16) (b h : Fin 4) (t : Fin 128) (e : Fin 256) :
    b109 j s (ix5 c b h t e) = if c.val = j then b75 j s (ix4 b h t e) else s.main_v52_10 (ix5 c b h t e) := by
  pointwise [b109, b104, b105, b106, b107, b108]
  have h0 := cs5_zero j hj
  have h1 := cs5_other j 1 (by decide)
  have h2 := cs5_other j 2 (by decide)
  have h3 := cs5_other j 3 (by decide)
  have h4 := cs5_other j 4 (by decide)
  by_cases hc : c.val = j
  · rw [if_pos hc, dif_pos ?_]
    · refine congrArg (b75 j s) (ix4_ext _ _ ?_ ?_ ?_ ?_)
      · show b.val - cs5 j 1 = b.val
        omega
      · show h.val - cs5 j 2 = h.val
        omega
      · show t.val - cs5 j 3 = t.val
        omega
      · show e.val - cs5 j 4 = e.val
        omega
    · show (cs5 j 0 ≤ c.val ∧ c.val < cs5 j 0 + 1) ∧ cs5 j 1 ≤ b.val ∧ cs5 j 2 ≤ h.val ∧ cs5 j 3 ≤ t.val ∧ cs5 j 4 ≤ e.val
      omega
  · rw [if_neg hc, dif_neg ?_]
    show ¬((cs5 j 0 ≤ c.val ∧ c.val < cs5 j 0 + 1) ∧ cs5 j 1 ≤ b.val ∧ cs5 j 2 ≤ h.val ∧ cs5 j 3 ≤ t.val ∧ cs5 j 4 ≤ e.val)
    omega

end Read

/-! ## The trip's arithmetic -/

/-- A nonnegative real factor comes out of a sum. -/
theorem sum_scale {n : ℕ} (f : Fin n → EReal) (c : EReal) (h0 : 0 ≤ c) (h1 : c ≠ ⊤) :
    (∑ i, f i * c) = (∑ i, f i) * c := by
  classical
  induction (Finset.univ : Finset (Fin n)) using Finset.induction_on with
  | empty => simp
  | insert a t ha ih =>
    rw [Finset.sum_insert ha, Finset.sum_insert ha, ih, EReal.right_distrib_of_nonneg_of_ne_top h0 h1]

/-- The scores' factor is one sixteenth. -/
theorem scale_eq : scale = (((1 : ℝ) / 16 : ℝ) : EReal) := by
  simp [scale, Ideal.ofBits, Ideal.ieee, -EReal.coe_mul]; norm_num

theorem scale_nonneg : 0 ≤ scale ∧ scale ≠ ⊤ := by
  rw [scale_eq]
  exact ⟨EReal.coe_nonneg.2 (by norm_num), EReal.coe_ne_top _⟩

section Trip
variable (s : State Ideal) (j : ℕ) (b h : Fin 4) (x : Chunk) (st : HState)

/-- What a trip reads for one head: the chunk's inputs and the head's state. -/
structure Reads : Prop where
  q : ∀ t i, b5 j s (ix4 b h t i) = x.q t i
  k : ∀ t i, b11 j s (ix4 b h t i) = x.k t i * scale
  v : ∀ t i, b17 j s (ix4 b h t i) = x.v t i
  ig : ∀ t, b22 j s (ix3 b h t) = x.ig t
  lf : ∀ t, b27 j s (ix3 b h t) = x.lf t
  C : ∀ i e, s.main_v52_7 (ix4 b h i e) = st.C i e
  n : ∀ i, s.main_v52_8 (ix3 b h i) = st.n i
  m : s.main_v52_9 (ix2 b h) = st.m

variable {s j b h x st} (H : Reads s j b h x st)
include H

theorem decay (t : Fin 128) : b30 j s (ix3 b h t) = x.b t := by
  unfold b30
  rw [run_sum _ _ (by pointwise [b29, b28]) b h t]
  simp only [H.lf]
  rfl

theorem weight (t u : Fin 128) : b43 j s (ix4 b h t u) = x.d t u := by
  pointwise [b43, b41, b42, b38, b35, b37, b36, b34, b33, b31, b32, b40, b39, K_main_v47, K_main_c, K_main_v46, K_main_call0_v0, K_main_call0_c, K_main_call0_v1, K_main_call0_v2, K_main_call0_v3, K_main_call0_v4, K_main_call0_c_0, K_main_call0_v5]
  rw [decay H, decay H, H.ig]
  have e : IntOp.cmpi CmpIPredicate.sge (IntOp.addi (BitVec.ofNat 32 t.val) 0#32) (BitVec.ofNat 32 u.val) =
      if u ≤ t then 1#1 else 0#1 := by
    rw [show IntOp.addi (BitVec.ofNat 32 t.val) 0#32 = BitVec.ofNat 32 t.val from BitVec.add_zero _,
      WordCmp.cmpi_sge_ofNat (by omega) (by omega)]
    by_cases hu : u ≤ t
    · rw [if_pos hu, decide_eq_true (show u.val ≤ t.val from hu)]
      rfl
    · rw [if_neg hu, decide_eq_false (show ¬ u.val ≤ t.val from hu)]
      rfl
  rw [e]
  unfold Chunk.d
  by_cases hu : u ≤ t
  · simp [hu, Scalar.select]
  · simp [hu, Scalar.select]

theorem top (t : Fin 128) : b49 j s (ix3 b h t) = x.mt st t := by
  pointwise [b49, b48, b47, b46, b45, b44]
  simp only [decay H, weight H, H.m]
  rfl

theorem score (t u : Fin 128) : b55 j s (ix4 b h t u) = x.sc st t u := by
  pointwise [b55, b54, b53, b52, b51, b50]
  simp only [top H, weight H, H.q, H.k, ← mul_assoc]
  rw [sum_scale _ _ scale_nonneg.1 scale_nonneg.2]
  rfl

theorem carried (t : Fin 128) : b57 j s (ix3 b h t) = x.a st t := by
  pointwise [b57, b56, b46, b45, b44]
  simp only [top H, decay H, H.m]
  rfl

theorem output (t : Fin 128) (e : Fin 256) : b75 j s (ix4 b h t e) = x.out st t e := by
  pointwise [b75, b74, b73, b72, b71, b70, b69, b68, b67, b66, b65, b64, b63, b62, b61, b60, b59, b58]
  simp only [top H, score H, carried H, H.q, H.v, H.C, H.n]
  unfold Chunk.out Chunk.num Chunk.den
  rw [zero_sub]

theorem next_m : b77 j s (ix2 b h) = (x.next st).m := by
  pointwise [b77, b76]
  exact top H 127

theorem fresh (u : Fin 128) : b85 j s (ix3 b h u) = x.w st u := by
  pointwise [b85, b84, b83, b82, b81, b80, b79, b78]
  simp only [next_m H, decay H, H.ig]
  rfl

theorem kept : b90 j s (ix2 b h) = x.al st := by
  pointwise [b90, b89, b88, b87, b86]
  simp only [next_m H, decay H, H.m]
  rfl

theorem next_C (i e : Fin 256) : b98 j s (ix4 b h i e) = (x.next st).C i e := by
  pointwise [b98, b97, b96, b95, b94, b93, b92, b91]
  simp only [kept H, fresh H, H.k, H.v, H.C]
  show _ = x.al st * st.C i e + ∑ u, x.k u i * (x.w st u * scale) * x.v u e
  congr 1
  exact Finset.sum_congr rfl fun u _ => congrArg (· * x.v u e) (mul_left_comm _ _ _)

theorem next_n (i : Fin 256) : b103 j s (ix3 b h i) = (x.next st).n i := by
  pointwise [b103, b102, b101, b100, b99, b94, b93, b92, b91]
  simp only [kept H, fresh H, H.k, H.n]
  show _ = x.al st * st.n i + ∑ u, x.k u i * (x.w st u * scale)
  congr 1
  exact Finset.sum_congr rfl fun u _ => mul_left_comm _ _ _

end Trip

end Cert.ReferenceIdeal.Trip

end
-- ==== Proof.RefRun.lean ====
module

public import proofs.«01_k».proof.Proof.Gen.ReferenceIdeal.Run
public import proofs.«01_k».proof.Proof.Gen.ReferenceIdeal.Step

/-! The reference's loop as a sequence of states: one trip of the loop takes the arrays it carries to the arrays of
    `Step.step`, so after the sixteen trips the results are those of the sixteenth state. -/

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- Before trip `j` the buffers hold the state `s`: the carried arrays, the chunked operands, the causal mask, the number. -/
structure At (V0 : Valuation τ sig (Elt F)) (s : State F) (j : ℕ) : Prop where
  C : V0 (Proc.devRef .tc main_v52_7) = s.main_v52_7
  n : V0 (Proc.devRef .tc main_v52_8) = s.main_v52_8
  m : V0 (Proc.devRef .tc main_v52_9) = s.main_v52_9
  hs : V0 (Proc.devRef .tc main_v52_10) = s.main_v52_10
  q : V0 (Proc.devRef .tc main_v52_0) = s.main_v52_0
  k : V0 (Proc.devRef .tc main_v52_1) = s.main_v52_1
  v : V0 (Proc.devRef .tc main_v52_2) = s.main_v52_2
  ig : V0 (Proc.devRef .tc main_v52_3) = s.main_v52_3
  lf : V0 (Proc.devRef .tc main_v52_4) = s.main_v52_4
  mask : V0 (Proc.devRef .tc main_v52_5) = K_main_v47 (F := F)
  trip : V0 (Proc.devRef .tc main_v52_6) = constantI S_ 32 (BitVec.ofNat 32 j)

variable {V0 : Valuation τ sig (Elt F)} {s : State F} {j : ℕ}

set_option maxRecDepth 8192 in
theorem queries (h : At V0 s j) : res_main_while0b_v121 V0 = b5 j s := by
  unfold res_main_while0b_v121
  rw [h.q, h.trip]
  rfl

set_option maxRecDepth 8192 in
theorem keys (h : At V0 s j) : res_main_while0b_v122 V0 = b11 j s := by
  unfold res_main_while0b_v122
  rw [h.k, h.trip]
  rfl

set_option maxRecDepth 8192 in
theorem values (h : At V0 s j) : res_main_while0b_v123 V0 = b17 j s := by
  unfold res_main_while0b_v123
  rw [h.v, h.trip]
  rfl

set_option maxRecDepth 8192 in
theorem inputs (h : At V0 s j) : res_main_while0b_v124 V0 = b22 j s := by
  unfold res_main_while0b_v124
  rw [h.ig, h.trip]
  rfl

set_option maxRecDepth 8192 in
theorem forgets (h : At V0 s j) : res_main_while0b_v126 V0 = b30 j s := by
  unfold res_main_while0b_v126
  rw [h.lf, h.trip]
  rfl

set_option maxRecDepth 8192 in
theorem decays (h : At V0 s j) : res_main_while0b_v135 V0 = b43 j s := by
  unfold res_main_while0b_v135
  rw [forgets h, inputs h, h.mask]
  rfl

set_option maxRecDepth 8192 in
theorem inter (h : At V0 s j) : res_main_while0b_v138 V0 = b46 j s := by
  unfold res_main_while0b_v138
  rw [forgets h, h.m]
  rfl

set_option maxRecDepth 8192 in
theorem peaks (h : At V0 s j) : res_main_while0b_v140 V0 = b49 j s := by
  unfold res_main_while0b_v140
  rw [inter h, decays h]
  rfl

set_option maxRecDepth 8192 in
theorem scores (h : At V0 s j) : res_main_while0b_v146 V0 = b55 j s := by
  unfold res_main_while0b_v146
  rw [queries h, keys h, decays h, peaks h]
  rfl

set_option maxRecDepth 8192 in
theorem carryWeights (h : At V0 s j) : res_main_while0b_v148 V0 = b57 j s := by
  unfold res_main_while0b_v148
  rw [inter h, peaks h]
  rfl

set_option maxRecDepth 8192 in
theorem peak (h : At V0 s j) : res_main_while0b_v167 V0 = b77 j s := by
  unfold res_main_while0b_v167
  rw [peaks h]
  rfl

set_option maxRecDepth 8192 in
theorem weights (h : At V0 s j) : res_main_while0b_v175 V0 = b85 j s := by
  unfold res_main_while0b_v175
  rw [forgets h, inputs h, peak h]
  rfl

set_option maxRecDepth 8192 in
theorem keep (h : At V0 s j) : res_main_while0b_v180 V0 = b90 j s := by
  unfold res_main_while0b_v180
  rw [forgets h, peak h, h.m]
  rfl

set_option maxRecDepth 8192 in
theorem next_C (h : At V0 s j) : Value.step_main_v52_7 V0 = (step j s).main_v52_7 := by
  unfold Value.step_main_v52_7
  rw [keep h, keys h, values h, weights h, h.C]
  rfl

set_option maxRecDepth 8192 in
theorem next_n (h : At V0 s j) : Value.step_main_v52_8 V0 = (step j s).main_v52_8 := by
  unfold Value.step_main_v52_8
  rw [keep h, keys h, weights h, h.n]
  rfl

set_option maxRecDepth 8192 in
theorem next_m (h : At V0 s j) : Value.step_main_v52_9 V0 = (step j s).main_v52_9 := by
  unfold Value.step_main_v52_9
  rw [peak h]
  rfl

set_option maxRecDepth 8192 in
theorem next_hs (h : At V0 s j) : Value.step_main_v52_10 V0 = (step j s).main_v52_10 := by
  unfold Value.step_main_v52_10
  rw [carryWeights h, queries h, scores h, values h, peaks h, h.C, h.n, h.hs, h.trip]
  rfl

theorem next_trip (h : At V0 s j) : Value.step_main_v52_6 V0 = constantI S_ 32 (BitVec.ofNat 32 (j + 1)) := by
  unfold Value.step_main_v52_6
  rw [h.trip]
  funext i
  exact (BitVec.ofNat_add j 1).symm

/-- One trip takes a state to the next one. -/
theorem At.next (h : At V0 s j) : At (STEP V0) (step j s) (j + 1) where
  C := (STEP_main_v52_7 V0).trans (next_C h)
  n := (STEP_main_v52_8 V0).trans (next_n h)
  m := (STEP_main_v52_9 V0).trans (next_m h)
  hs := (STEP_main_v52_10 V0).trans (next_hs h)
  q := (STEP_main_v52_0 V0).trans h.q
  k := (STEP_main_v52_1 V0).trans h.k
  v := (STEP_main_v52_2 V0).trans h.v
  ig := (STEP_main_v52_3 V0).trans h.ig
  lf := (STEP_main_v52_4 V0).trans h.lf
  mask := (STEP_main_v52_5 V0).trans h.mask
  trip := (STEP_main_v52_6 V0).trans (next_trip h)

variable (m : (ℓ : Loc nD τ sig) → Buf (Elt F) ℓ) (c : Dev nD)

/-- The states of the loop on device `c`. -/
def states : ℕ → State F
  | 0 => init (m ((c.tc : Thread nD τ).loc main_arg0)) (m ((c.tc : Thread nD τ).loc main_arg1))
      (m ((c.tc : Thread nD τ).loc main_arg3))
  | k + 1 => step k (states k)

set_option maxRecDepth 65536 in
set_option maxHeartbeats 500000 in
theorem start : At (entryContents preI m c) (states m c 0) 0 := by
  constructor <;> (simp only [entryContents, afterL_cons, afterL_nil]; after_reads_simp) <;> rfl

theorem at_trip : ∀ k, At (STEP^[k] (entryContents preI m c)) (states m c k) k
  | 0 => start m c
  | k + 1 => by
    rw [Function.iterate_succ_apply']
    exact (at_trip k).next

set_option maxRecDepth 8192 in
theorem result (h : At V0 s j) {x0 : (⟨S8192x7168, .f32⟩ : BufTy).Contents (Elt F)}
    {x2 : (⟨S1x3x1024, .f32⟩ : BufTy).Contents (Elt F)} {x4 : (⟨S1x1024, .f32⟩ : BufTy).Contents (Elt F)}
    (h0 : V0 (Proc.devRef .tc main_arg0) = x0) (h2 : V0 (Proc.devRef .tc main_arg2) = x2)
    (h4 : V0 (Proc.devRef .tc main_arg4) = x4) : out_main_v116 V0 = R_main_v116 s x0 x2 x4 := by
  unfold out_main_v116
  rw [h.hs, h0, h2, h4]
  rfl

theorem result_5 (h : At V0 s j) {x : (⟨S1x16384x2048, .f32⟩ : BufTy).Contents (Elt F)}
    (hx : V0 (Proc.devRef .tc main_arg5) = x) : out_main_v117 V0 = R_main_v117 s x := by
  unfold out_main_v117
  rw [hx]
  rfl

theorem result_6 (h : At V0 s j) {x : (⟨S1x2048x2048, .f32⟩ : BufTy).Contents (Elt F)}
    (hx : V0 (Proc.devRef .tc main_arg6) = x) : out_main_v118 V0 = R_main_v118 s x := by
  unfold out_main_v118
  rw [hx]
  rfl

theorem result_7 (h : At V0 s j) {x : (⟨S1x2048x2048, .f32⟩ : BufTy).Contents (Elt F)}
    (hx : V0 (Proc.devRef .tc main_arg7) = x) : out_main_v119 V0 = R_main_v119 s x := by
  unfold out_main_v119
  rw [hx]
  rfl

theorem result_8 (h : At V0 s j) {x : (⟨S1x2048x2048, .f32⟩ : BufTy).Contents (Elt F)}
    (hx : V0 (Proc.devRef .tc main_arg8) = x) : out_main_v120 V0 = R_main_v120 s x := by
  unfold out_main_v120
  rw [hx]
  rfl

/-- Every run ends with the results of the sixteenth state and with the arguments as they were. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v116) = R_main_v116 (states m c 16) (m ((c.tc : Thread nD τ).loc main_arg0)) (m ((c.tc : Thread nD τ).loc main_arg2)) (m ((c.tc : Thread nD τ).loc main_arg4))
      ∧ r.2.mem ((c.tc : Thread nD τ).loc main_v117) = R_main_v117 (states m c 16) (m ((c.tc : Thread nD τ).loc main_arg5))
      ∧ r.2.mem ((c.tc : Thread nD τ).loc main_v118) = R_main_v118 (states m c 16) (m ((c.tc : Thread nD τ).loc main_arg6))
      ∧ r.2.mem ((c.tc : Thread nD τ).loc main_v119) = R_main_v119 (states m c 16) (m ((c.tc : Thread nD τ).loc main_arg7))
      ∧ r.2.mem ((c.tc : Thread nD τ).loc main_v120) = R_main_v120 (states m c 16) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
    obtain ⟨hy, h5, h6, h7, h8, hargs⟩ := h c
    have hk := at_trip m c 16
    exact ⟨hy.trans (result hk (iter_main_arg0 m c 16) (iter_main_arg2 m c 16) (iter_main_arg4 m c 16)),
      h5.trans (result_5 hk (iter_main_arg5 m c 16)), h6.trans (result_6 hk (iter_main_arg6 m c 16)),
      h7.trans (result_7 hk (iter_main_arg7 m c 16)), h8.trans (result_8 hk (iter_main_arg8 m c 16)), hargs⟩)
    (Value.run m ρ)

end Cert.ReferenceIdeal.Trips

end
-- ==== Proof.RefInit.lean ====
/-
  The reference's results: its loop carries the heads' states, and the rows it makes are the mixed rows.
-/
module

public import proofs.«01_k».proof.Proof.RefStep
public import proofs.«01_k».proof.Proof.RefRun

@[expose] public section

set_option maxRecDepth 16384

noncomputable section

namespace Cert.ReferenceIdeal.Trips

open Idealize.ShloMosaic Idealize.ShloMosaic.TcCoe Cert.ReferenceIdeal Cert.ReferenceIdeal.Gen Cert.ReferenceIdeal.Step Cert.ReferenceIdeal.Trip Cert.Mix

section Inputs
variable (a0 : FVec Ideal S8192x7168 .f32) (a1 : FVec Ideal S8192x128 .f32) (a2 : FVec Ideal S1x3x1024 .f32)
  (a3 : FVec Ideal S1x8 .f32) (a4 : FVec Ideal S1x1024 .f32)

/-- The arrays that the mixing reads, of the reference's arguments. -/
def argsOf : Args where
  P r l := a0 (ix2 r l)
  gates r l := a1 (ix2 r l)
  cw k l := a2 (ix3 0 k l)
  gb i := a3 (ix2 0 i)
  g l := a4 (ix2 0 l)

theorem log1p_exp_ne_bot (y : EReal) : Ideal.log1p (Ideal.exp y) ≠ ⊥ := by
  have key : ∀ r : ℝ, 0 < r → Ideal.log (r : EReal) ≠ ⊥ := fun r hr => by
    show (if r ≤ 0 then ⊥ else (Real.log r : EReal)) ≠ ⊥
    rw [if_neg (not_le.2 hr)]
    exact EReal.coe_ne_bot _
  induction y using EReal.rec with
  | bot =>
    show Ideal.log (1 + 0) ≠ ⊥
    rw [add_zero]
    exact key 1 one_pos
  | coe r =>
    show Ideal.log (1 + (Real.exp r : EReal)) ≠ ⊥
    rw [← EReal.coe_one, ← EReal.coe_add]
    exact key _ (by positivity)
  | top =>
    show Ideal.log (1 + ⊤) ≠ ⊥
    rw [← EReal.coe_one, EReal.coe_add_top]
    exact top_ne_bot

theorem log_sigmoid (x : EReal) :
    -(max (-x) 0 + Ideal.log1p (Ideal.exp (-FloatOps.absf (F := Ideal) (φ := .f32) (-x)))) = logSigmoid x := by
  unfold logSigmoid
  have ha : FloatOps.absf (F := Ideal) (φ := .f32) (-x) = absv x := by
    show max (-x) (- -x) = max x (-x)
    rw [neg_neg, max_comm]
  rw [ha, zero_sub]
  have h1 : max (-x) 0 ≠ (⊥ : EReal) := fun h => absurd (h ▸ le_max_right (-x) 0) (by simp)
  have h2 : Ideal.log1p (Ideal.exp (-absv x)) ≠ ⊥ := log1p_exp_ne_bot _
  rw [EReal.neg_add (Or.inl h1) (Or.inr h2)]
  congr 1
  rcases le_total x 0 with h | h
  · rw [min_eq_left h, max_eq_left (EReal.neg_nonneg.2 h), neg_neg]
  · rw [min_eq_right h, max_eq_right (EReal.neg_le.1 (by rwa [neg_zero])), neg_zero]

theorem init_q (c : Fin 16) (b h : Fin 4) (t : Fin 128) (e : Fin 256) :
    (init (F := Ideal) a0 a1 a3).main_v52_0 (ix5 c b h t e) = ((argsOf a0 a1 a2 a3 a4).chunk (16 * b.val + c.val) h).q t e := by
  show A_main_v20 (F := Ideal) a0 a1 a3 (ix5 c b h t e) = _
  pointwise [A_main_v20, A_main_v19, A_main_v16, A_main_v4, A_main_v0]
  show _ = a0 (ix2 _ _)
  congr 2 <;> apply Fin.ext
  · show _ = (128 * (16 * b.val + c.val) + t.val) % 8192
    simp only
    omega
  · show _ = (3072 + (256 * h.val + e.val)) % 7168
    simp only
    omega

theorem init_k (c : Fin 16) (b h : Fin 4) (t : Fin 128) (e : Fin 256) :
    (init (F := Ideal) a0 a1 a3).main_v52_1 (ix5 c b h t e) =
      ((argsOf a0 a1 a2 a3 a4).chunk (16 * b.val + c.val) h).k t e * scale := by
  show A_main_v24 (F := Ideal) a0 a1 a3 (ix5 c b h t e) = _
  pointwise [A_main_v24, A_main_v22, A_main_v21, A_main_v17, A_main_v5, A_main_v0, K_main_v23, K_main_cst]
  show _ = a0 (ix2 _ _) * scale
  congr 3 <;> apply Fin.ext
  · show _ = (128 * (16 * b.val + c.val) + t.val) % 8192
    simp only
    omega
  · show _ = (4096 + (256 * h.val + e.val)) % 7168
    simp only
    omega

theorem init_v (c : Fin 16) (b h : Fin 4) (t : Fin 128) (e : Fin 256) :
    (init (F := Ideal) a0 a1 a3).main_v52_2 (ix5 c b h t e) = ((argsOf a0 a1 a2 a3 a4).chunk (16 * b.val + c.val) h).v t e := by
  show A_main_v26 (F := Ideal) a0 a1 a3 (ix5 c b h t e) = _
  pointwise [A_main_v26, A_main_v25, A_main_v18, A_main_v6, A_main_v0]
  show _ = a0 (ix2 _ _)
  congr 2 <;> apply Fin.ext
  · show _ = (128 * (16 * b.val + c.val) + t.val) % 8192
    simp only
    omega
  · show _ = (5120 + (256 * h.val + e.val)) % 7168
    simp only
    omega

theorem init_ig (c : Fin 16) (b h : Fin 4) (t : Fin 128) :
    (init (F := Ideal) a0 a1 a3).main_v52_3 (ix4 c b h t) = ((argsOf a0 a1 a2 a3 a4).chunk (16 * b.val + c.val) h).ig t := by
  show A_main_v28 (F := Ideal) a0 a1 a3 (ix4 c b h t) = _
  pointwise [A_main_v28, A_main_v27, A_main_v14, A_main_v13, A_main_v12, A_main_v11, A_main_v10, A_main_v9, A_main_v8]
  show _ = a1 (ix2 _ _) + a3 (ix2 _ _)
  congr 3 <;> apply Fin.ext
  · show _ = (128 * (16 * b.val + c.val) + t.val) % 8192
    simp only
    omega

theorem init_lf (c : Fin 16) (b h : Fin 4) (t : Fin 128) :
    (init (F := Ideal) a0 a1 a3).main_v52_4 (ix4 c b h t) = ((argsOf a0 a1 a2 a3 a4).chunk (16 * b.val + c.val) h).lf t := by
  show A_main_v45 (F := Ideal) a0 a1 a3 (ix4 c b h t) = _
  pointwise [A_main_v45, A_main_v44, A_main_v43, A_main_v42, A_main_v41, A_main_v40, A_main_v39, A_main_v38, A_main_v37, A_main_v36, A_main_v34, A_main_v33, A_main_v31, A_main_v29, K_main_cst_0, K_main_v30, K_main_v32, K_main_v35, A_main_v15, A_main_v13, A_main_v12, A_main_v11, A_main_v10, A_main_v9, A_main_v8]
  rw [if_neg (by simp), log_sigmoid]
  show logSigmoid _ = logSigmoid (a1 (ix2 _ _) + a3 (ix2 _ _))
  congr 4 <;> apply Fin.ext
  · show _ = (128 * (16 * b.val + c.val) + t.val) % 8192
    simp only
    omega

end Inputs

end Cert.ReferenceIdeal.Trips

end
-- ==== Proof.RefLoop.lean ====
/-
  The reference's results: its loop carries the heads' states, and the rows it makes are the mixed rows.
-/
module

public import proofs.«01_k».proof.Proof.RefInit
public import proofs.«01_k».proof.Proof.RefRun

@[expose] public section

set_option maxRecDepth 16384

noncomputable section

namespace Cert.ReferenceIdeal.Trips

open Idealize.ShloMosaic Idealize.ShloMosaic.TcCoe Cert.ReferenceIdeal Cert.ReferenceIdeal.Gen Cert.ReferenceIdeal.Step Cert.ReferenceIdeal.Trip Cert.Mix

section Loop
variable (m : (ℓ : Loc nD τ sig) → Buf (Elt Ideal) ℓ) (c : Dev nD)

/-- The arrays that the mixing reads, of a memory. -/
def args : Args := argsOf (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))

/-- What a state holds before trip `j`: every chunk's inputs, the heads' states, the outputs of the chunks before. -/
structure Holds (A : Args) (s : State Ideal) (j : ℕ) : Prop where
  q : ∀ (c : Fin 16) (b h : Fin 4) (t : Fin 128) (e : Fin 256), s.main_v52_0 (ix5 c b h t e) = (A.chunk (16 * b.val + c.val) h).q t e
  k : ∀ (c : Fin 16) (b h : Fin 4) (t : Fin 128) (e : Fin 256), s.main_v52_1 (ix5 c b h t e) = (A.chunk (16 * b.val + c.val) h).k t e * scale
  v : ∀ (c : Fin 16) (b h : Fin 4) (t : Fin 128) (e : Fin 256), s.main_v52_2 (ix5 c b h t e) = (A.chunk (16 * b.val + c.val) h).v t e
  ig : ∀ (c : Fin 16) (b h : Fin 4) (t : Fin 128), s.main_v52_3 (ix4 c b h t) = (A.chunk (16 * b.val + c.val) h).ig t
  lf : ∀ (c : Fin 16) (b h : Fin 4) (t : Fin 128), s.main_v52_4 (ix4 c b h t) = (A.chunk (16 * b.val + c.val) h).lf t
  C : ∀ (b h : Fin 4) (i e : Fin 256), s.main_v52_7 (ix4 b h i e) = (A.state b h j).C i e
  n : ∀ (b h : Fin 4) (i : Fin 256), s.main_v52_8 (ix3 b h i) = (A.state b h j).n i
  m : ∀ (b h : Fin 4), s.main_v52_9 (ix2 b h) = (A.state b h j).m
  hs : ∀ (c : Fin 16), c.val < j → ∀ (b h : Fin 4) (t : Fin 128) (e : Fin 256), s.main_v52_10 (ix5 c b h t e) =
    (A.chunk (16 * b.val + c.val) h).out (A.state b h c.val) t e

theorem Holds.reads {A : Args} {s : State Ideal} {j : ℕ} (H : Holds A s j) (hj : j < 16) (b h : Fin 4) :
    Reads s j b h (A.chunk (16 * b.val + j) h) (A.state b h j) where
  q t i := (q_at s j hj b h t i).trans (H.q ⟨j, hj⟩ b h t i)
  k t i := (k_at s j hj b h t i).trans (H.k ⟨j, hj⟩ b h t i)
  v t i := (v_at s j hj b h t i).trans (H.v ⟨j, hj⟩ b h t i)
  ig t := (ig_at s j hj b h t).trans (H.ig ⟨j, hj⟩ b h t)
  lf t := (lf_at s j hj b h t).trans (H.lf ⟨j, hj⟩ b h t)
  C := H.C b h
  n := H.n b h
  m := H.m b h

theorem Holds.step {A : Args} {s : State Ideal} {j : ℕ} (H : Holds A s j) (hj : j < 16) : Holds A (Step.step j s) (j + 1) where
  q := H.q
  k := H.k
  v := H.v
  ig := H.ig
  lf := H.lf
  C b h i e := by
    rw [step_main_v52_7]
    exact Trip.next_C (H.reads hj b h) i e
  n b h i := by
    rw [step_main_v52_8]
    exact Trip.next_n (H.reads hj b h) i
  m b h := by
    rw [step_main_v52_9]
    exact Trip.next_m (H.reads hj b h)
  hs c hc b h t e := by
    rw [step_main_v52_10, hs_at s j hj]
    by_cases hcj : c.val = j
    · rw [if_pos hcj, hcj]
      exact output (H.reads hj b h) t e
    · rw [if_neg hcj]
      exact H.hs c (by omega) b h t e

theorem states_hold : ∀ j, j ≤ 16 → Holds (args m c) (states m c j) j
  | 0, _ =>
    { q := init_q _ _ _ _ _
      k := init_k _ _ _ _ _
      v := init_v _ _ _ _ _
      ig := init_ig _ _ _ _ _
      lf := init_lf _ _ _ _ _
      C := fun b h i e => by
        show (K_main_v48 (F := Ideal)) (ix4 b h i e) = (0 : EReal)
        pointwise [K_main_v48, K_main_cst_1]
      n := fun b h i => by
        show (K_main_v49 (F := Ideal)) (ix3 b h i) = (0 : EReal)
        pointwise [K_main_v49, K_main_cst_2]
      m := fun b h => by
        show (K_main_v50 (F := Ideal)) (ix2 b h) = (0 : EReal)
        pointwise [K_main_v50, K_main_cst_3]
      hs := fun c hc => absurd hc (Nat.not_lt_zero _) }
  | j + 1, hj => (states_hold j (by omega)).step (by omega)

end Loop

end Cert.ReferenceIdeal.Trips

end
-- ==== Proof.RefValue.lean ====
/-
  The reference's results: its loop carries the heads' states, and the rows it makes are the mixed rows.
-/
module

public import proofs.«01_k».proof.Proof.RefLoop
public import proofs.«01_k».proof.Proof.RefRun

@[expose] public section

set_option maxRecDepth 16384

noncomputable section

namespace Cert.ReferenceIdeal.Trips

open Idealize.ShloMosaic Idealize.ShloMosaic.TcCoe Cert.ReferenceIdeal Cert.ReferenceIdeal.Gen Cert.ReferenceIdeal.Step Cert.ReferenceIdeal.Trip Cert.Mix

section Result
variable (a0 : FVec Ideal S8192x7168 .f32) (a1 : FVec Ideal S8192x128 .f32) (a2 : FVec Ideal S1x3x1024 .f32)
  (a3 : FVec Ideal S1x8 .f32) (a4 : FVec Ideal S1x1024 .f32) (s : State Ideal)

theorem zero_number : FloatOps.sitofp (F := Ideal) .f32 (0#32) = (0 : EReal) := by
  show (((0#32 : BitVec 32).toInt : ℝ) : EReal) = 0
  simp

/-- The convolution's lanes of a row. -/
theorem conv_lanes (r : Fin 8192) (l : Fin 1024) :
    R_main_v116 (F := Ideal) s a0 a2 a4 (ix2 r ⟨l, by omega⟩) = (argsOf a0 a1 a2 a3 a4).conv r l := by
  pointwise [R_main_v116]
  unfold Args.conv
  have e2 : (if h : r.val / 2048 < 4 ∧ 2 ≤ r.val % 2048 ∧ r.val % 2048 - 2 < 2048 then
      a0 (ix2 ⟨r.val / 2048 * 2048 + (r.val % 2048 - 2), by omega⟩ ⟨1024 + l.val, by omega⟩) *
        a0 (ix2 ⟨r.val / 2048 * 2048 + (r.val % 2048 - 2), by omega⟩ ⟨2048 + l.val, by omega⟩)
      else FloatOps.sitofp (F := Ideal) FTy.f32 0#32) = (argsOf a0 a1 a2 a3 a4).zAt 2 r l := by
    unfold Args.zAt
    by_cases h : 2 ≤ r.val % 2048
    · rw [dif_pos (by omega), if_pos h]
      have : (⟨r.val / 2048 * 2048 + (r.val % 2048 - 2), by omega⟩ : Fin 8192) = ⟨r.val - 2, by omega⟩ := Fin.ext (by simp only; omega)
      rw [this]
      rfl
    · rw [dif_neg (by omega), if_neg h]
      exact zero_number
  have e1 : (if h : r.val / 2048 < 4 ∧ 2 ≤ 1 + r.val % 2048 ∧ 1 + r.val % 2048 - 2 < 2048 then
      a0 (ix2 ⟨r.val / 2048 * 2048 + (1 + r.val % 2048 - 2), by omega⟩ ⟨1024 + l.val, by omega⟩) *
        a0 (ix2 ⟨r.val / 2048 * 2048 + (1 + r.val % 2048 - 2), by omega⟩ ⟨2048 + l.val, by omega⟩)
      else FloatOps.sitofp (F := Ideal) FTy.f32 0#32) = (argsOf a0 a1 a2 a3 a4).zAt 1 r l := by
    unfold Args.zAt
    by_cases h : 1 ≤ r.val % 2048
    · rw [dif_pos (by omega), if_pos h]
      have : (⟨r.val / 2048 * 2048 + (1 + r.val % 2048 - 2), by omega⟩ : Fin 8192) = ⟨r.val - 1, by omega⟩ := Fin.ext (by simp only; omega)
      rw [this]
      rfl
    · rw [dif_neg (by omega), if_neg h]
      exact zero_number
  simp only [e2, e1]
  rw [dif_pos (by omega)]
  rfl

/-- A head's lanes of a row. -/
theorem head_lanes (H : Holds (argsOf a0 a1 a2 a3 a4) s 16) (r : Fin 8192) (l : Fin 1024) :
    R_main_v116 (F := Ideal) s a0 a2 a4 (ix2 r ⟨1024 + l, by omega⟩) =
      (argsOf a0 a1 a2 a3 a4).head (r / 128) ⟨l / 256, by omega⟩ ⟨r % 128, by omega⟩ ⟨l % 256, by omega⟩ := by
  pointwise [R_main_v116]
  have hr := r.isLt
  have hl := l.isLt
  have e : ∀ i : Fin 256, s.main_v52_10 (ix5 ⟨r.val % 2048 / 128, by omega⟩ ⟨r.val / 2048, by omega⟩ ⟨l.val / 256, by omega⟩
      ⟨r.val % 2048 % 128, by omega⟩ i) = ((argsOf a0 a1 a2 a3 a4).chunk (r.val / 128) ⟨l.val / 256, by omega⟩).out
        ((argsOf a0 a1 a2 a3 a4).state (r.val / 128 / 16) ⟨l.val / 256, by omega⟩ (r.val / 128 % 16))
        ⟨r.val % 128, by omega⟩ i := fun i => by
    rw [H.hs _ (by show r.val % 2048 / 128 < 16; omega)]
    simp only
    rw [show 16 * (r.val / 2048) + r.val % 2048 / 128 = r.val / 128 by omega,
      show r.val / 2048 = r.val / 128 / 16 by omega, show r.val % 2048 / 128 = r.val / 128 % 16 by omega]
    congr 1
    exact Fin.ext (by show r.val % 2048 % 128 = r.val % 128; omega)
  simp only [e]
  unfold Args.head rms
  have e0 : (argsOf a0 a1 a2 a3 a4).P (Args.row (r.val / 128) ⟨r.val % 128, by omega⟩)
      (Args.lane 6144 ⟨l.val / 256, by omega⟩ ⟨l.val % 256, by omega⟩) = a0 (ix2 r ⟨6144 + l.val, by omega⟩) := by
    show a0 (ix2 _ _) = _
    congr 2 <;> apply Fin.ext
    · show (128 * (r.val / 128) + r.val % 128) % 8192 = r.val
      omega
    · show (6144 + (256 * (l.val / 256) + l.val % 256)) % 7168 = 6144 + l.val
      omega
  have e4 : (argsOf a0 a1 a2 a3 a4).g ⟨256 * (l.val / 256) + l.val % 256, by omega⟩ = a4 (ix2 0 l) := by
    show a4 (ix2 0 _) = _
    congr 2
    exact Fin.ext (by show 256 * (l.val / 256) + l.val % 256 = l.val; omega)
  dsimp only
  rw [e0, e4]
  rfl

/-- The mixed rows. -/
theorem rows (H : Holds (argsOf a0 a1 a2 a3 a4) s 16) (r : Fin 8192) (l : Fin 2048) :
    R_main_v116 (F := Ideal) s a0 a2 a4 (ix2 r l) = (argsOf a0 a1 a2 a3 a4).mixed r l := by
  unfold Args.mixed
  by_cases h : l.val < 1024
  · rw [dif_pos h]
    exact conv_lanes a0 a1 a2 a3 a4 s r ⟨l.val, h⟩
  · rw [dif_neg h]
    have hl := l.isLt
    have e := head_lanes a0 a1 a2 a3 a4 s H r ⟨l.val - 1024, by omega⟩
    have e1 : (⟨1024 + (l.val - 1024), by omega⟩ : Fin 2048) = l := Fin.ext (by simp only; omega)
    rw [e1] at e
    refine e.trans ?_
    congr 1
    exact Fin.ext (by show (l.val - 1024) % 256 = l.val % 256; omega)

theorem table_117 (a : FVec Ideal S1x16384x2048 .f32) (r : Fin 16384) (l : Fin 2048) :
    R_main_v117 (F := Ideal) s a (ix2 r l) = a (ix3 0 r l) := by
  pointwise [R_main_v117]

theorem table_118 (a : FVec Ideal S1x2048x2048 .f32) (r l : Fin 2048) :
    R_main_v118 (F := Ideal) s a (ix2 r l) = a (ix3 0 r l) := by
  pointwise [R_main_v118]

theorem table_119 (a : FVec Ideal S1x2048x2048 .f32) (r l : Fin 2048) :
    R_main_v119 (F := Ideal) s a (ix2 r l) = a (ix3 0 r l) := by
  pointwise [R_main_v119]

theorem table_120 (a : FVec Ideal S1x2048x2048 .f32) (r l : Fin 2048) :
    R_main_v120 (F := Ideal) s a (ix2 r l) = a (ix3 0 r l) := by
  pointwise [R_main_v120]

end Result

end Cert.ReferenceIdeal.Trips

end
-- ==== Proof.Mix.lean ====
/-
  The layer's mixing step: the kernel's results are the reference's.
-/
module

public import proofs.«01_k».proof.Proof.Fold
public import proofs.«01_k».proof.Proof.Tables
public import proofs.«01_k».proof.Proof.RefValue
public import proofs.«01_k».proof.Proof.Gen.Kernel.Frame
public import proofs.«01_k».proof.Proof.Gen.KernelIdeal.Frame
public import proofs.«01_k».proof.Defs

@[expose] public section

noncomputable section

namespace Cert.Proof

open Idealize.ShloMosaic Idealize.SL.Sem

/-- The reference writes none of its arguments and has no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0 :=
  (θ_run Cert.ReferenceIdeal.defs _ _).mono (fun r h => ⟨fun c => (h c).2.2.2.2.2, sem_eq_zero_of_no_sems (by decide) r.2⟩)
    (Cert.ReferenceIdeal.Trips.run (F := Ideal) m ρ)

/-- Two arrays of two axes with the same entries are the same. -/
theorem ext2 {n0 n1 : Nat} {X : Type} {f g : (⟨2, ![n0, n1]⟩ : Shape).Idx → X}
    (h : ∀ (r : Fin n0) (l : Fin n1), f (ix2 r l) = g (ix2 r l)) : f = g :=
  funext fun j => by rw [eq_ix2 j]; exact h _ _

section Equal
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The mixed rows are the same. -/
theorem equal_rows
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Step.R_main_v116 (F := Ideal) (Cert.ReferenceIdeal.Trips.states m' c 16)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg4)) =
    Cert.KernelIdeal.Value.G17 m c := by
  have hA : Cert.ReferenceIdeal.Trips.args m' c = Cert.KernelIdeal.Point.args m c := by
    unfold Cert.ReferenceIdeal.Trips.args
    rw [h0, h1, h2, h3, h4]
    rfl
  refine ext2 (n0 := 8192) (n1 := 2048) fun r l => ?_
  refine (Cert.ReferenceIdeal.Trips.rows _ _ _ _ _ _ (Cert.ReferenceIdeal.Trips.states_hold m' c 16 le_rfl) r l).trans ?_
  refine Eq.trans ?_ (Cert.KernelIdeal.Point.G17_eq m c r l).symm
  exact congrArg (fun A : Cert.Mix.Args => A.mixed r l) hA

/-- The rounded table of argument 5: both hold its rows. -/
theorem equal_experts
    (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Step.R_main_v117 (F := Ideal) (Cert.ReferenceIdeal.Trips.states m' c 16)
      (m' ((c.tc : Thread Cert.ReferenceIdeal.nD Cert.ReferenceIdeal.τ).loc Cert.ReferenceIdeal.main_arg5)) =
    Cert.KernelIdeal.Value.G18 m c := by
  refine ext2 (n0 := 16384) (n1 := 2048) fun r l => ?_
  refine (Cert.ReferenceIdeal.Trips.table_117 _ _ r l).trans ?_
  refine Eq.trans ?_ (Cert.KernelIdeal.Point.G18_eq m c r l).symm
  exact congrFun h _

/-- The rounded table of argument 6: both hold its rows. -/
theorem equal_out
    (h : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Step.R_main_v118 (F := Ideal) (Cert.ReferenceIdeal.Trips.states m' c 16)
      (m' ((c.tc : Thread Cert.ReferenceIdeal.nD Cert.ReferenceIdeal.τ).loc Cert.ReferenceIdeal.main_arg6)) =
    Cert.KernelIdeal.Value.G19 m c := by
  refine ext2 (n0 := 2048) (n1 := 2048) fun r l => ?_
  refine (Cert.ReferenceIdeal.Trips.table_118 _ _ r l).trans ?_
  refine Eq.trans ?_ (Cert.KernelIdeal.Point.G19_eq m c r l).symm
  exact congrFun h _

/-- The rounded table of argument 7: both hold its rows. -/
theorem equal_queries
    (h : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Step.R_main_v119 (F := Ideal) (Cert.ReferenceIdeal.Trips.states m' c 16)
      (m' ((c.tc : Thread Cert.ReferenceIdeal.nD Cert.ReferenceIdeal.τ).loc Cert.ReferenceIdeal.main_arg7)) =
    Cert.KernelIdeal.Value.G20 m c := by
  refine ext2 (n0 := 2048) (n1 := 2048) fun r l => ?_
  refine (Cert.ReferenceIdeal.Trips.table_119 _ _ r l).trans ?_
  refine Eq.trans ?_ (Cert.KernelIdeal.Point.G20_eq m c r l).symm
  exact congrFun h _

/-- The rounded table of argument 8: both hold its rows. -/
theorem equal_gate
    (h : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Step.R_main_v120 (F := Ideal) (Cert.ReferenceIdeal.Trips.states m' c 16)
      (m' ((c.tc : Thread Cert.ReferenceIdeal.nD Cert.ReferenceIdeal.τ).loc Cert.ReferenceIdeal.main_arg8)) =
    Cert.KernelIdeal.Value.G21 m c := by
  refine ext2 (n0 := 2048) (n1 := 2048) fun r l => ?_
  refine (Cert.ReferenceIdeal.Trips.table_120 _ _ r l).trans ?_
  refine Eq.trans ?_ (Cert.KernelIdeal.Point.G21_eq m c r l).symm
  exact congrFun h _

end Equal

end Cert.Proof

end
-- ==== Proof.Mask.lean ====
/-
  The scratch array of the experts' kernel: sixteen stores, each the routing's weights of 256 tokens on 128 experts.
-/
module

public import proofs.«01_k».proof.Proof.Gen.Kernel5Ideal.Frame

@[expose] public section

set_option maxRecDepth 16384

noncomputable section

namespace Cert.Kernel5Ideal.Experts

open Idealize.ShloMosaic Cert.Kernel5Ideal Cert.Kernel5Ideal.Gen

theorem slices_row : ∀ h : Fin 8, S8x256.Slices ![h.val, 0] S1x256 := by decide +kernel
theorem inb_keys : ∀ (h jg : Fin 8) (tb : Fin 4) (a : Fin 3),
    (![h.val, 16 * jg.val, 256 * tb.val] : Fin 3 → Nat) a + S1x16x256.size a ≤ S8x128x1024.size a := by decide +kernel
theorem inb_rows : ∀ (il tb : Fin 4) (a : Fin 3),
    (![il.val, 0, 256 * tb.val] : Fin 3 → Nat) a + S1x8x256.size a ≤ S4x8x1024.size a := by decide +kernel
theorem inb_scr : ∀ (il tb : Fin 4) (a : Fin 2),
    (![256 * tb.val, 128 * il.val] : Fin 2 → Nat) a + S256x128.size a ≤ S1024x512.size a := by decide +kernel

/-- The rectangles of the loads and of the stores. -/
abbrev keysRect (h jg : Fin 8) (tb : Fin 4) : Rect S8x128x1024 :=
  Rect.unit (s := S8x128x1024) ![h.val, 16 * jg.val, 256 * tb.val] S1x16x256.size (inb_keys h jg tb)
abbrev rowsRect (il tb : Fin 4) : Rect S4x8x1024 :=
  Rect.unit (s := S4x8x1024) ![il.val, 0, 256 * tb.val] S1x8x256.size (inb_rows il tb)
abbrev scrRect (il tb : Fin 4) : Rect S1024x512 :=
  Rect.unit (s := S1024x512) ![256 * tb.val, 128 * il.val] S256x128.size (inb_scr il tb)

variable {F : FTy → Type} [FloatOps F]

/-- A head's row of a first key's values, over sixteen second keys. -/
def headRow (x : Vec F S1x8x256 .f32) (h : Fin 8) : FVec F S16x256 .bf16 :=
  truncf .bf16 (broadcastTo S16x256 (shapeCast S1x256 (extractStridedSlice S1x256 ![h.val, 0]
    (shapeCast S8x256 x shapeCasts_S1x8x256_S8x256) (slices_row h)) shapeCasts_S1x256_S1x256) broadcasts_S1x256_S16x256)
    bitsLt_bf16_f32

/-- A head's part of the weights of sixteen experts. -/
def term (r b : Vec F S1x16x256 .bf16) (c a : Vec F S1x8x256 .f32) (h : Fin 8) : FVec F S16x256 .bf16 :=
  select (cmpf .olt (shapeCast S16x256 r shapeCasts_S1x16x256_S16x256 : FVec F S16x256 .bf16) (headRow c h))
    (mulf (headRow a h) (shapeCast S16x256 b shapeCasts_S1x16x256_S16x256)) k0_pay2

/-- The weights of sixteen experts. -/
def group (r b : Fin 8 → Vec F S1x16x256 .bf16) (c a : Vec F S1x8x256 .f32) : FVec F S16x256 .bf16 :=
  addf (addf (addf (addf (addf (addf (addf (term (r 0) (b 0) c a 0) (term (r 1) (b 1) c a 1)) (term (r 2) (b 2) c a 2))
    (term (r 3) (b 3) c a 3)) (term (r 4) (b 4) c a 4)) (term (r 5) (b 5) c a 5)) (term (r 6) (b 6) c a 6))
    (term (r 7) (b 7) c a 7)

/-- What one store puts into the scratch array. -/
def stored (r b : Fin 8 → Fin 8 → Vec F S1x16x256 .bf16) (c a : Vec F S1x8x256 .f32) : FVec F S256x128 .bf16 :=
  shapeCast S256x128 (truncf .bf16 (transpose S256x128 [1, 0] (extf .f32 (concatenate S128x256 0
    [⟨S16x256, group (r 0) (b 0) c a⟩, ⟨S16x256, group (r 1) (b 1) c a⟩, ⟨S16x256, group (r 2) (b 2) c a⟩,
      ⟨S16x256, group (r 3) (b 3) c a⟩, ⟨S16x256, group (r 4) (b 4) c a⟩, ⟨S16x256, group (r 5) (b 5) c a⟩,
      ⟨S16x256, group (r 6) (b 6) c a⟩, ⟨S16x256, group (r 7) (b 7) c a⟩]
    concatenates_S16x256_S16x256_S16x256_S16x256_S16x256_S16x256_S16x256_S16x256_S128x256_d0 : FVec F S128x256 .bf16)
    bitsLt_bf16_f32) transposes_S128x256_p1_0_S256x128) bitsLt_bf16_f32) shapeCasts_S256x128_S256x128

/-- The store of 256 tokens on 128 experts, from the blocks' loads. -/
def piece (r b : Fin 8 → Fin 8 → Fin 4 → Vec F S1x16x256 .bf16) (c a : Fin 4 → Fin 4 → Vec F S1x8x256 .f32)
    (il tb : Fin 4) : View.Piece (Elt F) S1024x512 .bf16 :=
  ⟨scrRect il tb, stored (fun jg h => r h jg tb) (fun jg h => b h jg tb) (c il tb) (a il tb)⟩
/-- The sixteen stores, the last first. -/
def pieces (r b : Fin 8 → Fin 8 → Fin 4 → Vec F S1x16x256 .bf16) (c a : Fin 4 → Fin 4 → Vec F S1x8x256 .f32) :
    List (View.Piece (Elt F) S1024x512 .bf16) :=
  [piece r b c a 3 3, piece r b c a 2 3, piece r b c a 1 3, piece r b c a 0 3,
    piece r b c a 3 2, piece r b c a 2 2, piece r b c a 1 2, piece r b c a 0 2,
    piece r b c a 3 1, piece r b c a 2 1, piece r b c a 1 1, piece r b c a 0 1,
    piece r b c a 3 0, piece r b c a 2 0, piece r b c a 1 0, piece r b c a 0 0]

section Stores
variable (c : Dev nD) (arg5 : Memref sig .tc .vmem S8x128x1024 .bf16) (harg5 : arg5.IsWhole)
  (arg6 : Memref sig .tc .vmem S8x128x1024 .bf16) (harg6 : arg6.IsWhole) (arg7 : Memref sig .tc .vmem S4x8x1024 .f32)
  (harg7 : arg7.IsWhole) (arg8 : Memref sig .tc .vmem S4x8x1024 .f32) (harg8 : arg8.IsWhole)
  (x3 x4 : Vec F S8x128x1024 .bf16) (x5 x6 : Vec F S4x8x1024 .f32)

/-- The loads of the routing's blocks. -/
abbrev keysAt (b : Memref sig .tc .vmem S8x128x1024 .bf16) (hb : b.IsWhole) (x : Vec F S8x128x1024 .bf16) (h jg : Fin 8)
    (tb : Fin 4) : Vec F S1x16x256 .bf16 :=
  View.readAt (Elt F) b.view (keysRect h jg tb).toLoadRect (hb.unread x)
abbrev rowsAt (b : Memref sig .tc .vmem S4x8x1024 .f32) (hb : b.IsWhole) (x : Vec F S4x8x1024 .f32) (il tb : Fin 4) :
    Vec F S1x8x256 .f32 :=
  View.readAt (Elt F) b.view (rowsRect il tb).toLoadRect (hb.unread x)

set_option maxHeartbeats 2000000 in
theorem pieces_A : kernelRun0_A.sl.HS0_16 (F := F) c arg5 harg5 arg6 harg6 arg7 harg7 arg8 harg8 x3 x4 x5 x6 =
    pieces (keysAt arg5 harg5 x3) (keysAt arg6 harg6 x4) (rowsAt arg7 harg7 x5) (rowsAt arg8 harg8 x6) := rfl

set_option maxHeartbeats 2000000 in
theorem pieces_B : kernelRun0_B.sl.HS0_16 (F := F) c arg5 harg5 arg6 harg6 arg7 harg7 arg8 harg8 x3 x4 x5 x6 =
    pieces (keysAt arg5 harg5 x3) (keysAt arg6 harg6 x4) (rowsAt arg7 harg7 x5) (rowsAt arg8 harg8 x6) := rfl

end Stores

end Cert.Kernel5Ideal.Experts

end
-- ==== Proof.Experts.lean ====
/-
  One grid point of the experts' kernel: what it leaves in its block of the result, from the point's input blocks and
  from what the point before left.
-/
module

public import proofs.«01_k».proof.Proof.Mask
public import proofs.«01_k».proof.Proof.Gen.Kernel5Ideal.Value
public import Idealize.ShloMosaic.Lib.Pointwise
public import Idealize.ShloMosaic.Lib.Pipeline.ValueKit
public import Idealize.ShloMosaic.Lib.Pipeline.ReadBack
public import Idealize.ShloMosaic.Lib.VecWindow

@[expose] public section

set_option maxRecDepth 16384

noncomputable section

namespace Cert.Experts

open Idealize.ShloMosaic

/-- The experts' activation. -/
def act (a : EReal) : EReal :=
  Ideal.ofBits .f32 0x3F000000#32 * a * (1 + Ideal.erf (a * Ideal.ofBits .f32 0x3F3504F3#32))

section
variable (X : (⟨2, ![8192, 2048]⟩ : Shape).Idx → EReal) (U D : (⟨2, ![16384, 2048]⟩ : Shape).Idx → EReal)
  (R B : (⟨3, ![8, 128, 8192]⟩ : Shape).Idx → EReal) (C A : (⟨3, ![128, 8, 8192]⟩ : Shape).Idx → EReal)

/-- The routing's weight of expert `128 i + j` on a token: over the heads, the product of the two keys' weights where the
    second key's rank is below the first key's count. -/
def weight (t : Fin 8192) (e : Fin 16384) : EReal :=
  ∑ h : Fin 8, if R (ix3 h ⟨e.val % 128, by omega⟩ t) < C (ix3 ⟨e.val / 128, by omega⟩ h t) then
    A (ix3 ⟨e.val / 128, by omega⟩ h t) * B (ix3 h ⟨e.val % 128, by omega⟩ t) else 0

/-- One expert's part of an entry of the result. -/
def part (t : Fin 8192) (d : Fin 2048) (e : Fin 16384) : EReal :=
  act (∑ k : Fin 2048, X (ix2 t k) * U (ix2 e k)) * weight R B C A t e * D (ix2 e d)

/-- An entry of the result. -/
def value (t : Fin 8192) (d : Fin 2048) : EReal := ∑ e : Fin 16384, part X U D R B C A t d e

/-- The experts' parts, the experts counted by a natural number, and their sum over the first `n`. -/
def partAt (t : Fin 8192) (d : Fin 2048) (e : ℕ) : EReal := if h : e < 16384 then part X U D R B C A t d ⟨e, h⟩ else 0
def upTo (t : Fin 8192) (d : Fin 2048) (n : ℕ) : EReal := ∑ e ∈ Finset.range n, partAt X U D R B C A t d e

theorem upTo_all (t : Fin 8192) (d : Fin 2048) : upTo X U D R B C A t d 16384 = value X U D R B C A t d := by
  unfold upTo value
  rw [Finset.sum_range]
  refine Finset.sum_congr rfl fun e _ => ?_
  unfold partAt
  rw [dif_pos e.isLt]

theorem upTo_add (t : Fin 8192) (d : Fin 2048) (n : ℕ) (hn : n + 512 ≤ 16384) : upTo X U D R B C A t d (n + 512) =
    upTo X U D R B C A t d n + ∑ e : Fin 512, part X U D R B C A t d ⟨n + e.val, by omega⟩ := by
  unfold upTo
  rw [Finset.sum_range_add, Finset.sum_range (fun x => partAt X U D R B C A t d (n + x))]
  congr 1
  refine Finset.sum_congr rfl fun e _ => ?_
  unfold partAt
  rw [dif_pos (by omega)]

end

end Cert.Experts

namespace Cert.Kernel5Ideal.Experts

open Idealize.ShloMosaic Cert.Kernel5Ideal Cert.Kernel5Ideal.Gen Cert.Experts

theorem zeros : (![0, 0] : Fin 2 → Nat) = fun _ => 0 := by decide

section Store
variable (r b : FVec Ideal S1x16x256 .bf16) (c a : FVec Ideal S1x8x256 .f32)

theorem headRow_apply (x : FVec Ideal S1x8x256 .f32) (h : Fin 8) (j : Fin 16) (l : Fin 256) :
    headRow (F := Ideal) x h (ix2 j l) = x (ix3 0 h l) := by
  pointwise [headRow]

theorem term_apply (h : Fin 8) (j : Fin 16) (l : Fin 256) : term (F := Ideal) r b c a h (ix2 j l) =
    if r (ix3 0 j l) < c (ix3 0 h l) then a (ix3 0 h l) * b (ix3 0 j l) else 0 := by
  pointwise [term, headRow_apply, k0_pay2]

theorem group_apply (r b : Fin 8 → FVec Ideal S1x16x256 .bf16) (j : Fin 16) (l : Fin 256) :
    group (F := Ideal) r b c a (ix2 j l) =
      ∑ h : Fin 8, if r h (ix3 0 j l) < c (ix3 0 h l) then a (ix3 0 h l) * b h (ix3 0 j l) else 0 := by
  rw [Fin.sum_univ_eight]
  simp only [← term_apply]
  rfl

theorem stored_apply (r b : Fin 8 → Fin 8 → FVec Ideal S1x16x256 .bf16) (l : Fin 256) (jg : Fin 8) (j : Fin 16)
    (e : Fin 128) (he : e.val = 16 * jg.val + j.val) :
    stored (F := Ideal) r b c a (ix2 l e) = group (F := Ideal) (r jg) (b jg) c a (ix2 j l) := by
  have key : ∀ (q : Fin 8) (j' : Fin 16), q.val = jg.val → j'.val = j.val →
      group (F := Ideal) (r q) (b q) c a (ix2 j' l) = group (F := Ideal) (r jg) (b jg) c a (ix2 j l) := by
    intro q j' h1 h2
    rw [Fin.ext h1, Fin.ext h2]
  pointwise [stored]
  have := j.isLt
  split_ifs <;> refine key _ _ ?_ ?_ <;> simp <;> omega

end Store

section Blocks
variable (x0 : FVec Ideal S1024x2048 .bf16) (x1 x2 : FVec Ideal S512x2048 .bf16) (x3 x4 : FVec Ideal S8x128x1024 .bf16)
  (x5 x6 : FVec Ideal S4x8x1024 .f32)

/-- The routing's weights of a point's tokens on its experts. -/
def weights : FVec Ideal S1024x512 .bf16 := fun i =>
  ∑ h : Fin 8, if x3 (ix3 h ⟨(i 1 : Fin 512).val % 128, Nat.mod_lt _ (by omega)⟩ (i 0 : Fin 1024)) <
      x5 (ix3 ⟨(i 1 : Fin 512).val / 128, Nat.div_lt_of_lt_mul (i 1 : Fin 512).isLt⟩ h (i 0 : Fin 1024)) then
    x6 (ix3 ⟨(i 1 : Fin 512).val / 128, Nat.div_lt_of_lt_mul (i 1 : Fin 512).isLt⟩ h (i 0 : Fin 1024)) *
      x4 (ix3 h ⟨(i 1 : Fin 512).val % 128, Nat.mod_lt _ (by omega)⟩ (i 0 : Fin 1024))
  else 0

theorem weights_apply (r : Fin 1024) (e : Fin 512) : weights x3 x4 x5 x6 (ix2 r e) = ∑ h : Fin 8,
    if x3 (ix3 h ⟨e.val % 128, Nat.mod_lt _ (by omega)⟩ r) < x5 (ix3 ⟨e.val / 128, Nat.div_lt_of_lt_mul e.isLt⟩ h r) then
      x6 (ix3 ⟨e.val / 128, Nat.div_lt_of_lt_mul e.isLt⟩ h r) * x4 (ix3 h ⟨e.val % 128, Nat.mod_lt _ (by omega)⟩ r)
    else 0 := rfl

variable (b5 b6 : Memref sig .tc .vmem S8x128x1024 .bf16) (h5 : b5.IsWhole) (h6 : b6.IsWhole)
  (b7 b8 : Memref sig .tc .vmem S4x8x1024 .f32) (h7 : b7.IsWhole) (h8 : b8.IsWhole)

theorem keysAt_apply (h jg : Fin 8) (tb : Fin 4) (j : Fin 16) (l : Fin 256) (k : Fin 128) (t : Fin 1024)
    (hk : k.val = 16 * jg.val + j.val) (ht : t.val = 256 * tb.val + l.val) :
    keysAt (F := Ideal) b5 h5 x3 h jg tb (ix3 0 j l) = x3 (ix3 h k t) := by
  show View.read (Elt Ideal) b5.view (h5.unread x3) ((keysRect h jg tb).emb (ix3 0 j l)) = _
  rw [h5.read_unread]
  congr 1
  funext a
  apply Fin.ext
  match a with
  | 0 => show h.val + 1 * 0 = h.val; omega
  | 1 => show 16 * jg.val + 1 * j.val = k.val; omega
  | 2 => show 256 * tb.val + 1 * l.val = t.val; omega

theorem rowsAt_apply (il tb : Fin 4) (h : Fin 8) (l : Fin 256) (t : Fin 1024) (ht : t.val = 256 * tb.val + l.val) :
    rowsAt (F := Ideal) b7 h7 x5 il tb (ix3 0 h l) = x5 (ix3 il h t) := by
  show View.read (Elt Ideal) b7.view (h7.unread x5) ((rowsRect il tb).emb (ix3 0 h l)) = _
  rw [h7.read_unread]
  congr 1
  funext a
  apply Fin.ext
  match a with
  | 0 => show il.val + 1 * 0 = il.val; omega
  | 1 => show 0 + 1 * h.val = h.val; omega
  | 2 => show 256 * tb.val + 1 * l.val = t.val; omega

/-- One store holds its part of the weights. -/
theorem piece_apply (il tb : Fin 4) (l : Fin 256) (e : Fin 128) :
    stored (F := Ideal) (fun jg h => keysAt b5 h5 x3 h jg tb) (fun jg h => keysAt b6 h6 x4 h jg tb) (rowsAt b7 h7 x5 il tb)
        (rowsAt b8 h8 x6 il tb) (ix2 l e) =
      weights x3 x4 x5 x6 (ix2 ⟨256 * tb.val + l.val, by omega⟩ ⟨128 * il.val + e.val, by omega⟩) := by
  rw [stored_apply _ _ _ _ l ⟨e.val / 16, by omega⟩ ⟨e.val % 16, by omega⟩ e (by simp only; omega), group_apply]
  unfold weights
  refine Finset.sum_congr rfl fun h _ => ?_
  have ei : (⟨(128 * il.val + e.val) / 128, by omega⟩ : Fin 4) = il := Fin.ext (by simp only; omega)
  have ej : (⟨(128 * il.val + e.val) % 128, by omega⟩ : Fin 128) = e := Fin.ext (by simp only; omega)
  have k3 := keysAt_apply x3 b5 h5 h ⟨e.val / 16, by omega⟩ tb ⟨e.val % 16, by omega⟩ l e ⟨256 * tb.val + l.val, by omega⟩
    (by simp only; omega) rfl
  have k4 := keysAt_apply x4 b6 h6 h ⟨e.val / 16, by omega⟩ tb ⟨e.val % 16, by omega⟩ l e ⟨256 * tb.val + l.val, by omega⟩
    (by simp only; omega) rfl
  have k5 := rowsAt_apply x5 b7 h7 il tb h l ⟨256 * tb.val + l.val, by omega⟩ rfl
  have k6 := rowsAt_apply x6 b8 h8 il tb h l ⟨256 * tb.val + l.val, by omega⟩ rfl
  rw [k3, k4, k5, k6]
  show _ = if x3 (ix3 h (⟨(128 * il.val + e.val) % 128, _⟩ : Fin 128) _) < x5 (ix3 (⟨(128 * il.val + e.val) / 128, _⟩ : Fin 4) h _) then
    x6 (ix3 (⟨(128 * il.val + e.val) / 128, _⟩ : Fin 4) h _) * x4 (ix3 h (⟨(128 * il.val + e.val) % 128, _⟩ : Fin 128) _) else 0
  rw [ei, ej]
  rfl

theorem mem_pieces (r b : Fin 8 → Fin 8 → Fin 4 → Vec Ideal S1x16x256 .bf16) (c a : Fin 4 → Fin 4 → Vec Ideal S1x8x256 .f32)
    (p : View.Piece (Elt Ideal) S1024x512 .bf16) (hp : p ∈ pieces r b c a) : ∃ il tb, p = piece r b c a il tb := by
  simp only [pieces, List.mem_cons, List.not_mem_nil, or_false] at hp
  rcases hp with h | h | h | h | h | h | h | h | h | h | h | h | h | h | h | h <;> exact ⟨_, _, h⟩

/-- The sixteen stores hold the weights. -/
theorem canon_pieces : View.canon (Val := Elt Ideal) (s := S1024x512) (e := .bf16) (pieces (F := Ideal) (keysAt b5 h5 x3) (keysAt b6 h6 x4) (rowsAt b7 h7 x5) (rowsAt b8 h8 x6)) =
    weights x3 x4 x5 x6 := by
  funext y
  refine View.canon_apply_of_pieces (Val := Elt Ideal) (S := S1024x512) (e := .bf16) (weights x3 x4 x5 x6) _ ?_ y (View.cover_of_tiledBy _ ![256, 128] (by sl_kernel_rfl) y)
  intro p hp x
  obtain ⟨il, tb, rfl⟩ := mem_pieces _ _ _ _ p hp
  change S256x128.Idx at x
  rw [eq_ix2 (n0 := 256) (n1 := 128) x]
  generalize (x 0 : Fin 256) = l
  generalize (x 1 : Fin 128) = e
  change Fin 256 at l
  change Fin 128 at e
  refine (piece_apply x3 x4 x5 x6 b5 b6 h5 h6 b7 b8 h7 h8 il tb l e).trans ?_
  congr 1
  funext a
  apply Fin.ext
  match a with
  | 0 => show 256 * tb.val + l.val = 256 * tb.val + 1 * l.val; omega
  | 1 => show 128 * il.val + e.val = 128 * il.val + 1 * e.val; omega

/-- What a point adds to its block of the result. -/
def added (r : Fin 1024) (d : Fin 2048) : EReal :=
  ∑ e : Fin 512, act (∑ k : Fin 2048, x0 (ix2 r k) * x1 (ix2 e k)) * weights x3 x4 x5 x6 (ix2 r e) * x2 (ix2 e d)

theorem number_one : Ideal.ofBits .f32 0x3F800000#32 = 1 := by
  pointwise

theorem result_apply (w : FVec Ideal S1024x512 .bf16) (o : FVec Ideal S1024x2048 .f32) (r : Fin 1024) (d : Fin 2048) :
    k0_pay1924 (F := Ideal) x0 x1 w o x2 (ix2 r d) =
      o (ix2 r d) + ∑ e : Fin 512, act (∑ k : Fin 2048, x0 (ix2 r k) * x1 (ix2 e k)) * w (ix2 r e) * x2 (ix2 e d) := by
  pointwise [k0_pay1924]
  rfl

theorem cleared_apply (r : Fin 1024) (d : Fin 2048) : k0_pay1 (F := Ideal) (ix2 r d) = 0 := by
  pointwise [k0_pay1]

section Out
variable (c : Dev nD) (i : grid0.Coords) (b2 : Memref sig .tc .vmem S1024x2048 .bf16) (h2 : b2.IsWhole)
  (b3 b4 : Memref sig .tc .vmem S512x2048 .bf16) (h3 : b3.IsWhole) (h4 : b4.IsWhole)
  (b9 : Memref sig .tc .vmem S1024x2048 .f32) (h9 : b9.IsWhole) (b10 : Memref sig .tc .vmem S1024x512 .bf16) (h10 : b10.IsWhole)
  (o : FVec Ideal S1024x2048 .f32)

theorem scratch_A : kernelRun0_A.sl.v6208 (F := Ideal) c b5 h5 b6 h6 b7 h7 b8 h8 b10 x3 x4 x5 x6 = weights x3 x4 x5 x6 := by
  unfold kernelRun0_A.sl.v6208
  rw [View.readCov_eq_canon', pieces_A, canon_pieces]
  exact View.ld_unit_zero (Val := Elt Ideal) (e := .bf16) (S := S1024x512) (off := ![0, 0]) zeros
    inb_S1024x512_S1024x512_0_0 (weights x3 x4 x5 x6)

theorem scratch_B : kernelRun0_B.sl.v6208 (F := Ideal) c b5 h5 b6 h6 b7 h7 b8 h8 b10 x3 x4 x5 x6 = weights x3 x4 x5 x6 := by
  unfold kernelRun0_B.sl.v6208
  rw [View.readCov_eq_canon', pieces_B, canon_pieces]
  exact View.ld_unit_zero (Val := Elt Ideal) (e := .bf16) (S := S1024x512) (off := ![0, 0]) zeros
    inb_S1024x512_S1024x512_0_0 (weights x3 x4 x5 x6)

/-- At a row block's first point. -/
theorem out_A (hc : cond0_0 i) (r : Fin 1024) (d : Fin 2048) :
    out0_A_7 (F := Ideal) c i b2 h2 b3 h3 b4 h4 b5 h5 b6 h6 b7 h7 b8 h8 b9 h9 b10 h10 hc x0 x1 x2 x3 x4 x5 x6 (ix2 r d) =
      added x0 x1 x2 x3 x4 x5 x6 r d := by
  unfold out0_A_7 kernelRun0_A
  dsimp only
  unfold kernelRun0_A.sl.v6210 kernelRun0_A.sl.H7_1
  rw [View.read_writes_full, View.readCov_full, View.readAt_full, View.readAt_full, View.readAt_full, h2.read_unread,
    h3.read_unread, h4.read_unread, scratch_A]
  refine (result_apply _ _ _ _ _ r d).trans ?_
  rw [cleared_apply, zero_add]
  rfl

/-- At its later points, over what the point before left. -/
theorem out_B (hc : ¬ cond0_0 i) (r : Fin 1024) (d : Fin 2048) :
    out0_B_7 (F := Ideal) c i b2 h2 b3 h3 b4 h4 b5 h5 b6 h6 b7 h7 b8 h8 b9 h9 b10 h10 hc x0 x1 x2 x3 x4 x5 x6 o (ix2 r d) =
      o (ix2 r d) + added x0 x1 x2 x3 x4 x5 x6 r d := by
  unfold out0_B_7 kernelRun0_B
  dsimp only
  rw [View.read_writes_full, View.readAt_full, View.readAt_full, View.readAt_full, View.readAt_full, h2.read_unread, h3.read_unread, h4.read_unread,
    h9.read_unread, scratch_B]
  exact result_apply _ _ _ _ _ r d

end Out

end Blocks

end Cert.Kernel5Ideal.Experts

end
-- ==== Proof.Gather.lean ====
/-
  The experts' result: the sum over all experts, by the kernel block by block and by the reference.
-/
module

public import proofs.«01_k».proof.Proof.Experts
public import proofs.«01_k».proof.Proof.Gen.Reference5Ideal.Run
public import Idealize.ShloMosaic.Lib.KernelVsHost

@[expose] public section

set_option maxRecDepth 16384

noncomputable section

namespace Cert.Kernel5Ideal.Experts

open Idealize.ShloMosaic Idealize.ShloMosaic.TcCoe Cert.Kernel5Ideal Cert.Kernel5Ideal.Gen Cert.Kernel5Ideal.Value Cert.Experts Idealize.SL.Sem

variable (m : (ℓ : Loc nD τ sig) → Buf (Elt Ideal) ℓ) (c : Dev nD) (t : Fin cfg0.N)

theorem lt_points : t.val < 256 := t.isLt

/-- Where each window's block lies, at every point. -/
theorem index_facts : ∀ t : Fin cfg0.N,
    (win0_0.index t (0 : Fin 2) = t.val / 32 ∧ win0_0.index t (1 : Fin 2) = 0) ∧
    (win0_1.index t (0 : Fin 2) = t.val % 32 ∧ win0_1.index t (1 : Fin 2) = 0) ∧
    (win0_2.index t (0 : Fin 2) = t.val % 32 ∧ win0_2.index t (1 : Fin 2) = 0) ∧
    (win0_3.index t (0 : Fin 3) = 0 ∧ win0_3.index t (1 : Fin 3) = 0 ∧ win0_3.index t (2 : Fin 3) = t.val / 32) ∧
    (win0_4.index t (0 : Fin 3) = 0 ∧ win0_4.index t (1 : Fin 3) = 0 ∧ win0_4.index t (2 : Fin 3) = t.val / 32) ∧
    (win0_5.index t (0 : Fin 3) = t.val % 32 ∧ win0_5.index t (1 : Fin 3) = 0 ∧ win0_5.index t (2 : Fin 3) = t.val / 32) ∧
    (win0_6.index t (0 : Fin 3) = t.val % 32 ∧ win0_6.index t (1 : Fin 3) = 0 ∧ win0_6.index t (2 : Fin 3) = t.val / 32) ∧
    (win0_7.index t (0 : Fin 2) = t.val / 32 ∧ win0_7.index t (1 : Fin 2) = 0) := by decide +kernel

/-- The token, the expert and the first key of the whole arrays that a place in a point's blocks is. -/
def row (r : Fin 1024) : Fin 8192 := ⟨1024 * (t.val / 32) + r.val, by have := lt_points t; omega⟩
def expert (e : Fin 512) : Fin 16384 := ⟨512 * (t.val % 32) + e.val, by omega⟩
def key (i : Fin 4) : Fin 128 := ⟨4 * (t.val % 32) + i.val, by omega⟩

theorem place_0 (r : Fin 1024) (l : Fin 2048) : (win0_0.blk t).view.emb (ix2 r l) = ix2 (row t r) l := by
  have e := (index_facts t).1
  funext a
  apply Fin.ext
  match a with
  | 0 =>
    show win0_0.index t 0 * 1024 + 1 * r.val = 1024 * (t.val / 32) + r.val
    rw [e.1]
    omega
  | 1 =>
    show win0_0.index t 1 * 2048 + 1 * l.val = l.val
    rw [e.2]
    omega

theorem place_1 (r : Fin 512) (l : Fin 2048) : (win0_1.blk t).view.emb (ix2 r l) = ix2 (expert t r) l := by
  have e := (index_facts t).2.1
  funext a
  apply Fin.ext
  match a with
  | 0 =>
    show win0_1.index t 0 * 512 + 1 * r.val = 512 * (t.val % 32) + r.val
    rw [e.1]
    omega
  | 1 =>
    show win0_1.index t 1 * 2048 + 1 * l.val = l.val
    rw [e.2]
    omega

theorem place_2 (r : Fin 512) (l : Fin 2048) : (win0_2.blk t).view.emb (ix2 r l) = ix2 (expert t r) l := by
  have e := (index_facts t).2.2.1
  funext a
  apply Fin.ext
  match a with
  | 0 =>
    show win0_2.index t 0 * 512 + 1 * r.val = 512 * (t.val % 32) + r.val
    rw [e.1]
    omega
  | 1 =>
    show win0_2.index t 1 * 2048 + 1 * l.val = l.val
    rw [e.2]
    omega

theorem place_3 (h : Fin 8) (j : Fin 128) (r : Fin 1024) : (win0_3.blk t).view.emb (ix3 h j r) = ix3 h j (row t r) := by
  have e := (index_facts t).2.2.2.1
  funext a
  apply Fin.ext
  match a with
  | 0 =>
    show win0_3.index t 0 * 8 + 1 * h.val = h.val
    rw [e.1]
    omega
  | 1 =>
    show win0_3.index t 1 * 128 + 1 * j.val = j.val
    rw [e.2.1]
    omega
  | 2 =>
    show win0_3.index t 2 * 1024 + 1 * r.val = 1024 * (t.val / 32) + r.val
    rw [e.2.2]
    omega

theorem place_4 (h : Fin 8) (j : Fin 128) (r : Fin 1024) : (win0_4.blk t).view.emb (ix3 h j r) = ix3 h j (row t r) := by
  have e := (index_facts t).2.2.2.2.1
  funext a
  apply Fin.ext
  match a with
  | 0 =>
    show win0_4.index t 0 * 8 + 1 * h.val = h.val
    rw [e.1]
    omega
  | 1 =>
    show win0_4.index t 1 * 128 + 1 * j.val = j.val
    rw [e.2.1]
    omega
  | 2 =>
    show win0_4.index t 2 * 1024 + 1 * r.val = 1024 * (t.val / 32) + r.val
    rw [e.2.2]
    omega

theorem place_5 (i : Fin 4) (h : Fin 8) (r : Fin 1024) : (win0_5.blk t).view.emb (ix3 i h r) = ix3 (key t i) h (row t r) := by
  have e := (index_facts t).2.2.2.2.2.1
  funext a
  apply Fin.ext
  match a with
  | 0 =>
    show win0_5.index t 0 * 4 + 1 * i.val = 4 * (t.val % 32) + i.val
    rw [e.1]
    omega
  | 1 =>
    show win0_5.index t 1 * 8 + 1 * h.val = h.val
    rw [e.2.1]
    omega
  | 2 =>
    show win0_5.index t 2 * 1024 + 1 * r.val = 1024 * (t.val / 32) + r.val
    rw [e.2.2]
    omega

theorem place_6 (i : Fin 4) (h : Fin 8) (r : Fin 1024) : (win0_6.blk t).view.emb (ix3 i h r) = ix3 (key t i) h (row t r) := by
  have e := (index_facts t).2.2.2.2.2.2.1
  funext a
  apply Fin.ext
  match a with
  | 0 =>
    show win0_6.index t 0 * 4 + 1 * i.val = 4 * (t.val % 32) + i.val
    rw [e.1]
    omega
  | 1 =>
    show win0_6.index t 1 * 8 + 1 * h.val = h.val
    rw [e.2.1]
    omega
  | 2 =>
    show win0_6.index t 2 * 1024 + 1 * r.val = 1024 * (t.val / 32) + r.val
    rw [e.2.2]
    omega

theorem place_7 (r : Fin 1024) (l : Fin 2048) : (win0_7.blk t).view.emb (ix2 r l) = ix2 (row t r) l := by
  have e := (index_facts t).2.2.2.2.2.2.2
  funext a
  apply Fin.ext
  match a with
  | 0 =>
    show win0_7.index t 0 * 1024 + 1 * r.val = 1024 * (t.val / 32) + r.val
    rw [e.1]
    omega
  | 1 =>
    show win0_7.index t 1 * 2048 + 1 * l.val = l.val
    rw [e.2]
    omega

theorem x_at (r : Fin 1024) (l : Fin 2048) : iblk m c 0 t (ix2 r l) = m ((c : Thread nD τ).loc main_arg0) (ix2 (row t r) l) :=
  (congrArg (V m c main_arg0) (place_0 t r l)).trans (congrFun (V_main_arg0 m c) _)
theorem u_at (e : Fin 512) (l : Fin 2048) : iblk m c 1 t (ix2 e l) = m ((c : Thread nD τ).loc main_arg1) (ix2 (expert t e) l) :=
  (congrArg (V m c main_arg1) (place_1 t e l)).trans (congrFun (V_main_arg1 m c) _)
theorem v_at (e : Fin 512) (l : Fin 2048) : iblk m c 2 t (ix2 e l) = m ((c : Thread nD τ).loc main_arg2) (ix2 (expert t e) l) :=
  (congrArg (V m c main_arg2) (place_2 t e l)).trans (congrFun (V_main_arg2 m c) _)
theorem r_at (h : Fin 8) (j : Fin 128) (r : Fin 1024) :
    iblk m c 3 t (ix3 h j r) = m ((c : Thread nD τ).loc main_arg3) (ix3 h j (row t r)) :=
  (congrArg (V m c main_arg3) (place_3 t h j r)).trans (congrFun (V_main_arg3 m c) _)
theorem b_at (h : Fin 8) (j : Fin 128) (r : Fin 1024) :
    iblk m c 4 t (ix3 h j r) = m ((c : Thread nD τ).loc main_arg4) (ix3 h j (row t r)) :=
  (congrArg (V m c main_arg4) (place_4 t h j r)).trans (congrFun (V_main_arg4 m c) _)
theorem c_at (i : Fin 4) (h : Fin 8) (r : Fin 1024) :
    iblk m c 5 t (ix3 i h r) = m ((c : Thread nD τ).loc main_arg5) (ix3 (key t i) h (row t r)) :=
  (congrArg (V m c main_arg5) (place_5 t i h r)).trans (congrFun (V_main_arg5 m c) _)
theorem a_at (i : Fin 4) (h : Fin 8) (r : Fin 1024) :
    iblk m c 6 t (ix3 i h r) = m ((c : Thread nD τ).loc main_arg6) (ix3 (key t i) h (row t r)) :=
  (congrArg (V m c main_arg6) (place_6 t i h r)).trans (congrFun (V_main_arg6 m c) _)

/-- The result's parts, from the call's arguments. -/
def partOf (x : Fin 8192) (d : Fin 2048) (e : Fin 16384) : EReal :=
  part (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) x d e
def sumTo (x : Fin 8192) (d : Fin 2048) (n : ℕ) : EReal :=
  upTo (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) x d n

/-- A point's weights are the routing's on its tokens and experts. -/
theorem weights_at (r : Fin 1024) (e : Fin 512) :
    weights (iblk m c 3 t) (iblk m c 4 t) (iblk m c 5 t) (iblk m c 6 t) (ix2 r e) =
      weight (m ((c : Thread nD τ).loc main_arg3)) (m ((c : Thread nD τ).loc main_arg4))
        (m ((c : Thread nD τ).loc main_arg5)) (m ((c : Thread nD τ).loc main_arg6)) (row t r) (expert t e) := by
  rw [weights_apply]
  unfold weight
  refine Finset.sum_congr rfl fun h _ => ?_
  have e1 : (⟨(expert t e).val % 128, by omega⟩ : Fin 128) = ⟨e.val % 128, by omega⟩ :=
    Fin.ext (by show (512 * (t.val % 32) + e.val) % 128 = e.val % 128; omega)
  have e2 : (⟨(expert t e).val / 128, by omega⟩ : Fin 128) = key t ⟨e.val / 128, by omega⟩ :=
    Fin.ext (by show (512 * (t.val % 32) + e.val) / 128 = 4 * (t.val % 32) + e.val / 128; omega)
  rw [e1, e2, r_at, b_at, c_at, a_at]

/-- What a point adds: its 512 experts' parts. -/
theorem added_at (r : Fin 1024) (d : Fin 2048) :
    added (iblk m c 0 t) (iblk m c 1 t) (iblk m c 2 t) (iblk m c 3 t) (iblk m c 4 t) (iblk m c 5 t) (iblk m c 6 t) r d =
      ∑ e : Fin 512, partOf m c (row t r) d (expert t e) := by
  unfold added
  refine Finset.sum_congr rfl fun e _ => ?_
  rw [weights_at, v_at]
  simp only [x_at, u_at]
  rfl

theorem sumTo_add (r : Fin 1024) (d : Fin 2048) : sumTo m c (row t r) d (512 * (t.val % 32) + 512) =
    sumTo m c (row t r) d (512 * (t.val % 32)) + ∑ e : Fin 512, partOf m c (row t r) d (expert t e) :=
  upTo_add _ _ _ _ _ _ _ _ _ _ (by omega)

theorem sumTo_zero (x : Fin 8192) (d : Fin 2048) : sumTo m c x d 0 = 0 := by
  unfold sumTo upTo
  exact Finset.sum_range_zero _

/-- After a point its block of the result holds the sum over the experts up to the point's last. -/
theorem outs (r : Fin 1024) (d : Fin 2048) (n : ℕ) : ∀ (t : Fin cfg0.N), t.val % 32 = n →
    outsAt0 m c t.val t.isLt (ix2 r d) = sumTo m c (row t r) d (512 * n + 512) := by
  induction n with
  | zero =>
    intro t ht
    rw [outsAt0_A m c t ht]
    refine (out_A (hc := (hcond0_0 t).mpr ht) (r := r) (d := d) ..).trans ?_
    rw [added_at]
    have h := sumTo_add m c t r d
    rw [ht] at h
    rw [h, show 512 * 0 = 0 from rfl, sumTo_zero, zero_add]
  | succ n ih =>
    intro t ht
    have hlt := t.isLt
    rw [outsAt0_B m c t (by omega)]
    refine (out_B (r := r) (d := d) ..).trans ?_
    rw [added_at]
    have h := sumTo_add m c t r d
    rw [ht] at h
    have hp := ih ⟨t.val - 1, by omega⟩ (by show (t.val - 1) % 32 = n; omega)
    have hr : row ⟨t.val - 1, by omega⟩ r = row t r :=
      Fin.ext (by show 1024 * ((t.val - 1) / 32) + r.val = 1024 * (t.val / 32) + r.val; omega)
    rw [hr] at hp
    rw [h]
    exact congrArg (· + _) hp

/-- The whole result. -/
def whole : Buf (Elt Ideal) ((c : Thread nD τ).loc main_v0) := fun i =>
  value (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- A row block's last point writes back its block of the result. -/
theorem written (h : t.val % 32 = 31) : (dats m 0 c).flushed 7 t = (win0_7.blk t).view.read (Elt Ideal) (whole m c) := by
  rw [flushed7]
  funext j
  rw [eq_ix2 (n0 := 1024) (n1 := 2048) j]
  generalize (j 0 : Fin 1024) = r
  generalize (j 1 : Fin 2048) = l
  change Fin 1024 at r
  change Fin 2048 at l
  refine (outs m c r l 31 t h).trans ?_
  have h1 : sumTo m c (row t r) l (512 * 31 + 512) = whole m c (ix2 (row t r) l) := by
    rw [show 512 * 31 + 512 = 16384 from by norm_num]
    exact upTo_all ..
  refine h1.trans ?_
  generalize whole m c = w
  exact (congrArg w (place_7 t r l)).symm

/-- Every row lies in the block of some row block's last point. -/
theorem covered (i : S8192x2048.Idx) : ∃ t : Fin cfg0.N, t.val % 32 = 31 ∧ i ∈ (win0_7.blk t).view.set := by
  have h0 : (i 0).val < 8192 := (i 0).isLt
  have hN : (i 0).val / 1024 * 32 + 31 < cfg0.N := by show _ < 256; omega
  refine ⟨⟨(i 0).val / 1024 * 32 + 31, hN⟩, by show ((i 0).val / 1024 * 32 + 31) % 32 = 31; omega, ?_⟩
  have e : (win0_7.blk ⟨(i 0).val / 1024 * 32 + 31, hN⟩).view.emb
      (ix2 (⟨(i 0).val % 1024, by omega⟩ : Fin 1024) (i 1 : Fin 2048)) = i := by
    refine (place_7 ⟨(i 0).val / 1024 * 32 + 31, hN⟩ _ _).trans ?_
    funext a
    apply Fin.ext
    match a with
    | 0 =>
      show 1024 * (((i 0).val / 1024 * 32 + 31) / 32) + (i 0).val % 1024 = (i 0).val
      omega
    | 1 => rfl
  have h := View.emb_mem_set (win0_7.blk ⟨(i 0).val / 1024 * 32 + 31, hN⟩).view
    (ix2 (⟨(i 0).val % 1024, by omega⟩ : Fin 1024) (i 1 : Fin 2048))
  rw [e] at h
  exact h

/-- The result array after the run. -/
theorem final : (dats m 0 c).arrAt 7 cfg0.N = whole m c :=
  (dats m 0 c).arrAt_eq_of_cover 7 _ (fun t hf => written m c t ((flush0_7 t).mp hf)) fun i =>
    let ⟨t, h31, h⟩ := covered i
    ⟨t, (flush0_7 t).mpr h31, h⟩

end Cert.Kernel5Ideal.Experts

namespace Cert.Reference5Ideal

open Idealize.ShloMosaic Idealize.ShloMosaic.TcCoe Cert.Reference5Ideal Cert.Reference5Ideal.Gen Cert.Experts

section
variable (X : FVec Ideal S8192x2048 .bf16) (U D : FVec Ideal S16384x2048 .bf16) (R B : FVec Ideal S8x128x8192 .bf16)
  (C A : FVec Ideal S128x8x8192 .f32)

/-- A head's weights, as the reference takes them. -/
def chosen : FVec Ideal S8192x8x128x128 .f32 :=
  select (cmpf .olt (broadcastInDim S8192x8x128x128 ![0, 1, 2, 3] bcast_S8192x8x1x128_S8192x8x128x128_0_1_2_3
      (broadcastInDim S8192x8x1x128 ![0, 1, 3] bcast_S8192x8x128_S8192x8x1x128_0_1_3
        (transpose S8192x8x128 [2, 0, 1] (extf .f32 R bitsLt_bf16_f32) transposes_S8x128x8192_S8192x8x128_2_0_1)))
      (broadcastInDim S8192x8x128x128 ![0, 1, 2, 3] bcast_S8192x8x128x1_S8192x8x128x128_0_1_2_3
        (broadcastInDim S8192x8x128x1 ![0, 1, 2] bcast_S8192x8x128_S8192x8x128x1_0_1_2
          (transpose S8192x8x128 [2, 1, 0] C transposes_S128x8x8192_S8192x8x128_2_1_0))) : IVec S8192x8x128x128 1)
    (mulf (broadcastInDim S8192x8x128x128 ![0, 1, 2, 3] bcast_S8192x8x128x1_S8192x8x128x128_0_1_2_3
        (broadcastInDim S8192x8x128x1 ![0, 1, 2] bcast_S8192x8x128_S8192x8x128x1_0_1_2
          (transpose S8192x8x128 [2, 1, 0] A transposes_S128x8x8192_S8192x8x128_2_1_0)))
      (broadcastInDim S8192x8x128x128 ![0, 1, 2, 3] bcast_S8192x8x1x128_S8192x8x128x128_0_1_2_3
        (broadcastInDim S8192x8x1x128 ![0, 1, 3] bcast_S8192x8x128_S8192x8x1x128_0_1_3
          (transpose S8192x8x128 [2, 0, 1] (extf .f32 B bitsLt_bf16_f32) transposes_S8x128x8192_S8192x8x128_2_0_1))))
    (broadcastInDim S8192x8x128x128 ![] bcast_S_S8192x8x128x128 (constant S_ .f32 0x00000000#32))

/-- The weights, summed over the heads and laid out by expert. -/
def gates : FVec Ideal S8192x16384 .f32 :=
  shapeCast S8192x16384 (Host.reduceAdd (chosen R B C A) (constant S_ .f32 0x00000000#32)
    reducesTo_S8192x8x128x128_S8192x128x128_d1 h_S_) shapeCasts_S8192x128x128_S8192x16384

/-- The experts' inputs. -/
def input : FVec Ideal S8192x16384 .f32 :=
  Host.dotGeneral dot_S8192x2048_S2048x16384_S8192x16384_1_0_0_1_n_n none (extf .f32 X bitsLt_bf16_f32)
    (transpose S2048x16384 [1, 0] (extf .f32 U bitsLt_bf16_f32) transposes_S16384x2048_S2048x16384_1_0)

/-- The activation, as the reference takes it. -/
def active (H : FVec Ideal S8192x16384 .f32) : FVec Ideal S8192x16384 .f32 :=
  mulf (mulf (broadcastInDim S8192x16384 ![] bcast_S_S8192x16384 (constant S_ .f32 0x3F000000#32)) H)
    (Host.erfc (mulf (Host.negf H) (broadcastInDim S8192x16384 ![] bcast_S_S8192x16384 (constant S_ .f32 0x3F3504F3#32))))

theorem chosen_apply (t : Fin 8192) (h : Fin 8) (i j : Fin 128) : chosen R B C A (ix4 t h i j) =
    if R (ix3 h j t) < C (ix3 i h t) then A (ix3 i h t) * B (ix3 h j t) else 0 := by
  pointwise [chosen]

theorem gates_apply (t : Fin 8192) (e : Fin 16384) : gates R B C A (ix2 t e) = weight R B C A t e := by
  pointwise [gates, chosen_apply]
  rfl

theorem input_apply (t : Fin 8192) (e : Fin 16384) : input X U (ix2 t e) = ∑ k : Fin 2048, X (ix2 t k) * U (ix2 e k) := by
  pointwise [input]

theorem active_apply (H : FVec Ideal S8192x16384 .f32) (t : Fin 8192) (e : Fin 16384) :
    active H (ix2 t e) = act (H (ix2 t e)) := by
  pointwise [active]
  rw [neg_mul, Ideal.erfc_neg]
  rfl

/-- The reference's result. -/
def result : FVec Ideal S8192x2048 .f32 :=
  Host.dotGeneral dot_S8192x16384_S16384x2048_S8192x2048_1_0_0_1_n_n none
    (mulf (active (input X U)) (gates R B C A)) (extf .f32 D bitsLt_bf16_f32)

theorem result_apply (t : Fin 8192) (d : Fin 2048) : result X U D R B C A (ix2 t d) = value X U D R B C A t d := by
  pointwise [result, active_apply, input_apply, gates_apply]
  rfl

end

end Cert.Reference5Ideal

end
-- ==== Proof.Residual.lean ====
/-
  The output projection with the residual: each row of the kernel's result is the residual's row plus the product.
-/
module

public import proofs.«01_k».proof.Proof.Gen.Kernel3Ideal.Value
public import proofs.«01_k».proof.Proof.Gen.Reference3Ideal.Run
public import Idealize.ShloMosaic.Lib.Pointwise

@[expose] public section

set_option maxRecDepth 16384

noncomputable section

namespace Cert.Residual

open Idealize.ShloMosaic

/-- An entry of the residual stream after the projection: `x + a · w`, the rows of `x` numbered through the batch. -/
def value (A : (⟨2, ![8192, 2048]⟩ : Shape).Idx → EReal) (W : (⟨2, ![2048, 2048]⟩ : Shape).Idx → EReal)
    (X : (⟨3, ![4, 2048, 2048]⟩ : Shape).Idx → EReal) (r : Fin 8192) (l : Fin 2048) : EReal :=
  X (ix3 ⟨r.val / 2048, by omega⟩ ⟨r.val % 2048, by omega⟩ l) + ∑ k : Fin 2048, A (ix2 r k) * W (ix2 k l)

end Cert.Residual

namespace Cert.Kernel3Ideal.Rows

open Idealize.ShloMosaic Idealize.ShloMosaic.TcCoe Cert.Kernel3Ideal Cert.Kernel3Ideal.Gen Idealize.SL.Sem

variable (m : (ℓ : Loc nD τ sig) → Buf (Elt Ideal) ℓ) (c : Dev nD) (t : Fin cfg0.N)

theorem lt_points : t.val < 16 := t.isLt

theorem zeros : (![0, 0] : Fin 2 → Nat) = fun _ => 0 := funext fun a => by fin_cases a <;> rfl

/-- Where each window's block lies, at every point. -/
theorem index_facts : ∀ t : Fin cfg0.N,
    (win0_0.index t (0 : Fin 2) = t.val ∧ win0_0.index t (1 : Fin 2) = 0) ∧
    (win0_1.index t (0 : Fin 2) = 0 ∧ win0_1.index t (1 : Fin 2) = 0) ∧
    (win0_2.index t (0 : Fin 2) = t.val ∧ win0_2.index t (1 : Fin 2) = 0) ∧
    (win0_3.index t (0 : Fin 2) = t.val ∧ win0_3.index t (1 : Fin 2) = 0) := by decide +kernel

/-- The block's rows: what the body computes of them. -/
theorem body_apply (x : FVec Ideal S512x2048 .f32) (a : FVec Ideal S512x2048 .bf16) (w : FVec Ideal S2048x2048 .bf16)
    (r : Fin 512) (l : Fin 2048) :
    k0_pay1 x a w (ix2 r l) = x (ix2 r l) + ∑ k : Fin 2048, a (ix2 r k) * w (ix2 k l) := by
  pointwise [k0_pay1]

theorem a_at (r : Fin 512) (k : Fin 2048) : iblk m c 0 t (ix2 r k) =
    m ((c : Thread nD τ).loc main_arg0) (ix2 ⟨512 * t.val + r.val, by have := lt_points t; omega⟩ k) := by
  have ht := lt_points t
  have e := (index_facts t).1
  have he : (win0_0.blk t).view.emb (ix2 r k) = ix2 ⟨512 * t.val + r.val, by omega⟩ k := by
    funext a
    apply Fin.ext
    match a with
    | 0 =>
      show win0_0.index t 0 * 512 + 1 * r.val = 512 * t.val + r.val
      rw [e.1]
      omega
    | 1 =>
      show win0_0.index t 1 * 2048 + 1 * k.val = k.val
      rw [e.2]
      omega
  exact (congrArg (V m c main_arg0) he).trans (congrFun (V_main_arg0 m c) _)

theorem w_at (k l : Fin 2048) : iblk m c 1 t (ix2 k l) = m ((c : Thread nD τ).loc main_arg1) (ix2 k l) := by
  have e := (index_facts t).2.1
  have he : (win0_1.blk t).view.emb (ix2 k l) = ix2 k l := by
    funext a
    apply Fin.ext
    match a with
    | 0 =>
      show win0_1.index t 0 * 2048 + 1 * k.val = k.val
      rw [e.1]
      omega
    | 1 =>
      show win0_1.index t 1 * 2048 + 1 * l.val = l.val
      rw [e.2]
      omega
  exact (congrArg (V m c main_arg1) he).trans (congrFun (V_main_arg1 m c) _)

theorem V_rows : V m c main_v0 = (shapeCast S8192x2048 (m ((c : Thread nD τ).loc main_arg2))
    shapeCasts_S4x2048x2048_S8192x2048 : FVec Ideal S8192x2048 .f32) := by
  show StableHlo.after hostOps0 (fun b => m (c, b)) (Proc.tc.devRef main_v0) = _
  after_results
  rfl

theorem flat_apply (x : FVec Ideal S4x2048x2048 .f32) (r : Fin 8192) (l : Fin 2048) :
    shapeCast S8192x2048 x shapeCasts_S4x2048x2048_S8192x2048 (ix2 r l) =
      x (ix3 ⟨r.val / 2048, by omega⟩ ⟨r.val % 2048, by omega⟩ l) := by
  pointwise

theorem x_at (r : Fin 512) (l : Fin 2048) : iblk m c 2 t (ix2 r l) =
    m ((c : Thread nD τ).loc main_arg2) (ix3 ⟨(512 * t.val + r.val) / 2048, by have := lt_points t; omega⟩ ⟨(512 * t.val + r.val) % 2048, by omega⟩ l) := by
  have ht := lt_points t
  have e := (index_facts t).2.2.1
  have he : (win0_2.blk t).view.emb (ix2 r l) = ix2 ⟨512 * t.val + r.val, by omega⟩ l := by
    funext a
    apply Fin.ext
    match a with
    | 0 =>
      show win0_2.index t 0 * 512 + 1 * r.val = 512 * t.val + r.val
      rw [e.1]
      omega
    | 1 =>
      show win0_2.index t 1 * 2048 + 1 * l.val = l.val
      rw [e.2]
      omega
  exact (congrArg (V m c main_v0) he).trans ((congrFun (V_rows m c) _).trans (flat_apply _ _ l))

/-- The whole result. -/
def whole : Buf (Elt Ideal) ((c : Thread nD τ).loc main_v1) := fun i =>
  Cert.Residual.value (m ((c : Thread nD τ).loc main_arg0)) (m ((c : Thread nD τ).loc main_arg1))
    (m ((c : Thread nD τ).loc main_arg2)) (i 0) (i 1)

theorem place (r : Fin 512) (l : Fin 2048) :
    (win0_3.blk t).view.emb (ix2 r l) = ix2 ⟨512 * t.val + r.val, by have := lt_points t; omega⟩ l := by
  have ht := lt_points t
  have e := (index_facts t).2.2.2
  funext a
  apply Fin.ext
  match a with
  | 0 =>
    show win0_3.index t 0 * 512 + 1 * r.val = 512 * t.val + r.val
    rw [e.1]
    omega
  | 1 =>
    show win0_3.index t 1 * 2048 + 1 * l.val = l.val
    rw [e.2]
    omega

/-- A point writes back its block of the whole result. -/
theorem written : (dats m 0 c).flushed 3 t = (win0_3.blk t).view.read (Elt Ideal) (whole m c) := by
  show (cfg0.win 3).cut (grid0.coords t) ((dats m 0 c).after 3 t) = _
  rw [after0_3]
  unfold out0_3
  rw [View.canon_unit_zero zeros, View.ld_unit_zero zeros, View.ld_unit_zero zeros, View.ld_unit_zero zeros]
  funext j
  rw [eq_ix2 (n0 := 512) (n1 := 2048) j]
  generalize (j 0 : Fin 512) = r
  generalize (j 1 : Fin 2048) = l
  refine (body_apply _ _ _ r l).trans ?_
  refine Eq.trans ?_ (congrArg (whole m c) (place t r l)).symm
  exact congrArg₂ (· + ·) (x_at m c t r l) (Finset.sum_congr rfl fun k _ => congrArg₂ (· * ·) (a_at m c t r k) (w_at m c t k l))

/-- Every row lies in some point's block. -/
theorem covered (i : S8192x2048.Idx) : ∃ t : Fin cfg0.N, i ∈ (win0_3.blk t).view.set := by
  have h0 : (i 0).val < 8192 := (i 0).isLt
  have hN : (i 0).val / 512 < cfg0.N := by show _ < 16; omega
  refine ⟨⟨(i 0).val / 512, hN⟩, ?_⟩
  have e : (win0_3.blk ⟨(i 0).val / 512, hN⟩).view.emb (ix2 (⟨(i 0).val % 512, by omega⟩ : Fin 512) (i 1 : Fin 2048)) = i := by
    refine (place ⟨(i 0).val / 512, hN⟩ _ _).trans ?_
    funext a
    apply Fin.ext
    match a with
    | 0 =>
      show 512 * ((i 0).val / 512) + (i 0).val % 512 = (i 0).val
      omega
    | 1 => rfl
  have h := View.emb_mem_set (win0_3.blk ⟨(i 0).val / 512, hN⟩).view (ix2 (⟨(i 0).val % 512, by omega⟩ : Fin 512) (i 1 : Fin 2048))
  rw [e] at h
  exact h

/-- The result array after the run. -/
theorem final : (dats m 0 c).arrAt 3 cfg0.N = whole m c :=
  (dats m 0 c).arrAt_eq_of_cover 3 _ (fun t _ => written m c t) fun i =>
    let ⟨t, h⟩ := covered i
    ⟨t, flush0_3 t, h⟩

end Cert.Kernel3Ideal.Rows

namespace Cert.Reference3Ideal.Rows

open Idealize.ShloMosaic Cert.Reference3Ideal Cert.Reference3Ideal.Gen

/-- The reference's result is the same function of the arguments. -/
theorem result (A : FVec Ideal S8192x2048 .bf16) (W : FVec Ideal S2048x2048 .bf16) (X : FVec Ideal S4x2048x2048 .f32)
    (r : Fin 8192) (l : Fin 2048) :
    (shapeCast S8192x2048 (addf X (Host.dotGeneral dot_S4x2048x2048_S2048x2048_S4x2048x2048_2_0_01_1_n_n none
      (shapeCast S4x2048x2048 (extf .f32 A bitsLt_bf16_f32) shapeCasts_S8192x2048_S4x2048x2048)
      (extf .f32 W bitsLt_bf16_f32))) shapeCasts_S4x2048x2048_S8192x2048 : FVec Ideal S8192x2048 .f32) (ix2 r l) =
    Cert.Residual.value A W X r l := by
  pointwise
  unfold Cert.Residual.value
  refine congrArg _ (Finset.sum_congr rfl fun k _ => ?_)
  have e : (⟨r.val / 2048 * 2048 + r.val % 2048, by omega⟩ : Fin 8192) = r := Fin.ext (by simp only; omega)
  simp only [e]

end Cert.Reference3Ideal.Rows

end
-- ==== Proof.Norm.lean ====
/-
  The root-mean-square norm of a token's 2048 lanes, and the embedding step that ends the layer.
-/
module

public import Idealize.ShloMosaic.Lib.Pointwise

@[expose] public section

noncomputable section

namespace Cert.Norm

open Idealize.ShloMosaic

/-- `2048` and the norm's epsilon, as the words that both programs write. -/
abbrev width : EReal := Ideal.ofBits .f32 1157627904#32
abbrev eps : EReal := Ideal.ofBits .f32 897988541#32

/-- A token's lanes normalised by their root mean square and scaled. -/
def rms (x g : Fin 2048 → EReal) (l : Fin 2048) : EReal :=
  x l * Ideal.rsqrt (Ideal.div (∑ k, x k * x k) width + eps) * g l

/-- A token after the gated per-layer embedding `p`: `h + σ(rms(h) · wg) ∘ (p · wp)`. -/
def embedded (h : Fin 2048 → EReal) (p : Fin 256 → EReal) (g : Fin 2048 → EReal) (wg : Fin 2048 → Fin 2048 → EReal)
    (wp : Fin 256 → Fin 2048 → EReal) (l : Fin 2048) : EReal :=
  h l + Ideal.logistic (∑ k, rms h g k * wg k l) * ∑ k, p k * wp k l

end Cert.Norm

end
-- ==== Proof.Final.lean ====
/-
  The layer's last step: the gated per-layer embedding and the final norm, by the kernel and by the reference.
-/
module

public import proofs.«01_k».proof.Proof.Norm
public import proofs.«01_k».proof.Proof.Gen.Kernel2Ideal.Value
public import proofs.«01_k».proof.Proof.Gen.Reference2Ideal.Run
public import Idealize.ShloMosaic.Lib.Pointwise

@[expose] public section

set_option maxRecDepth 16384

noncomputable section

namespace Cert.Final

open Idealize.ShloMosaic Cert.Norm

/-- An entry of the layer's result, from the arrays that the last step reads. -/
def value (H P : (⟨2, ![8192, 2048]⟩ : Shape).Idx → EReal) (E : (⟨4, ![1, 4, 2048, 256]⟩ : Shape).Idx → EReal)
    (G : (⟨2, ![1, 2048]⟩ : Shape).Idx → EReal) (WG : (⟨2, ![2048, 2048]⟩ : Shape).Idx → EReal)
    (WP : (⟨3, ![1, 256, 2048]⟩ : Shape).Idx → EReal) (GF : (⟨1, ![2048]⟩ : Shape).Idx → EReal)
    (r : Fin 8192) (l : Fin 2048) : EReal :=
  rms (embedded (fun k => H (ix2 r k) + P (ix2 r k)) (fun k => E (ix4 0 ⟨r.val / 2048, by omega⟩ ⟨r.val % 2048, by omega⟩ k))
    (fun k => G (ix2 0 k)) (fun k l => WG (ix2 k l)) (fun k l => WP (ix3 0 k l))) (fun k => GF (ix1 k)) l

end Cert.Final

namespace Cert.Kernel2Ideal.Rows

open Idealize.ShloMosaic Idealize.ShloMosaic.TcCoe Cert.Kernel2Ideal Cert.Kernel2Ideal.Gen Idealize.SL.Sem Cert.Norm

section Body
variable (x0 x1 : FVec Ideal S512x2048 .f32) (x2 : FVec Ideal S512x256 .f32) (x3 x6 : FVec Ideal S1x2048 .f32)
  (x4 : FVec Ideal S2048x2048 .bf16) (x5 : FVec Ideal S256x2048 .bf16)

/-- The block's rows after the embedding. -/
theorem embedded_apply (r : Fin 512) (l : Fin 2048) :
    k0_pay2 (F := Ideal) x0 x1 x3 x4 x2 x5 (ix2 r l) = embedded (fun k => x0 (ix2 r k) + x1 (ix2 r k)) (fun k => x2 (ix2 r k))
      (fun k => x3 (ix2 0 k)) (fun k l => x4 (ix2 k l)) (fun k l => x5 (ix2 k l)) l := by
  pointwise [k0_pay2]
  rfl

/-- The block's rows after the final norm. -/
theorem body_apply (r : Fin 512) (l : Fin 2048) :
    k0_pay1 (F := Ideal) (k0_pay2 x0 x1 x3 x4 x2 x5) (k0_pay3 x6) (k0_pay4 x0 x1 x3 x4 x2 x5) (k0_pay5 (F := Ideal)) (ix2 r l) =
      rms (embedded (fun k => x0 (ix2 r k) + x1 (ix2 r k)) (fun k => x2 (ix2 r k))
      (fun k => x3 (ix2 0 k)) (fun k l => x4 (ix2 k l)) (fun k l => x5 (ix2 k l))) (fun k => x6 (ix2 0 k)) l := by
  pointwise [k0_pay1, k0_pay3, k0_pay4, k0_pay5]
  simp only [embedded_apply]
  rfl

end Body

variable (m : (ℓ : Loc nD τ sig) → Buf (Elt Ideal) ℓ) (c : Dev nD) (t : Fin cfg0.N)

theorem lt_points : t.val < 16 := t.isLt

theorem zeros : (![0, 0] : Fin 2 → Nat) = fun _ => 0 := funext fun a => by fin_cases a <;> rfl

/-- Where each window's block lies, at every point. -/
theorem index_facts : ∀ t : Fin cfg0.N,
    (win0_0.index t (0 : Fin 2) = t.val ∧ win0_0.index t (1 : Fin 2) = 0) ∧
    (win0_1.index t (0 : Fin 2) = t.val ∧ win0_1.index t (1 : Fin 2) = 0) ∧
    (win0_2.index t (0 : Fin 2) = t.val ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_6.index t (0 : Fin 2) = 0 ∧ win0_6.index t (1 : Fin 2) = 0) ∧
    (win0_7.index t (0 : Fin 2) = t.val ∧ win0_7.index t (1 : Fin 2) = 0) := by decide +kernel

/-- The row of the whole array that is row `r` of a point's block. -/
abbrev row (r : Fin 512) : Fin 8192 := ⟨512 * t.val + r.val, by have := lt_points t; omega⟩

theorem place_0 (r : Fin 512) (l : Fin 2048) : (win0_0.blk t).view.emb (ix2 r l) = ix2 (row t r) l := by
  have ht := lt_points t
  have e := (index_facts t).1
  funext a
  apply Fin.ext
  match a with
  | 0 =>
    show win0_0.index t 0 * 512 + 1 * r.val = 512 * t.val + r.val
    rw [e.1]
    omega
  | 1 =>
    show win0_0.index t 1 * 2048 + 1 * l.val = l.val
    rw [e.2]
    omega

theorem place_1 (r : Fin 512) (l : Fin 2048) : (win0_1.blk t).view.emb (ix2 r l) = ix2 (row t r) l := by
  have ht := lt_points t
  have e := (index_facts t).2.1
  funext a
  apply Fin.ext
  match a with
  | 0 =>
    show win0_1.index t 0 * 512 + 1 * r.val = 512 * t.val + r.val
    rw [e.1]
    omega
  | 1 =>
    show win0_1.index t 1 * 2048 + 1 * l.val = l.val
    rw [e.2]
    omega

theorem place_2 (r : Fin 512) (l : Fin 256) : (win0_2.blk t).view.emb (ix2 r l) = ix2 (row t r) l := by
  have ht := lt_points t
  have e := (index_facts t).2.2.1
  funext a
  apply Fin.ext
  match a with
  | 0 =>
    show win0_2.index t 0 * 512 + 1 * r.val = 512 * t.val + r.val
    rw [e.1]
    omega
  | 1 =>
    show win0_2.index t 1 * 256 + 1 * l.val = l.val
    rw [e.2]
    omega

theorem place_3 (r : Fin 1) (l : Fin 2048) : (win0_3.blk t).view.emb (ix2 r l) = ix2 (r) l := by
  have ht := lt_points t
  have e := (index_facts t).2.2.2.1
  funext a
  apply Fin.ext
  match a with
  | 0 =>
    show win0_3.index t 0 * 1 + 1 * r.val = r.val
    rw [e.1]
    omega
  | 1 =>
    show win0_3.index t 1 * 2048 + 1 * l.val = l.val
    rw [e.2]
    omega

theorem place_4 (r : Fin 2048) (l : Fin 2048) : (win0_4.blk t).view.emb (ix2 r l) = ix2 (r) l := by
  have ht := lt_points t
  have e := (index_facts t).2.2.2.2.1
  funext a
  apply Fin.ext
  match a with
  | 0 =>
    show win0_4.index t 0 * 2048 + 1 * r.val = r.val
    rw [e.1]
    omega
  | 1 =>
    show win0_4.index t 1 * 2048 + 1 * l.val = l.val
    rw [e.2]
    omega

theorem place_5 (r : Fin 256) (l : Fin 2048) : (win0_5.blk t).view.emb (ix2 r l) = ix2 (r) l := by
  have ht := lt_points t
  have e := (index_facts t).2.2.2.2.2.1
  funext a
  apply Fin.ext
  match a with
  | 0 =>
    show win0_5.index t 0 * 256 + 1 * r.val = r.val
    rw [e.1]
    omega
  | 1 =>
    show win0_5.index t 1 * 2048 + 1 * l.val = l.val
    rw [e.2]
    omega

theorem place_6 (r : Fin 1) (l : Fin 2048) : (win0_6.blk t).view.emb (ix2 r l) = ix2 (r) l := by
  have ht := lt_points t
  have e := (index_facts t).2.2.2.2.2.2.1
  funext a
  apply Fin.ext
  match a with
  | 0 =>
    show win0_6.index t 0 * 1 + 1 * r.val = r.val
    rw [e.1]
    omega
  | 1 =>
    show win0_6.index t 1 * 2048 + 1 * l.val = l.val
    rw [e.2]
    omega

theorem place_7 (r : Fin 512) (l : Fin 2048) : (win0_7.blk t).view.emb (ix2 r l) = ix2 (row t r) l := by
  have ht := lt_points t
  have e := (index_facts t).2.2.2.2.2.2.2
  funext a
  apply Fin.ext
  match a with
  | 0 =>
    show win0_7.index t 0 * 512 + 1 * r.val = 512 * t.val + r.val
    rw [e.1]
    omega
  | 1 =>
    show win0_7.index t 1 * 2048 + 1 * l.val = l.val
    rw [e.2]
    omega

theorem h_at (r : Fin 512) (l : Fin 2048) : iblk m c 0 t (ix2 r l) = m ((c : Thread nD τ).loc main_arg0) (ix2 (row t r) l) :=
  (congrArg (V m c main_arg0) (place_0 t r l)).trans (congrFun (V_main_arg0 m c) _)

theorem p_at (r : Fin 512) (l : Fin 2048) : iblk m c 1 t (ix2 r l) = m ((c : Thread nD τ).loc main_arg1) (ix2 (row t r) l) :=
  (congrArg (V m c main_arg1) (place_1 t r l)).trans (congrFun (V_main_arg1 m c) _)

theorem wg_at (r : Fin 2048) (l : Fin 2048) : iblk m c 4 t (ix2 r l) = m ((c : Thread nD τ).loc main_arg4) (ix2 r l) :=
  (congrArg (V m c main_arg4) (place_4 t r l)).trans (congrFun (V_main_arg4 m c) _)

section Layout

theorem tokens_apply (x : FVec Ideal S1x4x2048x256 .f32) (r : Fin 8192) (k : Fin 256) :
    (shapeCast S8192x256 (shapeCast S4x2048x256 x shapeCasts_S1x4x2048x256_S4x2048x256) shapeCasts_S4x2048x256_S8192x256 :
      FVec Ideal S8192x256 .f32) (ix2 r k) = x (ix4 0 ⟨r.val / 2048, by omega⟩ ⟨r.val % 2048, by omega⟩ k) := by
  pointwise

theorem scale_apply (x : FVec Ideal S1x2048 .f32) (l : Fin 2048) :
    (shapeCast S1x2048 (shapeCast S2048 x shapeCasts_S1x2048_S2048) shapeCasts_S2048_S1x2048 : FVec Ideal S1x2048 .f32)
      (ix2 0 l) = x (ix2 0 l) := by
  pointwise

theorem last_apply (x : FVec Ideal S2048 .f32) (l : Fin 2048) :
    (shapeCast S1x2048 x shapeCasts_S2048_S1x2048 : FVec Ideal S1x2048 .f32) (ix2 0 l) = x (ix1 l) := by
  pointwise

theorem weights_apply (x : FVec Ideal S1x256x2048 .f32) (k : Fin 256) (l : Fin 2048) :
    (truncf .bf16 (shapeCast S256x2048 x shapeCasts_S1x256x2048_S256x2048) bitsLt_bf16_f32 : FVec Ideal S256x2048 .bf16)
      (ix2 k l) = x (ix3 0 k l) := by
  pointwise

end Layout

theorem V_tokens : V m c main_v1 = (shapeCast S8192x256 (shapeCast S4x2048x256 (m ((c : Thread nD τ).loc main_arg2))
    shapeCasts_S1x4x2048x256_S4x2048x256) shapeCasts_S4x2048x256_S8192x256 : FVec Ideal S8192x256 .f32) := by
  show StableHlo.after hostOps0 (fun b => m (c, b)) (Proc.tc.devRef main_v1) = _
  after_results
  rfl

theorem V_scale : V m c main_v3 = (shapeCast S1x2048 (shapeCast S2048 (m ((c : Thread nD τ).loc main_arg3))
    shapeCasts_S1x2048_S2048) shapeCasts_S2048_S1x2048 : FVec Ideal S1x2048 .f32) := by
  show StableHlo.after hostOps0 (fun b => m (c, b)) (Proc.tc.devRef main_v3) = _
  after_results
  rfl

theorem V_weights : V m c main_v5 = (truncf .bf16 (shapeCast S256x2048 (m ((c : Thread nD τ).loc main_arg5))
    shapeCasts_S1x256x2048_S256x2048 : FVec Ideal S256x2048 .f32) bitsLt_bf16_f32 : FVec Ideal S256x2048 .bf16) := by
  show StableHlo.after hostOps0 (fun b => m (c, b)) (Proc.tc.devRef main_v5) = _
  after_results
  rfl

theorem V_last : V m c main_v6 = (shapeCast S1x2048 (m ((c : Thread nD τ).loc main_arg6))
    shapeCasts_S2048_S1x2048 : FVec Ideal S1x2048 .f32) := by
  show StableHlo.after hostOps0 (fun b => m (c, b)) (Proc.tc.devRef main_v6) = _
  after_results
  rfl

theorem e_at (r : Fin 512) (k : Fin 256) : iblk m c 2 t (ix2 r k) = m ((c : Thread nD τ).loc main_arg2)
    (ix4 0 ⟨(row t r).val / 2048, by omega⟩ ⟨(row t r).val % 2048, by omega⟩ k) :=
  (congrArg (V m c main_v1) (place_2 t r k)).trans ((congrFun (V_tokens m c) _).trans (tokens_apply _ (row t r) k))

theorem g_at (l : Fin 2048) : iblk m c 3 t (ix2 0 l) = m ((c : Thread nD τ).loc main_arg3) (ix2 0 l) :=
  (congrArg (V m c main_v3) (place_3 t 0 l)).trans ((congrFun (V_scale m c) _).trans (scale_apply _ l))

theorem wp_at (k : Fin 256) (l : Fin 2048) : iblk m c 5 t (ix2 k l) = m ((c : Thread nD τ).loc main_arg5) (ix3 0 k l) :=
  (congrArg (V m c main_v5) (place_5 t k l)).trans ((congrFun (V_weights m c) _).trans (weights_apply _ k l))

theorem gf_at (l : Fin 2048) : iblk m c 6 t (ix2 0 l) = m ((c : Thread nD τ).loc main_arg6) (ix1 l) :=
  (congrArg (V m c main_v6) (place_6 t 0 l)).trans ((congrFun (V_last m c) _).trans (last_apply _ l))

/-- The whole result. -/
def whole : Buf (Elt Ideal) ((c : Thread nD τ).loc main_v7) := fun i =>
  Cert.Final.value (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (i 0) (i 1)

/-- A point writes back its block of the whole result. -/
theorem written : (dats m 0 c).flushed 7 t = (win0_7.blk t).view.read (Elt Ideal) (whole m c) := by
  show (cfg0.win 7).cut (grid0.coords t) ((dats m 0 c).after 7 t) = _
  rw [after0_7]
  unfold out0_7
  rw [View.canon_unit_zero zeros]
  rw [View.ld_unit_zero zeros, View.ld_unit_zero zeros, View.ld_unit_zero zeros, View.ld_unit_zero zeros,
    View.ld_unit_zero zeros, View.ld_unit_zero zeros, View.ld_unit_zero zeros]
  funext j
  rw [eq_ix2 (n0 := 512) (n1 := 2048) j]
  generalize (j 0 : Fin 512) = r
  generalize (j 1 : Fin 2048) = l
  change Fin 512 at r
  change Fin 2048 at l
  refine (body_apply _ _ _ _ _ _ _ r l).trans ?_
  refine Eq.trans ?_ (congrArg (whole m c) (place_7 t r l)).symm
  show rms _ _ l = Cert.Final.value _ _ _ _ _ _ _ (row t r) l
  unfold Cert.Final.value
  simp only [h_at, p_at, e_at, g_at, wg_at, wp_at, gf_at]

/-- Every row lies in some point's block. -/
theorem covered (i : S8192x2048.Idx) : ∃ t : Fin cfg0.N, i ∈ (win0_7.blk t).view.set := by
  have h0 : (i 0).val < 8192 := (i 0).isLt
  have hN : (i 0).val / 512 < cfg0.N := by show _ < 16; omega
  refine ⟨⟨(i 0).val / 512, hN⟩, ?_⟩
  have e : (win0_7.blk ⟨(i 0).val / 512, hN⟩).view.emb (ix2 (⟨(i 0).val % 512, by omega⟩ : Fin 512) (i 1 : Fin 2048)) = i := by
    refine (place_7 ⟨(i 0).val / 512, hN⟩ _ _).trans ?_
    funext a
    apply Fin.ext
    match a with
    | 0 =>
      show 512 * ((i 0).val / 512) + (i 0).val % 512 = (i 0).val
      omega
    | 1 => rfl
  have h := View.emb_mem_set (win0_7.blk ⟨(i 0).val / 512, hN⟩).view (ix2 (⟨(i 0).val % 512, by omega⟩ : Fin 512) (i 1 : Fin 2048))
  rw [e] at h
  exact h

/-- The result array after the run. -/
theorem final : (dats m 0 c).arrAt 7 cfg0.N = whole m c :=
  (dats m 0 c).arrAt_eq_of_cover 7 _ (fun t _ => written m c t) fun i =>
    let ⟨t, h⟩ := covered i
    ⟨t, flush0_7 t, h⟩

end Cert.Kernel2Ideal.Rows

namespace Cert.Reference2Ideal.Rows

open Idealize.ShloMosaic Idealize.ShloMosaic.TcCoe Cert.Reference2Ideal Cert.Reference2Ideal.Gen Cert.Norm

section Steps
variable (H : FVec Ideal S4x2048x2048 .f32) (g : FVec Ideal S2048 .f32) (E : FVec Ideal S4x2048x256 .f32)
  (wg : FVec Ideal S2048x2048 .f32) (wp : FVec Ideal S256x2048 .f32) (gf : FVec Ideal S2048 .f32)

/-- The norm, as the reference takes it. -/
def norm : FVec Ideal S4x2048x2048 .f32 :=
  mulf (mulf H (broadcastInDim S4x2048x2048 ![0, 1, 2] bcast_S4x2048x1_S4x2048x2048_0_1_2
    (Host.rsqrt (addf (Host.divf (broadcastInDim S4x2048x1 ![0, 1] bcast_S4x2048_S4x2048x1_0_1
      (Host.reduceAdd (mulf H H) (constant S_ .f32 0x00000000#32) reducesTo_S4x2048x2048_S4x2048_d2 h_S_))
      (broadcastInDim S4x2048x1 ![] bcast_S_S4x2048x1 (constant S_ .f32 0x45000000#32)))
      (broadcastInDim S4x2048x1 ![] bcast_S_S4x2048x1 (constant S_ .f32 0x358637BD#32))))))
    (broadcastInDim S4x2048x2048 ![0, 1, 2] bcast_S1x1x2048_S4x2048x2048_0_1_2
      (broadcastInDim S1x1x2048 ![2] bcast_S2048_S1x1x2048_2 g))

/-- The embedding step, as the reference takes it. -/
def embed : FVec Ideal S4x2048x2048 .f32 :=
  addf H (mulf (Host.divf (broadcastInDim S4x2048x2048 ![] bcast_S_S4x2048x2048 (constant S_ .f32 0x3F800000#32))
    (addf (broadcastInDim S4x2048x2048 ![] bcast_S_S4x2048x2048 (constant S_ .f32 0x3F800000#32))
      (Host.exp (Host.negf (Host.dotGeneral dot_S4x2048x2048_S2048x2048_S4x2048x2048_2_0_01_1_n_n none (norm H g) wg)))))
    (Host.dotGeneral dot_S4x2048x256_S256x2048_S4x2048x2048_2_0_01_1_n_n none E wp))

theorem norm_apply (b : Fin 4) (s l : Fin 2048) :
    norm H g (ix3 b s l) = rms (fun k => H (ix3 b s k)) (fun k => g (ix1 k)) l := by
  pointwise [norm]
  rfl

theorem embed_apply (b : Fin 4) (s l : Fin 2048) :
    embed H g E wg wp (ix3 b s l) = embedded (fun k => H (ix3 b s k)) (fun k => E (ix3 b s k)) (fun k => g (ix1 k))
      (fun k l => wg (ix2 k l)) (fun k l => wp (ix2 k l)) l := by
  pointwise [embed]
  simp only [norm_apply]
  rfl

end Steps

section Layout
theorem flat_apply (x : FVec Ideal S4x2048x2048 .f32) (r : Fin 8192) (l : Fin 2048) :
    shapeCast S8192x2048 x shapeCasts_S4x2048x2048_S8192x2048 (ix2 r l) =
      x (ix3 ⟨r.val / 2048, by omega⟩ ⟨r.val % 2048, by omega⟩ l) := by
  pointwise

theorem sum_apply (x y : FVec Ideal S8192x2048 .f32) (r : Fin 8192) (l : Fin 2048) :
    (addf (shapeCast S4x2048x2048 x shapeCasts_S8192x2048_S4x2048x2048)
      (shapeCast S4x2048x2048 y shapeCasts_S8192x2048_S4x2048x2048) : FVec Ideal S4x2048x2048 .f32)
      (ix3 ⟨r.val / 2048, by omega⟩ ⟨r.val % 2048, by omega⟩ l) = x (ix2 r l) + y (ix2 r l) := by
  pointwise

theorem scale_apply (x : FVec Ideal S1x2048 .f32) (l : Fin 2048) :
    shapeCast S2048 x shapeCasts_S1x2048_S2048 (ix1 l) = x (ix2 0 l) := by
  pointwise

theorem tokens_apply (x : FVec Ideal S1x4x2048x256 .f32) (b : Fin 4) (s : Fin 2048) (k : Fin 256) :
    shapeCast S4x2048x256 x shapeCasts_S1x4x2048x256_S4x2048x256 (ix3 b s k) = x (ix4 0 b s k) := by
  pointwise

theorem weights_apply (x : FVec Ideal S1x256x2048 .f32) (k : Fin 256) (l : Fin 2048) :
    shapeCast S256x2048 x shapeCasts_S1x256x2048_S256x2048 (ix2 k l) = x (ix3 0 k l) := by
  pointwise

end Layout

variable (m : (ℓ : Loc nD τ sig) → Buf (Elt Ideal) ℓ) (c : Dev nD)

theorem result_eq : Cert.Reference2Ideal.Value.res_main_v43 m c = (shapeCast S8192x2048
    (norm (embed (addf (shapeCast S4x2048x2048 (m ((c.tc : Thread nD τ).loc main_arg0)) shapeCasts_S8192x2048_S4x2048x2048)
        (shapeCast S4x2048x2048 (m ((c.tc : Thread nD τ).loc main_arg1)) shapeCasts_S8192x2048_S4x2048x2048))
      (shapeCast S2048 (m ((c.tc : Thread nD τ).loc main_arg3)) shapeCasts_S1x2048_S2048)
      (shapeCast S4x2048x256 (m ((c.tc : Thread nD τ).loc main_arg2)) shapeCasts_S1x4x2048x256_S4x2048x256)
      (extf .f32 (m ((c.tc : Thread nD τ).loc main_arg4) : FVec Ideal S2048x2048 .bf16) bitsLt_bf16_f32)
      (shapeCast S256x2048 (m ((c.tc : Thread nD τ).loc main_arg5)) shapeCasts_S1x256x2048_S256x2048))
      (m ((c.tc : Thread nD τ).loc main_arg6))) shapeCasts_S4x2048x2048_S8192x2048 : FVec Ideal S8192x2048 .f32) := rfl

/-- The reference's result is the same function of the arguments. -/
theorem result (r : Fin 8192) (l : Fin 2048) :
    (Cert.Reference2Ideal.Value.res_main_v43 m c : FVec Ideal S8192x2048 .f32) (ix2 r l) =
    Cert.Final.value (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) r l := by
  refine (congrFun (result_eq m c) _).trans ((flat_apply _ r l).trans ((norm_apply _ _ _ _ l).trans ?_))
  refine congrArg (fun x => rms x _ l) (funext fun k => (embed_apply _ _ _ _ _ _ _ k).trans ?_)
  have e0 : (fun k => (addf (shapeCast S4x2048x2048 (m ((c.tc : Thread nD τ).loc main_arg0)) shapeCasts_S8192x2048_S4x2048x2048)
        (shapeCast S4x2048x2048 (m ((c.tc : Thread nD τ).loc main_arg1)) shapeCasts_S8192x2048_S4x2048x2048) : FVec Ideal S4x2048x2048 .f32)
        (ix3 ⟨r.val / 2048, by omega⟩ ⟨r.val % 2048, by omega⟩ k)) =
      _ := funext fun k => sum_apply _ _ r k
  rw [e0]
  have e1 : (fun k => (shapeCast S4x2048x256 (m ((c.tc : Thread nD τ).loc main_arg2)) shapeCasts_S1x4x2048x256_S4x2048x256 : FVec Ideal S4x2048x256 .f32)
        (ix3 ⟨r.val / 2048, by omega⟩ ⟨r.val % 2048, by omega⟩ k)) = _ := funext fun k => tokens_apply _ _ _ k
  have e2 : (fun k => (shapeCast S2048 (m ((c.tc : Thread nD τ).loc main_arg3)) shapeCasts_S1x2048_S2048 : FVec Ideal S2048 .f32)
        (ix1 k)) = _ := funext fun k => scale_apply _ k
  have e3 : (fun k l => (shapeCast S256x2048 (m ((c.tc : Thread nD τ).loc main_arg5)) shapeCasts_S1x256x2048_S256x2048 : FVec Ideal S256x2048 .f32)
        (ix2 k l)) = _ := funext fun k => funext fun l => weights_apply _ k l
  rw [e1, e2, e3]
  rfl

end Cert.Reference2Ideal.Rows

end
-- ==== Proof.Stage.lean ====
/-
  The run of the call that normalises the rows and projects them. Its grid is 8 x 4: eight blocks of 1024 rows, four blocks
  of 1792 columns. At the first of a row block's four points the body normalises the rows into a scratch array and forms the
  gates' columns; at all four it multiplies the normalised rows by a block of the table. So the scratch array and the buffer
  of the gates hold the same contents at a row block's four points, and the gates are written back at the fourth.
-/
module

public import proofs.«01_k».proof.Proof.Gen.Kernel4Ideal.Launch
public import proofs.«01_k».proof.Proof.Gen.Kernel4Ideal.Points
public import proofs.«01_k».proof.Proof.Gen.Kernel4Ideal.Skeleton
public import proofs.«01_k».proof.Proof.Gen.Kernel4Ideal.Frame
public import Idealize.ShloMosaic.Lib.Pipeline.FrameBody
public import Idealize.ShloMosaic.Lib.Claim
public import Idealize.ShloMosaic.Lib.Tactic
public import Idealize.ShloMosaic.Lib.WordCmp
public import Idealize.ShloMosaic.Lib.VecWindow

@[expose] public section

set_option maxRecDepth 16384

noncomputable section

namespace Cert.Kernel4Ideal.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

set_option maxHeartbeats 1000000 in
/-- The body at a row block's first point: it leaves the normalised rows in the scratch array, the gates' columns in their
    buffer and the product in the output's buffer. -/
theorem body_first (c : Dev nD) (E : Set ℕ) (i : grid0.Coords) (hc : k0_cond1 i = 1#1)
    (arg2 : Memref sig .tc .vmem S1024x2048 .f32) (harg2 : arg2.IsWhole) (arg3 : Memref sig .tc .vmem S1x2048 .f32) (harg3 : arg3.IsWhole)
    (arg4 : Memref sig .tc .vmem S2048x1792 .bf16) (harg4 : arg4.IsWhole) (arg5 : Memref sig .tc .vmem S2048x128 .bf16) (harg5 : arg5.IsWhole)
    (arg6 : Memref sig .tc .vmem S1024x1792 .f32) (harg6 : arg6.IsWhole) (arg7 : Memref sig .tc .vmem S1024x128 .f32) (harg7 : arg7.IsWhole)
    (arg8 : Memref sig .tc .vmem S1024x2048 .bf16) (harg8 : arg8.IsWhole)
    (x0 : Vec F S1024x2048 .f32) (x1 : Vec F S1x2048 .f32) (x2 : Vec F S2048x1792 .bf16) (x3 : Vec F S2048x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 (k0_pay2 x0 x1) x2) ∗ owns (c : Thread nD τ) arg7 fullShare (k0_pay3 x0 x1 x3)
            ∗ owns (c : Thread nD τ) arg8 fullShare (k0_pay2 x0 x1)) -∗ K ⟨⟩))
      ⊢ wp frame (wpE (defs₀ (F := F)) Variants.none c none) E (cc0_rms_proj i arg2 harg2 arg3 harg3 arg4 harg4 arg5 harg5 arg6 harg6 arg7 harg7 arg8 harg8) K := by
  simp only [cc0_rms_proj_eq_skeleton]; unfold cc0_rms_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold body_first.sl.v3 body_first.sl.H6_1
    rw [View.read_writes_full, View.readCov_full, View.readAt_full, View.readAt_full, View.readAt_full]
  isplitl [H5]
  · iexists _; isplitr
    swap; · iexact H5
    ipureintro
    rw [View.read_writes_full, View.readAt_full, View.readAt_full, View.readAt_full]
  iexists _; isplitr
  swap; · iexact H6
  ipureintro
  unfold body_first.sl.H6_1
  rw [View.read_writes_full, View.readAt_full, View.readAt_full]

set_option maxHeartbeats 1000000 in
/-- The body at a row block's other points: it multiplies what the scratch array holds and leaves that array and the gates'
    buffer as they were. -/
theorem body_rest (c : Dev nD) (E : Set ℕ) (i : grid0.Coords) (hc : ¬ k0_cond1 i = 1#1)
    (arg2 : Memref sig .tc .vmem S1024x2048 .f32) (harg2 : arg2.IsWhole) (arg3 : Memref sig .tc .vmem S1x2048 .f32) (harg3 : arg3.IsWhole)
    (arg4 : Memref sig .tc .vmem S2048x1792 .bf16) (harg4 : arg4.IsWhole) (arg5 : Memref sig .tc .vmem S2048x128 .bf16) (harg5 : arg5.IsWhole)
    (arg6 : Memref sig .tc .vmem S1024x1792 .f32) (harg6 : arg6.IsWhole) (arg7 : Memref sig .tc .vmem S1024x128 .f32) (harg7 : arg7.IsWhole)
    (arg8 : Memref sig .tc .vmem S1024x2048 .bf16) (harg8 : arg8.IsWhole)
    (x0 : Vec F S1024x2048 .f32) (x1 : Vec F S1x2048 .f32) (x2 : Vec F S2048x1792 .bf16) (x3 : Vec F S2048x128 .bf16) (x5 : Vec F S1024x128 .f32) (xs : Vec F S1024x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare x5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 xs x2) ∗ owns (c : Thread nD τ) arg7 fullShare x5 ∗ owns (c : Thread nD τ) arg8 fullShare xs) -∗ K ⟨⟩))
      ⊢ wp frame (wpE (defs₀ (F := F)) Variants.none c none) E (cc0_rms_proj i arg2 harg2 arg3 harg3 arg4 harg4 arg5 harg5 arg6 harg6 arg7 harg7 arg8 harg8) K := by
  simp only [cc0_rms_proj_eq_skeleton]; unfold cc0_rms_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_full, View.readAt_full, View.readAt_full]
  isplitl [H5]
  · iexists f5; isplitr; · ipureintro; rfl
    iexact H5
  iexists f6; isplitr; · ipureintro; rfl
  iexact H6

/-- The body stores the gates exactly at a row block's first point. -/
theorem cond_iff : ∀ t : Fin cfg0.N, k0_cond1 (grid0.coords t) = 1#1 ↔ t.val % 4 = 0 :=
  (fun t => by
    have ht : t.val < 32 := Nat.lt_of_lt_of_eq t.isLt N_0
    have e1 : (grid0.coords t 1).val = t.val / 1 % 4 := Pipeline.Grid.coords_val t 1 (by decide) rfl
    simp only [k0_cond1, e1]
    word_cmp
   : ∀ t : Fin grid0.N, k0_cond1 (grid0.coords t) = 1#1 ↔ t.val % 4 = 0)

theorem idle_of_rest (t : Fin cfg0.N) (h : t.val % 4 ≠ 0) : cfg0.idle 5 (cfg0.grid.coords t) = true := by
  show (!(k0_cond1 (grid0.coords t) == 1#1)) = true
  rw [Bool.not_eq_true', beq_eq_false_iff_ne]
  exact fun e => h ((cond_iff t).mp e)

theorem idle_of_first (t : Fin cfg0.N) (h : t.val % 4 = 0) : cfg0.idle 5 (cfg0.grid.coords t) = false := by
  show (!(k0_cond1 (grid0.coords t) == 1#1)) = false
  rw [(cond_iff t).mpr h]; rfl

/-! ## What the buffers hold -/

/-- The first point of a point's row block. -/
def first (t : Fin cfg0.N) : Fin cfg0.N := ⟨t.val / 4 * 4, Nat.lt_of_le_of_lt (Nat.div_mul_le_self t.val 4) t.isLt⟩

theorem first_self (t : Fin cfg0.N) (h : t.val % 4 = 0) : first t = t := Fin.ext (by show t.val / 4 * 4 = t.val; omega)

/-- The point before. -/
abbrev prev (t : Fin cfg0.N) : Fin cfg0.N := ⟨t.val - 1, Nat.lt_of_le_of_lt (Nat.sub_le _ _) t.isLt⟩

theorem first_prev (t : Fin cfg0.N) (h : t.val % 4 ≠ 0) : first (prev t) = first t :=
  Fin.ext (by show (t.val - 1) / 4 * 4 = t.val / 4 * 4; omega)

/-- The normalised rows of a point's row block. -/
def normed (c : Dev nD) (t : Fin cfg0.N) : Vec F S1024x2048 .bf16 := k0_pay2 (iblk m c 0 (first t)) (iblk m c 1 (first t))
/-- The gates' columns of a point's row block. -/
def gates (c : Dev nD) (t : Fin cfg0.N) : Vec F S1024x128 .f32 :=
  k0_pay3 (iblk m c 0 (first t)) (iblk m c 1 (first t)) (iblk m c 3 (first t))

theorem normed_self (c : Dev nD) (t : Fin cfg0.N) (h : t.val % 4 = 0) : normed m c t = k0_pay2 (iblk m c 0 t) (iblk m c 1 t) := by
  unfold normed; rw [first_self t h]
theorem gates_self (c : Dev nD) (t : Fin cfg0.N) (h : t.val % 4 = 0) :
    gates m c t = k0_pay3 (iblk m c 0 t) (iblk m c 1 t) (iblk m c 3 t) := by
  unfold gates; rw [first_self t h]
theorem normed_prev (c : Dev nD) (t : Fin cfg0.N) (h : t.val % 4 ≠ 0) : normed m c (prev t) = normed m c t := by
  unfold normed; rw [first_prev t h]
theorem gates_prev (c : Dev nD) (t : Fin cfg0.N) (h : t.val % 4 ≠ 0) : gates m c (prev t) = gates m c t := by
  unfold gates; rw [first_prev t h]

/-- The scratch array. -/
abbrev scM : Memref sig .tc .vmem S1024x2048 .bf16 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Between points: the scratch array holds the normalised rows of the point before, at the start anything. -/
def PhiS (c : Dev nD) : (n : ℕ) → n ≤ cfg0.N → sProp 𝕄
  | 0, _ => Pipeline.ΦA spec0 c
  | n + 1, hn => iprop(owns (c : Thread nD τ) scM fullShare (normed m c ⟨n, hn⟩) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(owns (c : Thread nD τ) scM fullShare (normed m c ⟨n, hn⟩) ∗ (∃ r, prngReg c r)) := rfl
theorem PhiS_pos (c : Dev nD) (n : ℕ) (h : n ≤ cfg0.N) (hz : n ≠ 0) :
    PhiS m c n h = iprop(owns (c : Thread nD τ) scM fullShare (normed m c ⟨n - 1, by omega⟩) ∗ (∃ r, prngReg c r)) := by
  cases n with
  | zero => exact absurd rfl hz
  | succ n => rfl

/-- The pipeline's data: what each window's buffer holds after the body, and what stands between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => k0_pay4 (normed m c t) (X0_2 m c t)
    | ⟨5, _⟩ => gates m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay4 (normed m c t) (X0_2 m c t) := by dsimp only [dats]
theorem after0_5 (c : Dev nD) (t : Fin cfg0.N) : (dats m 0 c).after 5 t = gates m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem flush_prev (t : Fin cfg0.N) (h : t.val % 4 ≠ 0) : ¬ (cfg0.win 5).flush (prev t) = true := fun e => by
  have e' := (flush0_5 (prev t)).mp e
  have : (t.val - 1) % 4 = 3 := e'
  omega

/-- At a row block's later points the gates' buffer holds the gates the first of them formed. -/
theorem before0_5 (c : Dev nD) : ∀ (n : ℕ) (hn : n < cfg0.N), n % 4 ≠ 0 → ∀ d, (dats m 0 c).before 5 ⟨n, hn⟩ d = gates m c ⟨n, hn⟩ := by
  intro n
  induction n with
  | zero => intro _ h; exact absurd rfl h
  | succ n ih =>
    intro hn h d
    have hp : n < cfg0.N := Nat.lt_of_succ_lt hn
    rw [(dats m 0 c).before_of_pos 5 ⟨n + 1, hn⟩ (Nat.succ_ne_zero n) rfl d, if_neg (flush_prev ⟨n + 1, hn⟩ h)]
    have eg : gates m c ⟨n, hp⟩ = gates m c ⟨n + 1, hn⟩ := gates_prev m c ⟨n + 1, hn⟩ h
    refine Eq.trans ?_ eg
    show (dats m 0 c).left 5 ⟨n, hp⟩ d = gates m c ⟨n, hp⟩
    unfold Dat.left
    by_cases h0 : n % 4 = 0
    · rw [idle_of_first ⟨n, hp⟩ h0]
      show (dats m 0 c).kept 5 ⟨n, hp⟩ d = gates m c ⟨n, hp⟩
      unfold Dat.kept
      rw [Pipeline.fill_of_clip_none 5 _ (fun _ => rfl) d ((dats m 0 c).after 5 ⟨n, hp⟩), Window.fill_cut, after0_5]
    · rw [idle_of_rest ⟨n, hp⟩ h0]
      exact ih hp h0 d

/-- The gates' buffer holding the row block's gates is what the schedule asks of it after the body, at every point. -/
theorem leaves_gates (c : Dev nD) (t : Fin cfg0.N) :
    (owns (c : Thread nD τ) (st0_5 t) fullShare (gates m c t) : sProp 𝕄) ⊢ (dats m 0 c).leavesExact 5 t := by
  by_cases h0 : t.val % 4 = 0
  · unfold Dat.leavesExact
    rw [idle_of_first t h0, after0_5]
  · by_cases h3 : t.val % 4 = 3
    · unfold Dat.leavesExact
      rw [idle_of_rest t h0, (flush0_5 t).mpr h3, after0_5]
    · rw [(dats m 0 c).leavesExact_idle 5 t (idle_of_rest t h0) (by
        rw [← Bool.not_eq_true]; exact fun e => h3 ((flush0_5 t).mp e))]
      iintro H
      iexists (gates m c t)
      rw [before0_5 m c t.val t.isLt h0]
      iexact H

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- The scratch array at some contents, before any point. -/
theorem Phi_some (c : Dev nD) (t : Fin cfg0.N) :
    (dats m 0 c).Φ t.castSucc ⊢ iprop((∃ d, owns (c : Thread nD τ) scM fullShare d) ∗ (∃ r, prngReg c r)) := by
  rw [PhiS_castSucc m c t]
  by_cases hz : t.val = 0
  · rw [PhiS_zero m c _ _ hz, PhiA_eq]
  · rw [PhiS_pos m c _ _ hz]
    iintro ⟨HS, Hg⟩
    isplitl [HS]
    · iexists _; iexact HS
    iexact Hg

set_option maxHeartbeats 1000000 in
theorem sound_first (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  refine BIBase.Entails.trans (sep_mono (Phi_some m c t) .rfl) ?_
  rw [normed_self m c t h0]
  iintro ⟨⟨HS, Hg⟩, Ho, ⟨%d0, H0⟩, ⟨%d1, H1⟩, ⟨%d2, H2⟩, ⟨%d3, H3⟩, ⟨%d4, H4⟩, ⟨%d5, H5⟩⟩
  iapply (body_first c Set.univ (grid0.coords t) ((cond_iff t).mpr h0) _ _ _ _ _ _ _ _ _ _ _ _ _ _ (iblk m c 0 t) (iblk m c 1 t) (X0_2 m c t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iapply (leaves_gates m c t)
  rw [gates_self m c t h0]
  iexact H5

set_option maxHeartbeats 1000000 in
theorem sound_rest (c : Dev nD) (t : Fin cfg0.N) (h0 : t.val % 4 ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_5 m c t.val t.isLt h0]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  rw [PhiS_castSucc m c t, PhiS_pos m c _ _ (fun e => h0 (by rw [e])),
    show normed m c ⟨t.val - 1, Nat.lt_of_le_of_lt (Nat.sub_le _ _) t.isLt⟩ = normed m c t from normed_prev m c t h0]
  iintro ⟨⟨HS, Hg⟩, Ho, ⟨%d0, H0⟩, ⟨%d1, H1⟩, ⟨%d2, H2⟩, ⟨%d3, H3⟩, ⟨%d4, H4⟩, ⟨%d5, H5⟩⟩
  iapply (body_rest c Set.univ (grid0.coords t) (fun h => h0 ((cond_iff t).mp h)) _ _ _ _ _ _ _ _ _ _ _ _ _ _ (iblk m c 0 t) (iblk m c 1 t) (X0_2 m c t) (iblk m c 3 t) (gates m c t) (normed m c t) _)
  isplitl [H0]; · iexact H0
  isplitl [H1]; · iexact H1
  isplitl [H2]; · iexact H2
  isplitl [H3]; · iexact H3
  isplitl [H4]; · iexists _; iexact H4
  isplitl [H5]; · iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iapply (leaves_gates m c t)
  iexact H5

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_first m c t h0
  · exact sound_rest m c t h0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

/-! ## The run -/

set_option backward.isDefEq.respectTransparency.types false in
set_option maxHeartbeats 800000 in
/-- Every run ends with every array at what the pipeline's data say and every counter at zero. -/
theorem run_counted : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_counted m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_counted m ρ))

end Cert.Kernel4Ideal.Stage

end
-- ==== Proof.Project.lean ====
/-
  The input projection: the rows' norm times the table, its last eight columns apart, by the kernel and by the reference.
-/
module

public import proofs.«01_k».proof.Proof.Stage
public import proofs.«01_k».proof.Proof.Norm
public import proofs.«01_k».proof.Proof.Final
public import proofs.«01_k».proof.Proof.Gen.Reference4Ideal.Run
public import Idealize.ShloMosaic.Lib.Pointwise
public import Idealize.ShloMosaic.Lib.KernelVsHost

@[expose] public section

set_option maxRecDepth 16384

noncomputable section

namespace Cert.Project

open Idealize.ShloMosaic Cert.Norm

section
variable (X : (⟨3, ![4, 2048, 2048]⟩ : Shape).Idx → EReal) (G : (⟨2, ![1, 2048]⟩ : Shape).Idx → EReal)
  (W : (⟨3, ![1, 2048, 7176]⟩ : Shape).Idx → EReal)

/-- An entry of the projection: the normalised row times a column of the table, the rows numbered through the batch. -/
def value (r : Fin 8192) (l : Fin 7176) : EReal :=
  ∑ k : Fin 2048, rms (fun k => X (ix3 ⟨r.val / 2048, by omega⟩ ⟨r.val % 2048, by omega⟩ k)) (fun k => G (ix2 0 k)) k * W (ix3 0 k l)

/-- An entry of the gates: the last eight columns, then zeros. -/
def gate (r : Fin 8192) (l : Fin 128) : EReal :=
  if h : l.val < 8 then value X G W r ⟨7168 + l.val, by omega⟩ else 0

end

end Cert.Project

namespace Cert.Kernel4Ideal.Rows

open Idealize.ShloMosaic Idealize.ShloMosaic.TcCoe Cert.Kernel4Ideal Cert.Kernel4Ideal.Gen Cert.Kernel4Ideal.Stage Idealize.SL.Sem Cert.Norm

section Body
variable (x0 : FVec Ideal S1024x2048 .f32) (x1 : FVec Ideal S1x2048 .f32) (x2 : FVec Ideal S2048x1792 .bf16)
  (x3 : FVec Ideal S2048x128 .bf16) (a : FVec Ideal S1024x2048 .bf16)

theorem norm_apply (r : Fin 1024) (k : Fin 2048) :
    k0_pay2 (F := Ideal) x0 x1 (ix2 r k) = rms (fun k => x0 (ix2 r k)) (fun k => x1 (ix2 0 k)) k := by
  pointwise [k0_pay2, k0_pay1]
  rfl

theorem product_apply (r : Fin 1024) (l : Fin 1792) :
    k0_pay4 (F := Ideal) a x2 (ix2 r l) = ∑ k : Fin 2048, a (ix2 r k) * x2 (ix2 k l) := by
  pointwise [k0_pay4]

theorem gates_apply (r : Fin 1024) (l : Fin 128) :
    k0_pay3 (F := Ideal) x0 x1 x3 (ix2 r l) =
      ∑ k : Fin 2048, rms (fun k => x0 (ix2 r k)) (fun k => x1 (ix2 0 k)) k * x3 (ix2 k l) := by
  pointwise [k0_pay3, k0_pay1]
  rfl

end Body

variable (m : (ℓ : Loc nD τ sig) → Buf (Elt Ideal) ℓ) (c : Dev nD) (t : Fin cfg0.N)

theorem lt_points : t.val < 32 := t.isLt

/-- Where each window's block lies, at every point. -/
theorem index_facts : ∀ t : Fin cfg0.N,
    (win0_0.index t (0 : Fin 2) = t.val / 4 ∧ win0_0.index t (1 : Fin 2) = 0) ∧
    (win0_1.index t (0 : Fin 2) = 0 ∧ win0_1.index t (1 : Fin 2) = 0) ∧
    (win0_2.index t (0 : Fin 2) = 0 ∧ win0_2.index t (1 : Fin 2) = t.val % 4) ∧
    (win0_3.index t (0 : Fin 2) = 0 ∧ win0_3.index t (1 : Fin 2) = 0) ∧
    (win0_4.index t (0 : Fin 2) = t.val / 4 ∧ win0_4.index t (1 : Fin 2) = t.val % 4) ∧
    (win0_5.index t (0 : Fin 2) = t.val / 4 ∧ win0_5.index t (1 : Fin 2) = 0) := by decide +kernel

/-- The row of the whole array that is row `r` of a point's block, and the column that is column `l`. -/
def row (r : Fin 1024) : Fin 8192 := ⟨1024 * (t.val / 4) + r.val, by have := lt_points t; omega⟩
def col (l : Fin 1792) : Fin 7168 := ⟨1792 * (t.val % 4) + l.val, by omega⟩
def tableCol (l : Fin 1792) : Fin 7176 := ⟨1792 * (t.val % 4) + l.val, by omega⟩

theorem place_0 (r : Fin 1024) (l : Fin 2048) : (win0_0.blk t).view.emb (ix2 r l) = ix2 (row t r) l := by
  have ht := lt_points t
  have e := (index_facts t).1
  funext a
  apply Fin.ext
  match a with
  | 0 =>
    show win0_0.index t 0 * 1024 + 1 * r.val = 1024 * (t.val / 4) + r.val
    rw [e.1]
    omega
  | 1 =>
    show win0_0.index t 1 * 2048 + 1 * l.val = l.val
    rw [e.2]
    omega

theorem place_1 (r : Fin 1) (l : Fin 2048) : (win0_1.blk t).view.emb (ix2 r l) = ix2 r l := by
  have ht := lt_points t
  have e := (index_facts t).2.1
  funext a
  apply Fin.ext
  match a with
  | 0 =>
    show win0_1.index t 0 * 1 + 1 * r.val = r.val
    rw [e.1]
    omega
  | 1 =>
    show win0_1.index t 1 * 2048 + 1 * l.val = l.val
    rw [e.2]
    omega

theorem place_3 (r : Fin 2048) (l : Fin 128) : (win0_3.blk t).view.emb (ix2 r l) = ix2 r l := by
  have ht := lt_points t
  have e := (index_facts t).2.2.2.1
  funext a
  apply Fin.ext
  match a with
  | 0 =>
    show win0_3.index t 0 * 2048 + 1 * r.val = r.val
    rw [e.1]
    omega
  | 1 =>
    show win0_3.index t 1 * 128 + 1 * l.val = l.val
    rw [e.2]
    omega

theorem place_4 (r : Fin 1024) (l : Fin 1792) : (win0_4.blk t).view.emb (ix2 r l) = ix2 (row t r) (col t l) := by
  have ht := lt_points t
  have e := (index_facts t).2.2.2.2.1
  funext a
  apply Fin.ext
  match a with
  | 0 =>
    show win0_4.index t 0 * 1024 + 1 * r.val = 1024 * (t.val / 4) + r.val
    rw [e.1]
    omega
  | 1 =>
    show win0_4.index t 1 * 1792 + 1 * l.val = 1792 * (t.val % 4) + l.val
    rw [e.2]
    omega

theorem place_5 (r : Fin 1024) (l : Fin 128) : (win0_5.blk t).view.emb (ix2 r l) = ix2 (row t r) l := by
  have ht := lt_points t
  have e := (index_facts t).2.2.2.2.2
  funext a
  apply Fin.ext
  match a with
  | 0 =>
    show win0_5.index t 0 * 1024 + 1 * r.val = 1024 * (t.val / 4) + r.val
    rw [e.1]
    omega
  | 1 =>
    show win0_5.index t 1 * 128 + 1 * l.val = l.val
    rw [e.2]
    omega

theorem row_first (r : Fin 1024) : row (first t) r = row t r := by
  apply Fin.ext
  show 1024 * (t.val / 4 * 4 / 4) + r.val = 1024 * (t.val / 4) + r.val
  omega

section Layout

theorem flat_apply (x : FVec Ideal S4x2048x2048 .f32) (r : Fin 8192) (l : Fin 2048) :
    shapeCast S8192x2048 x shapeCasts_S4x2048x2048_S8192x2048 (ix2 r l) =
      x (ix3 ⟨r.val / 2048, by omega⟩ ⟨r.val % 2048, by omega⟩ l) := by
  pointwise

theorem scale_apply (x : FVec Ideal S1x2048 .f32) (l : Fin 2048) :
    (shapeCast S1x2048 (shapeCast S2048 x shapeCasts_S1x2048_S2048) shapeCasts_S2048_S1x2048 : FVec Ideal S1x2048 .f32)
      (ix2 0 l) = x (ix2 0 l) := by
  pointwise

/-- The table, rounded. -/
def table (x : FVec Ideal S1x2048x7176 .f32) : FVec Ideal S2048x7176 .bf16 :=
  truncf .bf16 (shapeCast S2048x7176 x shapeCasts_S1x2048x7176_S2048x7176) bitsLt_bf16_f32

theorem table_apply (x : FVec Ideal S1x2048x7176 .f32) (k : Fin 2048) (l : Fin 7176) :
    table x (ix2 k l) = x (ix3 0 k l) := by
  pointwise [table]

/-- Its last eight columns, filled up with zeros to 128. -/
def gateTable (x : FVec Ideal S1x2048x7176 .f32) : FVec Ideal S2048x128 .bf16 :=
  pad S2048x128 ![0, 0] ![0, 120] ![0, 0] (extractStridedSlice S2048x8 ![0, 7168] (table x) slices_S2048x7176_S2048x8_0_7168)
    (sitofp .bf16 (constantI S_ 32 0#32) : FVec Ideal S_ .bf16) pads_S2048x8_S2048x128_000_01200 h_S_

theorem last_apply (x : FVec Ideal S2048x7176 .bf16) (k : Fin 2048) (l : Fin 8) :
    extractStridedSlice S2048x8 ![0, 7168] x slices_S2048x7176_S2048x8_0_7168 (ix2 k l) = x (ix2 k ⟨7168 + l.val, by omega⟩) := by
  pointwise

theorem gateTable_last (x : FVec Ideal S1x2048x7176 .f32) (k : Fin 2048) (l : Fin 128) (h : l.val < 8) :
    gateTable x (ix2 k l) = x (ix3 0 k ⟨7168 + l.val, by omega⟩) := by
  unfold gateTable
  rw [pad_apply_of_inside _ _ _ _ _ _ _ (ix2 k l) (ix2 (n0 := 2048) (n1 := 8) k ⟨l.val, h⟩) (by
    intro a
    match a with
    | 0 => show k.val = 0 + k.val * (0 + 1); omega
    | 1 => show l.val = 0 + l.val * (0 + 1); omega)]
  exact (last_apply _ k ⟨l.val, h⟩).trans (table_apply x k _)

theorem zero_apply (i : S_.Idx) : (sitofp .bf16 (constantI S_ 32 0#32) : FVec Ideal S_ .bf16) i = 0 := by
  pointwise
  show (((0#32 : BitVec 32).toInt : ℝ) : EReal) = 0
  simp

theorem gateTable_zero (x : FVec Ideal S1x2048x7176 .f32) (k : Fin 2048) (l : Fin 128) (h : ¬ l.val < 8) :
    gateTable x (ix2 k l) = 0 := by
  unfold gateTable
  rw [pad_apply_of_not_inside _ _ _ _ _ _ _ (ix2 k l) (1 : Fin 2) (by
    rintro ⟨-, -, h'⟩
    have h'' : (l.val - 0) / (0 + 1) < 8 := h'
    omega)]
  exact zero_apply _

end Layout

theorem V_rows : V m c main_v0 = (shapeCast S8192x2048 (m ((c : Thread nD τ).loc main_arg0))
    shapeCasts_S4x2048x2048_S8192x2048 : FVec Ideal S8192x2048 .f32) := by
  show StableHlo.after (List.flatten [hostOps0, hostOps0_1, hostOps0_2]) (fun b => m (c, b)) (Proc.tc.devRef main_v0) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  rfl

theorem V_scale : V m c main_v6 = (shapeCast S1x2048 (shapeCast S2048 (m ((c : Thread nD τ).loc main_arg1))
    shapeCasts_S1x2048_S2048) shapeCasts_S2048_S1x2048 : FVec Ideal S1x2048 .f32) := by
  show StableHlo.after (List.flatten [hostOps0, hostOps0_1, hostOps0_2]) (fun b => m (c, b)) (Proc.tc.devRef main_v6) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  rfl

theorem V_table : V m c main_v2 = table (m ((c : Thread nD τ).loc main_arg2)) := by
  show StableHlo.after (List.flatten [hostOps0, hostOps0_1, hostOps0_2]) (fun b => m (c, b)) (Proc.tc.devRef main_v2) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  rfl

theorem V_gateTable : V m c main_v4 = gateTable (m ((c : Thread nD τ).loc main_arg2)) := by
  show StableHlo.after (List.flatten [hostOps0, hostOps0_1, hostOps0_2]) (fun b => m (c, b)) (Proc.tc.devRef main_v4) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  rfl

theorem x_at (r : Fin 1024) (l : Fin 2048) : iblk m c 0 t (ix2 r l) = m ((c : Thread nD τ).loc main_arg0)
    (ix3 ⟨(row t r).val / 2048, by omega⟩ ⟨(row t r).val % 2048, by omega⟩ l) :=
  (congrArg (V m c main_v0) (place_0 t r l)).trans ((congrFun (V_rows m c) _).trans (flat_apply _ (row t r) l))

theorem g_at (l : Fin 2048) : iblk m c 1 t (ix2 0 l) = m ((c : Thread nD τ).loc main_arg1) (ix2 0 l) :=
  (congrArg (V m c main_v6) (place_1 t 0 l)).trans ((congrFun (V_scale m c) _).trans (scale_apply _ l))

theorem wg_at (k : Fin 2048) (l : Fin 128) : iblk m c 3 t (ix2 k l) = gateTable (m ((c : Thread nD τ).loc main_arg2)) (ix2 k l) :=
  (congrArg (V m c main_v4) (place_3 t k l)).trans (congrFun (V_gateTable m c) _)

/-- The table's block at a point: all of it lies inside the table. -/
theorem w_at (k : Fin 2048) (l : Fin 1792) :
    X0_2 m c t (ix2 k l) = m ((c : Thread nD τ).loc main_arg2) (ix3 0 k (tableCol t l)) := by
  have e := (index_facts t).2.2.1
  let i : ((cfg0.win 2).xblock (cfg0.grid.coords t)).Idx := fun a =>
    ⟨((ix2 k l : (cfg0.win 2).block.Idx) a).val, lt_of_lt_of_eq ((ix2 k l : (cfg0.win 2).block.Idx) a).isLt (xsize0_2 t a).symm⟩
  have hi : (cfg0.win 2).xinj (cfg0.grid.coords t) i = (ix2 k l : (cfg0.win 2).block.Idx) := rfl
  have hp : (win0_2.blk t).view.emb i = (ix2 k (tableCol t l) : S2048x7176.Idx) := by
    funext a
    apply Fin.ext
    match a with
    | 0 =>
      show win0_2.index t 0 * 2048 + 1 * k.val = k.val
      rw [e.1]
      omega
    | 1 =>
      show win0_2.index t 1 * 1792 + 1 * l.val = 1792 * (t.val % 4) + l.val
      rw [e.2]
      omega
  unfold X0_2
  rw [← hi, Pipeline.Window.fill_xinj]
  exact (congrArg (V m c main_v2) hp).trans ((congrFun (V_table m c) _).trans (table_apply _ k _))

/-- A row block's normalised rows. -/
theorem normed_at (r : Fin 1024) (k : Fin 2048) : normed m c t (ix2 r k) =
    rms (fun k => m ((c : Thread nD τ).loc main_arg0) (ix3 ⟨(row t r).val / 2048, by omega⟩ ⟨(row t r).val % 2048, by omega⟩ k))
      (fun k => m ((c : Thread nD τ).loc main_arg1) (ix2 0 k)) k := by
  unfold normed
  refine (norm_apply _ _ r k).trans ?_
  simp only [x_at, g_at, row_first]

/-- The two whole results. -/
def whole : Buf (Elt Ideal) ((c : Thread nD τ).loc main_v7_0) := fun i =>
  Cert.Project.value (m ((c : Thread nD τ).loc main_arg0)) (m ((c : Thread nD τ).loc main_arg1))
    (m ((c : Thread nD τ).loc main_arg2)) (i 0) ⟨(i 1 : Fin 7168).val, Nat.lt_trans (i 1 : Fin 7168).isLt (show 7168 < 7176 by omega)⟩
def wholeGates : Buf (Elt Ideal) ((c : Thread nD τ).loc main_v7_1) := fun i =>
  Cert.Project.gate (m ((c : Thread nD τ).loc main_arg0)) (m ((c : Thread nD τ).loc main_arg1))
    (m ((c : Thread nD τ).loc main_arg2)) (i 0) (i 1)

/-- A point writes back its block of the projection. -/
theorem written : (dats m 0 c).flushed 4 t = (win0_4.blk t).view.read (Elt Ideal) (whole m c) := by
  show (cfg0.win 4).cut (grid0.coords t) ((dats m 0 c).after 4 t) = _
  rw [after0_4]
  funext j
  rw [eq_ix2 (n0 := 1024) (n1 := 1792) j]
  generalize (j 0 : Fin 1024) = r
  generalize (j 1 : Fin 1792) = l
  change Fin 1024 at r
  change Fin 1792 at l
  refine (product_apply _ _ r l).trans ?_
  refine Eq.trans ?_ (congrArg (whole m c) (place_4 t r l)).symm
  show _ = Cert.Project.value _ _ _ (row t r) (tableCol t l)
  unfold Cert.Project.value
  exact Finset.sum_congr rfl fun k _ => congrArg₂ (· * ·) (normed_at m c t r k) (w_at m c t k l)

/-- A row block's gates. -/
theorem gates_at (r : Fin 1024) (l : Fin 128) : gates m c t (ix2 r l) = Cert.Project.gate (m ((c : Thread nD τ).loc main_arg0))
    (m ((c : Thread nD τ).loc main_arg1)) (m ((c : Thread nD τ).loc main_arg2)) (row t r) l := by
  unfold gates
  refine (gates_apply _ _ _ r l).trans ?_
  simp only [x_at, g_at, row_first, wg_at]
  unfold Cert.Project.gate
  by_cases h : l.val < 8
  · rw [dif_pos h]
    unfold Cert.Project.value
    exact Finset.sum_congr rfl fun k _ => congrArg _ (gateTable_last _ k l h)
  · rw [dif_neg h]
    exact Finset.sum_eq_zero fun k _ => (congrArg _ (gateTable_zero _ k l h)).trans (mul_zero _)

/-- A point that writes the gates back writes its block of them. -/
theorem written_gates : (dats m 0 c).flushed 5 t = (win0_5.blk t).view.read (Elt Ideal) (wholeGates m c) := by
  show (cfg0.win 5).cut (grid0.coords t) ((dats m 0 c).after 5 t) = _
  rw [after0_5]
  funext j
  rw [eq_ix2 (n0 := 1024) (n1 := 128) j]
  generalize (j 0 : Fin 1024) = r
  generalize (j 1 : Fin 128) = l
  change Fin 1024 at r
  change Fin 128 at l
  exact (gates_at m c t r l).trans (congrArg (wholeGates m c) (place_5 t r l)).symm

/-- Every entry of the projection lies in some point's block. -/
theorem covered (i : S8192x7168.Idx) : ∃ t : Fin cfg0.N, i ∈ (win0_4.blk t).view.set := by
  have h0 : (i 0).val < 8192 := (i 0).isLt
  have h1 : (i 1).val < 7168 := (i 1).isLt
  have hN : (i 0).val / 1024 * 4 + (i 1).val / 1792 < cfg0.N := by show _ < 32; omega
  refine ⟨⟨(i 0).val / 1024 * 4 + (i 1).val / 1792, hN⟩, ?_⟩
  have e : (win0_4.blk ⟨(i 0).val / 1024 * 4 + (i 1).val / 1792, hN⟩).view.emb
      (ix2 (⟨(i 0).val % 1024, by omega⟩ : Fin 1024) (⟨(i 1).val % 1792, by omega⟩ : Fin 1792)) = i := by
    refine (place_4 ⟨(i 0).val / 1024 * 4 + (i 1).val / 1792, hN⟩ _ _).trans ?_
    funext a
    apply Fin.ext
    match a with
    | 0 =>
      show 1024 * (((i 0).val / 1024 * 4 + (i 1).val / 1792) / 4) + (i 0).val % 1024 = (i 0).val
      omega
    | 1 =>
      show 1792 * (((i 0).val / 1024 * 4 + (i 1).val / 1792) % 4) + (i 1).val % 1792 = (i 1).val
      omega
  have h := View.emb_mem_set (win0_4.blk ⟨(i 0).val / 1024 * 4 + (i 1).val / 1792, hN⟩).view
    (ix2 (⟨(i 0).val % 1024, by omega⟩ : Fin 1024) (⟨(i 1).val % 1792, by omega⟩ : Fin 1792))
  rw [e] at h
  exact h

/-- Every row of the gates lies in the block of some row block's last point. -/
theorem covered_gates (i : S8192x128.Idx) : ∃ t : Fin cfg0.N, t.val % 4 = 3 ∧ i ∈ (win0_5.blk t).view.set := by
  have h0 : (i 0).val < 8192 := (i 0).isLt
  have hN : (i 0).val / 1024 * 4 + 3 < cfg0.N := by show _ < 32; omega
  refine ⟨⟨(i 0).val / 1024 * 4 + 3, hN⟩, by show ((i 0).val / 1024 * 4 + 3) % 4 = 3; omega, ?_⟩
  have e : (win0_5.blk ⟨(i 0).val / 1024 * 4 + 3, hN⟩).view.emb
      (ix2 (⟨(i 0).val % 1024, by omega⟩ : Fin 1024) (i 1 : Fin 128)) = i := by
    refine (place_5 ⟨(i 0).val / 1024 * 4 + 3, hN⟩ _ _).trans ?_
    funext a
    apply Fin.ext
    match a with
    | 0 =>
      show 1024 * (((i 0).val / 1024 * 4 + 3) / 4) + (i 0).val % 1024 = (i 0).val
      omega
    | 1 => rfl
  have h := View.emb_mem_set (win0_5.blk ⟨(i 0).val / 1024 * 4 + 3, hN⟩).view
    (ix2 (⟨(i 0).val % 1024, by omega⟩ : Fin 1024) (i 1 : Fin 128))
  rw [e] at h
  exact h

/-- The two result arrays after the run. -/
theorem final : (dats m 0 c).arrAt 4 cfg0.N = whole m c :=
  (dats m 0 c).arrAt_eq_of_cover 4 _ (fun t _ => written m c t) fun i =>
    let ⟨t, h⟩ := covered i
    ⟨t, flush0_4 t, h⟩
theorem final_gates : (dats m 0 c).arrAt 5 cfg0.N = wholeGates m c :=
  (dats m 0 c).arrAt_eq_of_cover 5 _ (fun t _ => written_gates m c t) fun i =>
    let ⟨t, h3, h⟩ := covered_gates i
    ⟨t, (flush0_5 t).mpr h3, h⟩

/-- Every run ends with the two results and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v7_0) = whole m c
      ∧ r.2.mem ((c.tc : Thread nD τ).loc main_v7_1) = wholeGates m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 4).trans (final m c), ((h.1 c).1 5).trans (final_gates m c), h.2.1 c⟩)
    (θ_run_and (run_main m ρ) (Cert.Kernel4Ideal.Stage.frame m ρ))

end Cert.Kernel4Ideal.Rows

namespace Cert.Reference4Ideal.Rows

open Idealize.ShloMosaic Idealize.ShloMosaic.TcCoe Cert.Reference4Ideal Cert.Reference4Ideal.Gen Cert.Norm

section
variable (X : FVec Ideal S4x2048x2048 .f32) (G : FVec Ideal S1x2048 .f32) (W : FVec Ideal S1x2048x7176 .f32)

theorem scale_apply (l : Fin 2048) : shapeCast S2048 G shapeCasts_S1x2048_S2048 (ix1 l) = G (ix2 0 l) := by
  pointwise

/-- The projection, as the reference takes it. -/
def proj : FVec Ideal S8192x7176 .f32 :=
  shapeCast S8192x7176 (Host.dotGeneral dot_S4x2048x2048_S2048x7176_S4x2048x7176_2_0_01_1_n_n none
    (Cert.Reference2Ideal.Rows.norm X (shapeCast S2048 G shapeCasts_S1x2048_S2048))
    (shapeCast S2048x7176 W shapeCasts_S1x2048x7176_S2048x7176)) shapeCasts_S4x2048x7176_S8192x7176

theorem proj_apply (r : Fin 8192) (l : Fin 7176) : proj X G W (ix2 r l) = Cert.Project.value X G W r l := by
  pointwise [proj]
  simp only [Cert.Reference2Ideal.Rows.norm_apply]
  unfold Cert.Project.value
  refine Finset.sum_congr rfl fun k _ => ?_
  have e : (fun k => shapeCast S2048 G shapeCasts_S1x2048_S2048 (ix1 k)) = _ := funext fun k => scale_apply G k
  rw [e]

theorem cols_apply (P : FVec Ideal S8192x7176 .f32) (r : Fin 8192) (l : Fin 7168) :
    extractStridedSlice S8192x7168 ![0, 0] P slices_S8192x7176_S8192x7168_0_0 (ix2 r l) = P (ix2 r ⟨l.val, by omega⟩) := by
  pointwise

theorem last_apply (P : FVec Ideal S8192x7176 .f32) (r : Fin 8192) (l : Fin 8) :
    extractStridedSlice S8192x8 ![0, 7168] P slices_S8192x7176_S8192x8_0_7168 (ix2 r l) = P (ix2 r ⟨7168 + l.val, by omega⟩) := by
  pointwise

theorem zero_apply (i : S_.Idx) : (sitofp .f32 (constantI S_ 32 0#32) : FVec Ideal S_ .f32) i = 0 := by
  pointwise
  show (((0#32 : BitVec 32).toInt : ℝ) : EReal) = 0
  simp

/-- The first result is the projection's columns but the last eight. -/
theorem result (r : Fin 8192) (l : Fin 7168) :
    extractStridedSlice S8192x7168 ![0, 0] (proj X G W) slices_S8192x7176_S8192x7168_0_0 (ix2 r l) =
      Cert.Project.value X G W r ⟨l.val, by omega⟩ :=
  (cols_apply _ r l).trans (proj_apply X G W r _)

/-- The second is the last eight, filled up with zeros. -/
theorem result_gates (r : Fin 8192) (l : Fin 128) :
    pad S8192x128 ![0, 0] ![0, 120] ![0, 0] (extractStridedSlice S8192x8 ![0, 7168] (proj X G W) slices_S8192x7176_S8192x8_0_7168)
      (sitofp .f32 (constantI S_ 32 0#32) : FVec Ideal S_ .f32) pads_S8192x8_S8192x128_000_01200 h_S_ (ix2 r l) =
      Cert.Project.gate X G W r l := by
  unfold Cert.Project.gate
  by_cases h : l.val < 8
  · rw [dif_pos h, pad_apply_of_inside _ _ _ _ _ _ _ (ix2 r l) (ix2 (n0 := 8192) (n1 := 8) r ⟨l.val, h⟩) (by
      intro a
      match a with
      | 0 => show r.val = 0 + r.val * (0 + 1); omega
      | 1 => show l.val = 0 + l.val * (0 + 1); omega)]
    exact (last_apply _ r ⟨l.val, h⟩).trans (proj_apply X G W r _)
  · rw [dif_neg h, pad_apply_of_not_inside _ _ _ _ _ _ _ (ix2 r l) (1 : Fin 2) (by
      rintro ⟨-, -, h'⟩
      have h'' : (l.val - 0) / (0 + 1) < 8 := h'
      omega)]
    exact zero_apply _

end

end Cert.Reference4Ideal.Rows

end
-- ==== Proof.lean ====
/-
  The claims about the layer's token mixer, its two projections, its experts and its last call, put together.
-/
module

public import proofs.«01_k».proof.Defs
public import proofs.«01_k».proof.Proof.Mix
public import proofs.«01_k».proof.Proof.Gen.Kernel
public import proofs.«01_k».proof.Proof.Gen.KernelIdeal
public import proofs.«01_k».proof.Proof.Gen.ReferenceIdeal
public import proofs.«01_k».proof.Proof.Gen.Kernel.Frame
public import proofs.«01_k».proof.Proof.Gen.KernelIdeal.Frame
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gather
public import proofs.«01_k».proof.Proof.Residual
public import proofs.«01_k».proof.Proof.Final
public import proofs.«01_k».proof.Proof.Project
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run

@[expose] public section

noncomputable section

namespace Cert.Proof

open Idealize.ShloMosaic Idealize.SL.Sem

/-- The mixer's call and the reference end with the same five arrays. -/
theorem algebraic : Cert.algebraic_KernelIdeal_ReferenceIdeal := by
  intro m g m' g' _ hagree
  refine ⟨fun c => Cert.KernelIdeal.Value.G17 m c, fun c => Cert.KernelIdeal.Value.G18 m c,
    fun c => Cert.KernelIdeal.Value.G19 m c, fun c => Cert.KernelIdeal.Value.G20 m c,
    fun c => Cert.KernelIdeal.Value.G21 m c, Cert.KernelIdeal.Value.run m g,
    (θ_run Cert.ReferenceIdeal.defs _ _).mono (fun r h c => ?_) (Cert.ReferenceIdeal.Trips.run m' g')⟩
  obtain ⟨h0, h1, h2, h3, h4, h5, h6, h7, h8⟩ := hagree c
  obtain ⟨e0, e1, e2, e3, e4, hargs⟩ := h c
  exact ⟨e0.trans (equal_rows m m' c h0 h1 h2 h3 h4), e1.trans (equal_experts m m' c h5),
    e2.trans (equal_out m m' c h6), e3.trans (equal_queries m m' c h7), e4.trans (equal_gate m m' c h8), hargs⟩

/-- The reference keeps its arguments and leaves every counter at zero. -/
theorem frame_reference2 (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0 :=
  (θ_run Cert.Reference2Ideal.defs _ _).mono (fun r h => ⟨fun c => (h c).2, sem_eq_zero_of_no_sems (by decide) r.2⟩)
    (Cert.Reference2Ideal.Value.run m ρ)

/-- The reference keeps its arguments and leaves every counter at zero. -/
theorem frame_reference3 (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0 :=
  (θ_run Cert.Reference3Ideal.defs _ _).mono (fun r h => ⟨fun c => (h c).2, sem_eq_zero_of_no_sems (by decide) r.2⟩)
    (Cert.Reference3Ideal.Value.run m ρ)

/-- The last call and the reference end with the same array. -/
theorem algebraic_final : Cert.algebraic_Kernel2Ideal_Reference2Ideal := by
  intro m g m' g' _ hagree
  refine ⟨fun c => Cert.Kernel2Ideal.Rows.whole m c,
    (θ_run Cert.Kernel2Ideal.defs _ _).mono (fun r h c => ⟨(h c).1.trans (Cert.Kernel2Ideal.Rows.final m c), (h c).2⟩)
      (Cert.Kernel2Ideal.Value.run_blocks m g),
    (θ_run Cert.Reference2Ideal.defs _ _).mono (fun r h c => ⟨(h c).1.trans ?_, (h c).2⟩) (Cert.Reference2Ideal.Value.run m' g')⟩
  obtain ⟨h0, h1, h2, h3, h4, h5, h6⟩ := hagree c
  refine ext2 (n0 := 8192) (n1 := 2048) fun r l => (Cert.Reference2Ideal.Rows.result m' c r l).trans ?_
  rw [h0, h1, h2, h3, h4, h5, h6]
  rfl

/-- The output projection and the reference end with the same array. -/
theorem algebraic_residual : Cert.algebraic_Kernel3Ideal_Reference3Ideal := by
  intro m g m' g' _ hagree
  refine ⟨fun c => Cert.Kernel3Ideal.Rows.whole m c,
    (θ_run Cert.Kernel3Ideal.defs _ _).mono (fun r h c => ⟨(h c).1.trans (Cert.Kernel3Ideal.Rows.final m c), (h c).2⟩)
      (Cert.Kernel3Ideal.Value.run_blocks m g),
    (θ_run Cert.Reference3Ideal.defs _ _).mono (fun r h c => ⟨(h c).1.trans ?_, (h c).2⟩) (Cert.Reference3Ideal.Value.run m' g')⟩
  obtain ⟨h0, h1, h2⟩ := hagree c
  refine ext2 (n0 := 8192) (n1 := 2048) fun r l => (Cert.Reference3Ideal.Rows.result _ _ _ r l).trans ?_
  rw [h0, h1, h2]
  rfl

/-- The input projection's body is the same text in the program and in its ideal form. -/
theorem bodies_project : Cert.Kernel4.defs₀ (F := Bits) = Cert.Kernel4Ideal.defs₀ (F := Bits) := by
  unfold Cert.Kernel4.defs₀ Cert.Kernel4Ideal.defs₀
  refine congrArg Defs.onTc ?_
  funext l a
  obtain ⟨l, hl⟩ := l
  obtain rfl : l = 0 := Nat.lt_one_iff.mp hl
  rfl

theorem defs_project : Cert.Kernel4.defs (F := Bits) = Cert.Kernel4Ideal.defs (F := Bits) :=
  congrArg (Idealize.ShloMosaic.Pipeline.defs (Cert.Kernel4.pcfgs (F := Bits))) bodies_project

/-- The input projection's call, at the kernel's own numbers. -/
theorem frame_kernel4 : Cert.quiescent_Kernel4 := fun m ρ _ => by
  rw [defs_project]
  exact (θ_run Cert.Kernel4Ideal.defs _ _).mono (fun _ h => h) (Cert.Kernel4Ideal.Stage.frame (F := Bits) m ρ)

/-- The reference keeps its arguments and leaves every counter at zero. -/
theorem frame_reference4 (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0 :=
  (θ_run Cert.Reference4Ideal.defs _ _).mono (fun r h => ⟨fun c => (h c).2.2, sem_eq_zero_of_no_sems (by decide) r.2⟩)
    (Cert.Reference4Ideal.Value.run m ρ)

/-- The input projection and the reference end with the same two arrays. -/
theorem algebraic_project : Cert.algebraic_Kernel4Ideal_Reference4Ideal := by
  intro m g m' g' _ hagree
  refine ⟨fun c => Cert.Kernel4Ideal.Rows.whole m c, fun c => Cert.Kernel4Ideal.Rows.wholeGates m c,
    Cert.Kernel4Ideal.Rows.run m g,
    (θ_run Cert.Reference4Ideal.defs _ _).mono (fun r h c => ⟨(h c).1.trans ?_, (h c).2.1.trans ?_, (h c).2.2⟩)
      (Cert.Reference4Ideal.Value.run m' g')⟩
  · obtain ⟨h0, h1, h2⟩ := hagree c
    refine ext2 (n0 := 8192) (n1 := 7168) fun r l => (Cert.Reference4Ideal.Rows.result _ _ _ r l).trans ?_
    rw [h0, h1, h2]
    rfl
  · obtain ⟨h0, h1, h2⟩ := hagree c
    refine ext2 (n0 := 8192) (n1 := 128) fun r l => (Cert.Reference4Ideal.Rows.result_gates _ _ _ r l).trans ?_
    rw [h0, h1, h2]
    rfl

/-- The reference keeps its arguments and leaves every counter at zero. -/
theorem frame_reference5 (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩
      fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0 :=
  (θ_run Cert.Reference5Ideal.defs _ _).mono (fun r h => ⟨fun c => (h c).2, sem_eq_zero_of_no_sems (by decide) r.2⟩)
    (Cert.Reference5Ideal.Value.run m ρ)

/-- The experts and the reference end with the same array. -/
theorem algebraic_experts : Cert.algebraic_Kernel5Ideal_Reference5Ideal := by
  intro m g m' g' _ hagree
  refine ⟨fun c => Cert.Kernel5Ideal.Experts.whole m c,
    (θ_run Cert.Kernel5Ideal.defs _ _).mono (fun r h c => ⟨(h c).1.trans (Cert.Kernel5Ideal.Experts.final m c), (h c).2⟩)
      (Cert.Kernel5Ideal.Value.run_blocks m g),
    (θ_run Cert.Reference5Ideal.defs _ _).mono (fun r h c => ⟨(h c).1.trans ?_, (h c).2⟩) (Cert.Reference5Ideal.Value.run m' g')⟩
  obtain ⟨h0, h1, h2, h3, h4, h5, h6⟩ := hagree c
  refine ext2 (n0 := 8192) (n1 := 2048) fun r l => (Cert.Reference5Ideal.result_apply _ _ _ _ _ _ _ r l).trans ?_
  rw [h0, h1, h2, h3, h4, h5, h6]
  rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    fun m ρ _ => Cert.Kernel.Gen.frame m ρ, fun m ρ _ => Cert.KernelIdeal.Gen.frame m ρ, fun m ρ _ => frame_reference m ρ,
    fun m ρ _ => Cert.Kernel2.Gen.frame m ρ, fun m ρ _ => Cert.Kernel2Ideal.Gen.frame m ρ, fun m ρ _ => frame_reference2 m ρ,
    fun m ρ _ => Cert.Kernel3.Gen.frame m ρ, fun m ρ _ => Cert.Kernel3Ideal.Gen.frame m ρ, fun m ρ _ => frame_reference3 m ρ,
    frame_kernel4, fun m ρ _ => Cert.Kernel4Ideal.Stage.frame m ρ, fun m ρ _ => frame_reference4 m ρ,
    fun m ρ _ => Cert.Kernel5.Gen.frame m ρ, fun m ρ _ => Cert.Kernel5Ideal.Gen.frame m ρ, fun m ρ _ => frame_reference5 m ρ,
    trivial, algebraic, trivial, algebraic_final, trivial, algebraic_residual, trivial, algebraic_project, trivial, algebraic_experts⟩

end Cert.Proof

end
